-- ==== Defs.lean ====
def Pre_Kernel [hPre_pos_in_range : Cert.Pre_pos_in_range.Facts] (m : (ℓ : Loc Cert.Kernel.nD Cert.Kernel.τ Cert.Kernel.sig) → Buf (Elt Bits) ℓ) : Prop :=
  ∀ c : Dev Cert.Kernel.nD,
    (Cert.Pre_pos_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pos_in_range : Cert.Pre_pos_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_pos_in_range : Cert.Pre_pos_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_slots_in_range : Cert.Pre_slots_in_range.Facts] (m : (ℓ : Loc Cert.Kernel2.nD Cert.Kernel2.τ Cert.Kernel2.sig) → Buf (Elt Bits) ℓ) : Prop :=
  ∀ c : Dev Cert.Kernel2.nD,
    (Cert.Pre_slots_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_slots_in_range : Cert.Pre_slots_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_slots_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal [hPre_slots_in_range : Cert.Pre_slots_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_slots_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_weights_in_range [hPre_weights_in_range : Cert.Pre_weights_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_weights_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_weights_in_range [hPre_weights_in_range : Cert.Pre_weights_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_weights_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_pos_in_range : Cert.Pre_pos_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pos_in_range : Cert.Pre_pos_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_pos_in_range : Cert.Pre_pos_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_slots_in_range : Cert.Pre_slots_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_slots_in_range : Cert.Pre_slots_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] [hPre_slots_in_range : Cert.Pre_slots_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_weights_in_range [hKernel3Ideal : Cert.Kernel3Ideal.Facts] [hPre_weights_in_range : Cert.Pre_weights_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_weights_in_range m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_weights_in_range [hReference3Ideal : Cert.Reference3Ideal.Facts] [hPre_weights_in_range : Cert.Pre_weights_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_weights_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23)
      ∧ r.2.mem ((c.tc : Thread Cert.Kernel4.nD Cert.Kernel4.τ).loc Cert.Kernel4.main_arg24) = m ((c.tc : Thread Cert.Kernel4.nD Cert.Kernel4.τ).loc Cert.Kernel4.main_arg24))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
      ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23)
      ∧ r.2.mem ((c.tc : Thread Cert.Reference4Ideal.nD Cert.Reference4Ideal.τ).loc Cert.Reference4Ideal.main_arg24) = m ((c.tc : Thread Cert.Reference4Ideal.nD Cert.Reference4Ideal.τ).loc Cert.Reference4Ideal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_range : Cert.Pre_pos_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.bf16_pair.BufferStatement Cert.Kernel2Ideal.S18432x2x512 Cert.Kernel2Ideal.S18432x1x512
  ∧ IdealRules.bf16_pair.BufferStatement Cert.Kernel2Ideal.S512x2x512 Cert.Kernel2Ideal.S512x1x512
  ∧ IdealRules.bf16_pair.PackStatement Cert.Kernel2Ideal.S512x512
  ∧ IdealRules.bf16_pair.Statement Cert.Kernel2Ideal.S512x2x512 Cert.Kernel2Ideal.S512x1x512
  ∧ IdealRules.bf16_pair.BufferStatement Cert.Kernel2Ideal.S1024x2x512 Cert.Kernel2Ideal.S1024x1x512
  ∧ IdealRules.bf16_pair.Statement Cert.Kernel2Ideal.S1x2x512 Cert.Kernel2Ideal.S1x1x512
  ∧ IdealRules.bf16_pair.Statement Cert.Kernel2Ideal.S1024x2x512 Cert.Kernel2Ideal.S1024x1x512
  ∧ IdealRules.bf16_pair.Statement Cert.Kernel2Ideal.S2048x512 Cert.Kernel2Ideal.S1024x512

def algebraic_Kernel2Ideal_Reference2Ideal [hKernel2Ideal : Cert.Kernel2Ideal.Facts] [hReference2Ideal : Cert.Reference2Ideal.Facts] [hPre_slots_in_range : Cert.Pre_slots_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_weights_in_range [hKernel3Ideal : Cert.Kernel3Ideal.Facts] [hReference3Ideal : Cert.Reference3Ideal.Facts] [hPre_weights_in_range : Cert.Pre_weights_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_weights_in_range m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)
      ∧ m' ((c.tc : Thread Cert.Reference4Ideal.nD Cert.Reference4Ideal.τ).loc Cert.Reference4Ideal.main_arg24) = m ((c.tc : Thread Cert.Kernel4Ideal.nD Cert.Kernel4Ideal.τ).loc Cert.Kernel4Ideal.main_arg24)) →
    ∃ (v0 : (c : Dev Cert.Kernel4Ideal.nD) → Buf (Elt Ideal) ((c.tc : Thread Cert.Kernel4Ideal.nD Cert.Kernel4Ideal.τ).loc Cert.Kernel4Ideal.main_v109_3)) (v1 : (c : Dev Cert.Kernel4Ideal.nD) → Buf (Elt Ideal) ((c.tc : Thread Cert.Kernel4Ideal.nD Cert.Kernel4Ideal.τ).loc Cert.Kernel4Ideal.main_v112)) (v2 : (c : Dev Cert.Kernel4Ideal.nD) → Buf (Elt Ideal) ((c.tc : Thread Cert.Kernel4Ideal.nD Cert.Kernel4Ideal.τ).loc Cert.Kernel4Ideal.main_v115)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v109_3) = v0 c
          ∧ r.2.mem ((c.tc : Thread Cert.Kernel4Ideal.nD Cert.Kernel4Ideal.τ).loc Cert.Kernel4Ideal.main_v112) = v1 c
          ∧ r.2.mem ((c.tc : Thread Cert.Kernel4Ideal.nD Cert.Kernel4Ideal.τ).loc Cert.Kernel4Ideal.main_v115) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23)
          ∧ r.2.mem ((c.tc : Thread Cert.Kernel4Ideal.nD Cert.Kernel4Ideal.τ).loc Cert.Kernel4Ideal.main_arg24) = m ((c.tc : Thread Cert.Kernel4Ideal.nD Cert.Kernel4Ideal.τ).loc Cert.Kernel4Ideal.main_arg24))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_v27) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23)
          ∧ r.2.mem ((c.tc : Thread Cert.Reference4Ideal.nD Cert.Reference4Ideal.τ).loc Cert.Reference4Ideal.main_arg24) = m' ((c.tc : Thread Cert.Reference4Ideal.nD Cert.Reference4Ideal.τ).loc Cert.Reference4Ideal.main_arg24))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_pos_in_range : Cert.Pre_pos_in_range.Facts) (hPre_slots_in_range : Cert.Pre_slots_in_range.Facts) (hPre_weights_in_range : Cert.Pre_weights_in_range.Facts),
    quiescent_Kernel (hKernel := hKernel) (hPre_pos_in_range := hPre_pos_in_range)
    ∧ quiescent_KernelIdeal (hKernelIdeal := hKernelIdeal) (hPre_pos_in_range := hPre_pos_in_range)
    ∧ quiescent_ReferenceIdeal (hReferenceIdeal := hReferenceIdeal) (hPre_pos_in_range := hPre_pos_in_range)
    ∧ quiescent_Kernel2 (hKernel2 := hKernel2) (hPre_slots_in_range := hPre_slots_in_range)
    ∧ quiescent_Kernel2Ideal (hKernel2Ideal := hKernel2Ideal) (hPre_slots_in_range := hPre_slots_in_range)
    ∧ quiescent_Reference2Ideal (hReference2Ideal := hReference2Ideal) (hPre_slots_in_range := hPre_slots_in_range)
    ∧ quiescent_Kernel3 (hKernel3 := hKernel3)
    ∧ quiescent_Kernel3Ideal (hKernel3Ideal := hKernel3Ideal)
    ∧ quiescent_Kernel3Ideal_pre_weights_in_range (hKernel3Ideal := hKernel3Ideal) (hPre_weights_in_range := hPre_weights_in_range)
    ∧ quiescent_Reference3Ideal (hReference3Ideal := hReference3Ideal)
    ∧ quiescent_Reference3Ideal_pre_weights_in_range (hReference3Ideal := hReference3Ideal) (hPre_weights_in_range := hPre_weights_in_range)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_pos_in_range := hPre_pos_in_range)
    ∧ preserves_Kernel2_Kernel2Ideal
    ∧ algebraic_Kernel2Ideal_Reference2Ideal (hKernel2Ideal := hKernel2Ideal) (hReference2Ideal := hReference2Ideal) (hPre_slots_in_range := hPre_slots_in_range)
    ∧ preserves_Kernel3_Kernel3Ideal
    ∧ algebraic_Kernel3Ideal_Reference3Ideal_pre_weights_in_range (hKernel3Ideal := hKernel3Ideal) (hReference3Ideal := hReference3Ideal) (hPre_weights_in_range := hPre_weights_in_range)
    ∧ preserves_Kernel4_Kernel4Ideal
    ∧ algebraic_Kernel4Ideal_Reference4Ideal (hKernel4Ideal := hKernel4Ideal) (hReference4Ideal := hReference4Ideal)
-- ==== Pre_pos_in_range.lean ====
abbrev S16384 : Shape := ⟨1, ![16384]⟩
abbrev S18432x512 : Shape := ⟨2, ![18432, 512]⟩
abbrev S16384x1024 : Shape := ⟨2, ![16384, 1024]⟩
abbrev S1024 : Shape := ⟨1, ![1024]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S18432x512 32) (main_arg2 : FVec F S16384x1024 .f32) (main_arg3 : FVec F S1024 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 18432#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Pre_slots_in_range.lean ====
abbrev S16384 : Shape := ⟨1, ![16384]⟩
abbrev S36 : Shape := ⟨1, ![36]⟩
abbrev S18432x512 : Shape := ⟨2, ![18432, 512]⟩
abbrev S18432x128 : Shape := ⟨2, ![18432, 128]⟩
abbrev S32x1024x256 : Shape := ⟨3, ![32, 1024, 256]⟩
abbrev S32x256x1024 : Shape := ⟨3, ![32, 256, 1024]⟩
abbrev S16384x1024 : Shape := ⟨2, ![16384, 1024]⟩
abbrev S1024 : Shape := ⟨1, ![1024]⟩
abbrev S18432x8 : Shape := ⟨2, ![18432, 8]⟩
abbrev S_ : Shape := ⟨0, ![]⟩

class Facts : Prop where
  slices_S18432x128_S18432x8_0_0 : S18432x128.Slices ![0, 0] S18432x8
  bcast_S_S16384 : S_.BroadcastsInDim S16384 (![] : Fin 0 → Fin S16384.rank)
  reducesTo_S16384_S_d0 : S16384.ReducesTo [0] S_
  h_S_ : 0 < S_.numel
  bcast_S_S36 : S_.BroadcastsInDim S36 (![] : Fin 0 → Fin S36.rank)
  reducesTo_S36_S_d0 : S36.ReducesTo [0] S_
  bcast_S_S18432x8 : S_.BroadcastsInDim S18432x8 (![] : Fin 0 → Fin S18432x8.rank)
  reducesTo_S18432x8_S_d0_1 : S18432x8.ReducesTo [0, 1] S_

variable [Facts]

def fn_part1 {F : FTy → Type} [FloatOps F] (main_v0 : FVec F S18432x8 .f32) (main_v13 : IVec S_ 1) (main_v15 : IVec S18432x8 1) (main_cst_5 : FVec F S_ .f32) : IVec S_ 1 :=
  let main_v16 : FVec F S18432x8 .f32 := broadcastInDim S18432x8 ![] bcast_S_S18432x8 main_cst_5
  let main_v17 : IVec S18432x8 1 := cmpf .olt main_v0 main_v16
  let main_v18 : IVec S18432x8 1 := andi main_v15 main_v17
  let main_c_6 : IVec S_ 1 := constantI S_ 1 1#1
  let main_v19 : IVec S_ 1 := (fun x v => Host.reduce IntOp.andi x v reducesTo_S18432x8_S_d0_1 h_S_) main_v18 main_c_6
  let main_v20 : IVec S_ 1 := andi main_v13 main_v19
  main_v20

def fn {F : FTy → Type} [FloatOps F] (main_arg0 : IVec S16384 32) (main_arg1 : IVec S36 32) (main_arg2 : IVec S18432x512 32) (main_arg3 : FVec F S18432x128 .f32) (main_arg4 : FVec F S32x1024x256 .f32) (main_arg5 : FVec F S32x1024x256 .f32) (main_arg6 : FVec F S32x256x1024 .f32) (main_arg7 : FVec F S16384x1024 .f32) (main_arg8 : FVec F S1024 .f32) : IVec S_ 1 :=
  let main_v0 : FVec F S18432x8 .f32 := (extractStridedSlice S18432x8 ![0, 0] · slices_S18432x128_S18432x8_0_0) main_arg3
  let main_c : IVec S_ 32 := constantI S_ 32 0#32
  let main_v1 : IVec S16384 32 := broadcastInDim S16384 ![] bcast_S_S16384 main_c
  let main_v2 : IVec S16384 1 := cmpi .sge main_arg0 main_v1
  let main_c_0 : IVec S_ 32 := constantI S_ 32 18432#32
  let main_v3 : IVec S16384 32 := broadcastInDim S16384 ![] bcast_S_S16384 main_c_0
  let main_v4 : IVec S16384 1 := cmpi .slt main_arg0 main_v3
  let main_v5 : IVec S16384 1 := andi main_v2 main_v4
  let main_c_1 : IVec S_ 1 := constantI S_ 1 1#1
  let main_v6 : IVec S_ 1 := (fun x v => Host.reduce IntOp.andi x v reducesTo_S16384_S_d0 h_S_) main_v5 main_c_1
  let main_c_2 : IVec S_ 32 := constantI S_ 32 0#32
  let main_v7 : IVec S36 32 := broadcastInDim S36 ![] bcast_S_S36 main_c_2
  let main_v8 : IVec S36 1 := cmpi .sge main_arg1 main_v7
  let main_c_3 : IVec S_ 32 := constantI S_ 32 4#32
  let main_v9 : IVec S36 32 := broadcastInDim S36 ![] bcast_S_S36 main_c_3
  let main_v10 : IVec S36 1 := cmpi .slt main_arg1 main_v9
  let main_v11 : IVec S36 1 := andi main_v8 main_v10
  let main_c_4 : IVec S_ 1 := constantI S_ 1 1#1
  let main_v12 : IVec S_ 1 := (fun x v => Host.reduce IntOp.andi x v reducesTo_S36_S_d0 h_S_) main_v11 main_c_4
  let main_v13 : IVec S_ 1 := andi main_v6 main_v12
  let main_cst : FVec F S_ .f32 := constant S_ .f32 0x00000000#32
  let main_v14 : FVec F S18432x8 .f32 := broadcastInDim S18432x8 ![] bcast_S_S18432x8 main_cst
  let main_v15 : IVec S18432x8 1 := cmpf .oge main_v0 main_v14
  let main_cst_5 : FVec F S_ .f32 := constant S_ .f32 0x7F800000#32
  fn_part1 (F := F) main_v0 main_v13 main_v15 main_cst_5
-- ==== Pre_weights_in_range.lean ====
abbrev S512x1024 : Shape := ⟨2, ![512, 1024]⟩
abbrev S512x128 : Shape := ⟨2, ![512, 128]⟩
abbrev S32x1024x256 : Shape := ⟨3, ![32, 1024, 256]⟩
abbrev S32x256x1024 : Shape := ⟨3, ![32, 256, 1024]⟩
abbrev S1024 : Shape := ⟨1, ![1024]⟩
abbrev S512x32 : Shape := ⟨2, ![512, 32]⟩
abbrev S_ : Shape := ⟨0, ![]⟩

class Facts : Prop where
  slices_S512x128_S512x32_0_0 : S512x128.Slices ![0, 0] S512x32
  bcast_S_S512x32 : S_.BroadcastsInDim S512x32 (![] : Fin 0 → Fin S512x32.rank)
  reducesTo_S512x32_S_d0_1 : S512x32.ReducesTo [0, 1] S_
  h_S_ : 0 < S_.numel

variable [Facts]

def fn {F : FTy → Type} [FloatOps F] (main_arg0 : FVec F S512x1024 .bf16) (main_arg1 : FVec F S512x128 .f32) (main_arg2 : FVec F S512x1024 .f32) (main_arg3 : FVec F S32x1024x256 .f32) (main_arg4 : FVec F S32x1024x256 .f32) (main_arg5 : FVec F S32x256x1024 .f32) (main_arg6 : FVec F S1024 .f32) : IVec S_ 1 :=
  let main_v0 : FVec F S512x32 .f32 := (extractStridedSlice S512x32 ![0, 0] · slices_S512x128_S512x32_0_0) main_arg1
  let main_cst : FVec F S_ .f32 := constant S_ .f32 0x00000000#32
  let main_v1 : FVec F S512x32 .f32 := broadcastInDim S512x32 ![] bcast_S_S512x32 main_cst
  let main_v2 : IVec S512x32 1 := cmpf .oge main_v0 main_v1
  let main_cst_0 : FVec F S_ .f32 := constant S_ .f32 0x7F800000#32
  let main_v3 : FVec F S512x32 .f32 := broadcastInDim S512x32 ![] bcast_S_S512x32 main_cst_0
  let main_v4 : IVec S512x32 1 := cmpf .olt main_v0 main_v3
  let main_v5 : IVec S512x32 1 := andi main_v2 main_v4
  let main_c : IVec S_ 1 := constantI S_ 1 1#1
  let main_v6 : IVec S_ 1 := (fun x v => Host.reduce IntOp.andi x v reducesTo_S512x32_S_d0_1 h_S_) main_v5 main_c
  main_v6
-- ==== Kernel.lean ====
abbrev S16384 : Shape := ⟨1, ![16384]⟩
abbrev S18432x512 : Shape := ⟨2, ![18432, 512]⟩
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x512 : Shape := ⟨2, ![1024, 512]⟩
abbrev S1 : Shape := ⟨1, ![1]⟩
abbrev S1x512 : Shape := ⟨2, ![1, 512]⟩
abbrev S8x512 : Shape := ⟨2, ![8, 512]⟩
abbrev S1024x1 : Shape := ⟨2, ![1024, 1]⟩

abbrev nBuf : Space → Nat
  | .hbm => 5
  | .vmem => 7
  | .smem => 1
  | _ => 0

abbrev bufTy : (tb : Table) → Fin (tcTables nBuf tb) → BufTy
  | .hbm, ⟨0, _⟩ => ⟨S18432x512, .i32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S18432x512, .i32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x512, .i32⟩
  | .local _ .smem, ⟨0, _⟩ => ⟨S16384, .i32⟩
  | _, _ => ⟨S18432x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v22 : BitVec 32 := Scalar.muli arg7 c8_i32
  v22
def k0_off1 (i : grid0.Coords) (k0_t1 : Fin k0_t1_loop.trips) : Fin 1 → Nat :=
  let arg0 : BitVec 32 := BitVec.ofNat 32 (i 0).val
  let c1024_i32 : BitVec 32 := 1024#32
  let v24 : BitVec 32 := Scalar.muli arg0 c1024_i32
  let c0_i32 : BitVec 32 := 0#32
  let c1_i32 : BitVec 32 := 1#32
  let arg7 : BitVec 32 := Scf.iv c0_i32 c1_i32 k0_t1
  let c8_i32_10 : BitVec 32 := 8#32
  let v25 : BitVec 32 := Scalar.muli arg7 c8_i32_10
  let v26 : BitVec 32 := Scalar.addi v24 v25
  let c0_i32_11 : BitVec 32 := 0#32
  let v27 : BitVec 32 := Scalar.addi v26 c0_i32_11
  let v28 : Index := Scalar.indexCast v27
  ![v28.toNat]
def k0_off2 (v29 : BitVec 32) : Fin 2 → Nat :=
  let v30 : Index := Scalar.indexCast v29
  let c0_12 : Index := 0#32
  ![v30.toNat, 0]

def k0_chk1 (v29 : BitVec 32) : Prop :=
  (∀ a, (k0_off2 v29) a + S1x512.size a ≤ S18432x512.size a)
theorem k0_off2_inb : ∀ (v29 : BitVec 32) (k0_hw1 : k0_chk1 v29), ∀ a, (k0_off2 v29) a + S1x512.size a ≤ S18432x512.size a := fun v29 k0_hw1 => k0_hw1

def k0_off3 (i : grid0.Coords) (k0_t1 : Fin k0_t1_loop.trips) : Fin 1 → Nat :=
  let arg0 : BitVec 32 := BitVec.ofNat 32 (i 0).val
  let c1024_i32_13 : BitVec 32 := 1024#32
  let v32 : BitVec 32 := Scalar.muli arg0 c1024_i32_13
  let c0_i32 : BitVec 32 := 0#32
  let c1_i32 : BitVec 32 := 1#32
  let arg7 : BitVec 32 := Scf.iv c0_i32 c1_i32 k0_t1
  let c8_i32_14 : BitVec 32 := 8#32
  let v33 : BitVec 32 := Scalar.muli arg7 c8_i32_14
  let v34 : BitVec 32 := Scalar.addi v32 v33
  let c1_i32_15 : BitVec 32 := 1#32
  let v35 : BitVec 32 := Scalar.addi v34 c1_i32_15
  let v36 : Index := Scalar.indexCast v35
  ![v36.toNat]
def k0_off4 (v37 : BitVec 32) : Fin 2 → Nat :=
  let v38 : Index := Scalar.indexCast v37
  let c0_16 : Index := 0#32
  ![v38.toNat, 0]

def k0_chk2 (v37 : BitVec 32) : Prop :=
  (∀ a, (k0_off4 v37) a + S1x512.size a ≤ S18432x512.size a)
theorem k0_off4_inb : ∀ (v37 : BitVec 32) (k0_hw2 : k0_chk2 v37), ∀ a, (k0_off4 v37) a + S1x512.size a ≤ S18432x512.size a := fun v37 k0_hw2 => k0_hw2

def k0_off5 (i : grid0.Coords) (k0_t1 : Fin k0_t1_loop.trips) : Fin 1 → Nat :=
  let arg0 : BitVec 32 := BitVec.ofNat 32 (i 0).val
  let c1024_i32_17 : BitVec 32 := 1024#32
  let v40 : BitVec 32 := Scalar.muli arg0 c1024_i32_17
  let c0_i32 : BitVec 32 := 0#32
  let c1_i32 : BitVec 32 := 1#32
  let arg7 : BitVec 32 := Scf.iv c0_i32 c1_i32 k0_t1
  let c8_i32_18 : BitVec 32 := 8#32
  let v41 : BitVec 32 := Scalar.muli arg7 c8_i32_18
  let v42 : BitVec 32 := Scalar.addi v40 v41
  let c2_i32 : BitVec 32 := 2#32
  let v43 : BitVec 32 := Scalar.addi v42 c2_i32
  let v44 : Index := Scalar.indexCast v43
  ![v44.toNat]
def k0_off6 (v45 : BitVec 32) : Fin 2 → Nat :=
  let v46 : Index := Scalar.indexCast v45
  let c0_19 : Index := 0#32
  ![v46.toNat, 0]

def k0_chk3 (v45 : BitVec 32) : Prop :=
  (∀ a, (k0_off6 v45) a + S1x512.size a ≤ S18432x512.size a)
theorem k0_off6_inb : ∀ (v45 : BitVec 32) (k0_hw3 : k0_chk3 v45), ∀ a, (k0_off6 v45) a + S1x512.size a ≤ S18432x512.size a := fun v45 k0_hw3 => k0_hw3

def k0_off7 (i : grid0.Coords) (k0_t1 : Fin k0_t1_loop.trips) : Fin 1 → Nat :=
  let arg0 : BitVec 32 := BitVec.ofNat 32 (i 0).val
  let c1024_i32_20 : BitVec 32 := 1024#32
  let v48 : BitVec 32 := Scalar.muli arg0 c1024_i32_20
  let c0_i32 : BitVec 32 := 0#32
  let c1_i32 : BitVec 32 := 1#32
  let arg7 : BitVec 32 := Scf.iv c0_i32 c1_i32 k0_t1
  let c8_i32_21 : BitVec 32 := 8#32
  let v49 : BitVec 32 := Scalar.muli arg7 c8_i32_21
  let v50 : BitVec 32 := Scalar.addi v48 v49
  let c3_i32 : BitVec 32 := 3#32
  let v51 : BitVec 32 := Scalar.addi v50 c3_i32
  let v52 : Index := Scalar.indexCast v51
  ![v52.toNat]
def k0_off8 (v53 : BitVec 32) : Fin 2 → Nat :=
  let v54 : Index := Scalar.indexCast v53
  let c0_22 : Index := 0#32
  ![v54.toNat, 0]

def k0_chk4 (v53 : BitVec 32) : Prop :=
  (∀ a, (k0_off8 v53) a + S1x512.size a ≤ S18432x512.size a)
theorem k0_off8_inb : ∀ (v53 : BitVec 32) (k0_hw4 : k0_chk4 v53), ∀ a, (k0_off8 v53) a + S1x512.size a ≤ S18432x512.size a := fun v53 k0_hw4 => k0_hw4

def k0_off9 (i : grid0.Coords) (k0_t1 : Fin k0_t1_loop.trips) : Fin 1 → Nat :=
  let arg0 : BitVec 32 := BitVec.ofNat 32 (i 0).val
  let c1024_i32_23 : BitVec 32 := 1024#32
  let v56 : BitVec 32 := Scalar.muli arg0 c1024_i32_23
  let c0_i32 : BitVec 32 := 0#32
  let c1_i32 : BitVec 32 := 1#32
  let arg7 : BitVec 32 := Scf.iv c0_i32 c1_i32 k0_t1
  let c8_i32_24 : BitVec 32 := 8#32
  let v57 : BitVec 32 := Scalar.muli arg7 c8_i32_24
  let v58 : BitVec 32 := Scalar.addi v56 v57
  let c4_i32 : BitVec 32 := 4#32
  let v59 : BitVec 32 := Scalar.addi v58 c4_i32
  let v60 : Index := Scalar.indexCast v59
  ![v60.toNat]
def k0_off10 (v61 : BitVec 32) : Fin 2 → Nat :=
  let v62 : Index := Scalar.indexCast v61
  let c0_25 : Index := 0#32
  ![v62.toNat, 0]

def k0_chk5 (v61 : BitVec 32) : Prop :=
  (∀ a, (k0_off10 v61) a + S1x512.size a ≤ S18432x512.size a)
theorem k0_off10_inb : ∀ (v61 : BitVec 32) (k0_hw5 : k0_chk5 v61), ∀ a, (k0_off10 v61) a + S1x512.size a ≤ S18432x512.size a := fun v61 k0_hw5 => k0_hw5

def k0_off11 (i : grid0.Coords) (k0_t1 : Fin k0_t1_loop.trips) : Fin 1 → Nat :=
  let arg0 : BitVec 32 := BitVec.ofNat 32 (i 0).val
  let c1024_i32_26 : BitVec 32 := 1024#32
  let v64 : BitVec 32 := Scalar.muli arg0 c1024_i32_26
  let c0_i32 : BitVec 32 := 0#32
  let c1_i32 : BitVec 32 := 1#32
  let arg7 : BitVec 32 := Scf.iv c0_i32 c1_i32 k0_t1
  let c8_i32_27 : BitVec 32 := 8#32
  let v65 : BitVec 32 := Scalar.muli arg7 c8_i32_27
  let v66 : BitVec 32 := Scalar.addi v64 v65
  let c5_i32 : BitVec 32 := 5#32
  let v67 : BitVec 32 := Scalar.addi v66 c5_i32
  let v68 : Index := Scalar.indexCast v67
  ![v68.toNat]
def k0_off12 (v69 : BitVec 32) : Fin 2 → Nat :=
  let v70 : Index := Scalar.indexCast v69
  let c0_28 : Index := 0#32
  ![v70.toNat, 0]

def k0_chk6 (v69 : BitVec 32) : Prop :=
  (∀ a, (k0_off12 v69) a + S1x512.size a ≤ S18432x512.size a)
theorem k0_off12_inb : ∀ (v69 : BitVec 32) (k0_hw6 : k0_chk6 v69), ∀ a, (k0_off12 v69) a + S1x512.size a ≤ S18432x512.size a := fun v69 k0_hw6 => k0_hw6

def k0_off13 (i : grid0.Coords) (k0_t1 : Fin k0_t1_loop.trips) : Fin 1 → Nat :=
  let arg0 : BitVec 32 := BitVec.ofNat 32 (i 0).val
  let c1024_i32_29 : BitVec 32 := 1024#32
  let v72 : BitVec 32 := Scalar.muli arg0 c1024_i32_29
  let c0_i32 : BitVec 32 := 0#32
  let c1_i32 : BitVec 32 := 1#32
  let arg7 : BitVec 32 := Scf.iv c0_i32 c1_i32 k0_t1
  let c8_i32_30 : BitVec 32 := 8#32
  let v73 : BitVec 32 := Scalar.muli arg7 c8_i32_30
  let v74 : BitVec 32 := Scalar.addi v72 v73
  let c6_i32 : BitVec 32 := 6#32
  let v75 : BitVec 32 := Scalar.addi v74 c6_i32
  let v76 : Index := Scalar.indexCast v75
  ![v76.toNat]
def k0_off14 (v77 : BitVec 32) : Fin 2 → Nat :=
  let v78 : Index := Scalar.indexCast v77
  let c0_31 : Index := 0#32
  ![v78.toNat, 0]

def k0_chk7 (v77 : BitVec 32) : Prop :=
  (∀ a, (k0_off14 v77) a + S1x512.size a ≤ S18432x512.size a)
theorem k0_off14_inb : ∀ (v77 : BitVec 32) (k0_hw7 : k0_chk7 v77), ∀ a, (k0_off14 v77) a + S1x512.size a ≤ S18432x512.size a := fun v77 k0_hw7 => k0_hw7

def k0_off15 (i : grid0.Coords) (k0_t1 : Fin k0_t1_loop.trips) : Fin 1 → Nat :=
  let arg0 : BitVec 32 := BitVec.ofNat 32 (i 0).val
  let c1024_i32_32 : BitVec 32 := 1024#32
  let v80 : BitVec 32 := Scalar.muli arg0 c1024_i32_32
  let c0_i32 : BitVec 32 := 0#32
  let c1_i32 : BitVec 32 := 1#32
  let arg7 : BitVec 32 := Scf.iv c0_i32 c1_i32 k0_t1
  let c8_i32_33 : BitVec 32 := 8#32
  let v81 : BitVec 32 := Scalar.muli arg7 c8_i32_33
  let v82 : BitVec 32 := Scalar.addi v80 v81
  let c7_i32 : BitVec 32 := 7#32
  let v83 : BitVec 32 := Scalar.addi v82 c7_i32
  let v84 : Index := Scalar.indexCast v83
  ![v84.toNat]
def k0_off16 (v85 : BitVec 32) : Fin 2 → Nat :=
  let v86 : Index := Scalar.indexCast v85
  let c0_34 : Index := 0#32
  ![v86.toNat, 0]

def k0_chk8 (v85 : BitVec 32) : Prop :=
  (∀ a, (k0_off16 v85) a + S1x512.size a ≤ S18432x512.size a)
theorem k0_off16_inb : ∀ (v85 : BitVec 32) (k0_hw8 : k0_chk8 v85), ∀ a, (k0_off16 v85) a + S1x512.size a ≤ S18432x512.size a := fun v85 k0_hw8 => k0_hw8

def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32 : BitVec 32 := 8#32
  let v22 : BitVec 32 := Scalar.muli arg7 c8_i32
  let v23 : BitVec 32 := v22
  let v89 : Index := Scalar.indexCast v23
  let c0_35 : Index := 0#32
  ![v89.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S18432x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384 : Shape := ⟨1, ![16384]⟩
abbrev S18432x512 : Shape := ⟨2, ![18432, 512]⟩
abbrev S16384x1024 : Shape := ⟨2, ![16384, 1024]⟩
abbrev S1024 : Shape := ⟨1, ![1024]⟩
abbrev S18432x512x2 : Shape := ⟨3, ![18432, 512, 2]⟩
abbrev S18432x512x1 : Shape := ⟨3, ![18432, 512, 1]⟩
abbrev S18432x1024 : Shape := ⟨2, ![18432, 1024]⟩
abbrev S_ : Shape := ⟨0, ![]⟩
abbrev S16384x1 : Shape := ⟨2, ![16384, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384, .i32⟩
  | .hbm, ⟨1, _⟩ => ⟨S18432x512, .i32⟩
  | .hbm, ⟨2, _⟩ => ⟨S16384x1024, .f32⟩
  | .hbm, ⟨3, _⟩ => ⟨S1024, .f32⟩
  | .hbm, ⟨4, _⟩ => ⟨S18432x512x2, .bf16⟩
  | .hbm, ⟨5, _⟩ => ⟨S18432x512x1, .bf16⟩
  | .hbm, ⟨6, _⟩ => ⟨S18432x512, .bf16⟩
  | .hbm, ⟨7, _⟩ => ⟨S18432x512x1, .bf16⟩
  | .hbm, ⟨8, _⟩ => ⟨S18432x512, .bf16⟩
  | .hbm, ⟨9, _⟩ => ⟨S18432x1024, .bf16⟩
  | .hbm, ⟨10, _⟩ => ⟨S18432x1024, .f32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel2.lean ====
abbrev S16384 : Shape := ⟨1, ![16384]⟩
abbrev S36 : Shape := ⟨1, ![36]⟩
abbrev S18432x512 : Shape := ⟨2, ![18432, 512]⟩
abbrev S18432x128 : Shape := ⟨2, ![18432, 128]⟩
abbrev S32x1024x256 : Shape := ⟨3, ![32, 1024, 256]⟩
abbrev S32x256x1024 : Shape := ⟨3, ![32, 256, 1024]⟩
abbrev S16384x1024 : Shape := ⟨2, ![16384, 1024]⟩
abbrev S1024 : Shape := ⟨1, ![1024]⟩
abbrev S4x2048x1024 : Shape := ⟨3, ![4, 2048, 1024]⟩
abbrev S512x512 : Shape := ⟨2, ![512, 512]⟩
abbrev S512x128 : Shape := ⟨2, ![512, 128]⟩
abbrev S8x1024x256 : Shape := ⟨3, ![8, 1024, 256]⟩
abbrev S1 : Shape := ⟨1, ![1]⟩
abbrev S1x2048x1024 : Shape := ⟨3, ![1, 2048, 1024]⟩
abbrev S512x1024 : Shape := ⟨2, ![512, 1024]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2048 : Shape := ⟨2, ![512, 2048]⟩
abbrev S2048x1024 : Shape := ⟨2, ![2048, 1024]⟩
abbrev S1x1024 : Shape := ⟨2, ![1, 1024]⟩
abbrev S1024x1024 : Shape := ⟨2, ![1024, 1024]⟩
abbrev S1024x512 : Shape := ⟨2, ![1024, 512]⟩
abbrev S1x512 : Shape := ⟨2, ![1, 512]⟩
abbrev S1024x1 : Shape := ⟨2, ![1024, 1]⟩

abbrev nBuf : Space → Nat
  | .hbm => 14
  | .vmem => 19
  | .smem => 2
  | _ => 0

abbrev bufTy : (tb : Table) → Fin (tcTables nBuf tb) → BufTy
  | .hbm, ⟨0, _⟩ => ⟨S18432x512, .i32⟩
  | .hbm, ⟨1, _⟩ => ⟨S18432x128, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S16384x1024, .f32⟩
  | .hbm, ⟨6, _⟩ => ⟨S1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S4x2048x1024, .bf16⟩
  | .hbm, ⟨11, _⟩ => ⟨S18432x512, .i32⟩
  | .hbm, ⟨12, _⟩ => ⟨S1x1024, .f32⟩
  | .hbm, ⟨13, _⟩ => ⟨S16384x1024, .f32⟩
  | .local _ .vmem, ⟨0, _⟩ => ⟨S512x512, .i32⟩
  | .local _ .vmem, ⟨1, _⟩ => ⟨S512x512, .i32⟩
  | .local _ .vmem, ⟨2, _⟩ => ⟨S512x128, .f32⟩
  | .local _ .vmem, ⟨3, _⟩ => ⟨S512x128, .f32⟩
  | .local _ .vmem, ⟨4, _⟩ => ⟨S8x1024x256, .bf16⟩
  | .local _ .vmem, ⟨5, _⟩ => ⟨S8x1024x256, .bf16⟩
  | .local _ .vmem, ⟨6, _⟩ => ⟨S8x1024x256, .bf16⟩
  | .local _ .vmem, ⟨7, _⟩ => ⟨S8x1024x256, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S512x512, .i32⟩
  | .local _ .vmem, ⟨11, _⟩ => ⟨S512x512, .i32⟩
  | .local _ .vmem, ⟨12, _⟩ => ⟨S18432x512, .i32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x512, .i32⟩
  | .local _ .smem, ⟨0, _⟩ => ⟨S36, .i32⟩
  | .local _ .smem, ⟨1, _⟩ => ⟨S16384, .i32⟩
  | _, _ => ⟨S18432x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg1 : Ref sig .tc := ⟨.smem, 0, rfl⟩
abbrev main_arg0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [BitOps F]

abbrev grid0 : Pipeline.Grid := ⟨1, ![36], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

abbrev pre1 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  v26
def k1_off1 (i : grid1.Coords) (k1_t1 : Fin k1_t1_loop.trips) : Fin 1 → Nat :=
  let arg0 : BitVec 32 := BitVec.ofNat 32 (i 0).val
  let c1024_i32 : BitVec 32 := 1024#32
  let v28 : BitVec 32 := Scalar.muli arg0 c1024_i32
  let c0_i32 : BitVec 32 := 0#32
  let c1_i32 : BitVec 32 := 1#32
  let arg7 : BitVec 32 := Scf.iv c0_i32 c1_i32 k1_t1
  let c8_i32_10 : BitVec 32 := 8#32
  let v29 : BitVec 32 := Scalar.muli arg7 c8_i32_10
  let v30 : BitVec 32 := Scalar.addi v28 v29
  let c0_i32_11 : BitVec 32 := 0#32
  let v31 : BitVec 32 := Scalar.addi v30 c0_i32_11
  let v32 : Index := Scalar.indexCast v31
  ![v32.toNat]
def k1_off2 (v33 : BitVec 32) : Fin 2 → Nat :=
  let v34 : Index := Scalar.indexCast v33
  let c0_12 : Index := 0#32
  ![v34.toNat, 0]

def k1_chk1 (v33 : BitVec 32) : Prop :=
  (∀ a, (k1_off2 v33) a + S1x512.size a ≤ S18432x512.size a)
theorem k1_off2_inb : ∀ (v33 : BitVec 32) (k1_hw1 : k1_chk1 v33), ∀ a, (k1_off2 v33) a + S1x512.size a ≤ S18432x512.size a := fun v33 k1_hw1 => k1_hw1

def k1_off3 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c0_i32_13 : BitVec 32 := 0#32
  let v37 : BitVec 32 := Scalar.addi v27 c0_i32_13
  let v38 : Index := Scalar.indexCast v37
  let c0_14 : Index := 0#32
  ![v38.toNat, 0]
def k1_off4 (i : grid1.Coords) (k1_t1 : Fin k1_t1_loop.trips) : Fin 1 → Nat :=
  let arg0 : BitVec 32 := BitVec.ofNat 32 (i 0).val
  let c1024_i32_15 : BitVec 32 := 1024#32
  let v42 : BitVec 32 := Scalar.muli arg0 c1024_i32_15
  let c0_i32 : BitVec 32 := 0#32
  let c1_i32 : BitVec 32 := 1#32
  let arg7 : BitVec 32 := Scf.iv c0_i32 c1_i32 k1_t1
  let c8_i32_16 : BitVec 32 := 8#32
  let v43 : BitVec 32 := Scalar.muli arg7 c8_i32_16
  let v44 : BitVec 32 := Scalar.addi v42 v43
  let c1_i32_17 : BitVec 32 := 1#32
  let v45 : BitVec 32 := Scalar.addi v44 c1_i32_17
  let v46 : Index := Scalar.indexCast v45
  ![v46.toNat]
def k1_off5 (v47 : BitVec 32) : Fin 2 → Nat :=
  let v48 : Index := Scalar.indexCast v47
  let c0_18 : Index := 0#32
  ![v48.toNat, 0]

def k1_chk2 (v47 : BitVec 32) : Prop :=
  (∀ a, (k1_off5 v47) a + S1x512.size a ≤ S18432x512.size a)
theorem k1_off5_inb : ∀ (v47 : BitVec 32) (k1_hw2 : k1_chk2 v47), ∀ a, (k1_off5 v47) a + S1x512.size a ≤ S18432x512.size a := fun v47 k1_hw2 => k1_hw2

def k1_off6 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c1_i32_19 : BitVec 32 := 1#32
  let v51 : BitVec 32 := Scalar.addi v27 c1_i32_19
  let v52 : Index := Scalar.indexCast v51
  let c0_20 : Index := 0#32
  ![v52.toNat, 0]
def k1_off7 (i : grid1.Coords) (k1_t1 : Fin k1_t1_loop.trips) : Fin 1 → Nat :=
  let arg0 : BitVec 32 := BitVec.ofNat 32 (i 0).val
  let c1024_i32_21 : BitVec 32 := 1024#32
  let v56 : BitVec 32 := Scalar.muli arg0 c1024_i32_21
  let c0_i32 : BitVec 32 := 0#32
  let c1_i32 : BitVec 32 := 1#32
  let arg7 : BitVec 32 := Scf.iv c0_i32 c1_i32 k1_t1
  let c8_i32_22 : BitVec 32 := 8#32
  let v57 : BitVec 32 := Scalar.muli arg7 c8_i32_22
  let v58 : BitVec 32 := Scalar.addi v56 v57
  let c2_i32 : BitVec 32 := 2#32
  let v59 : BitVec 32 := Scalar.addi v58 c2_i32
  let v60 : Index := Scalar.indexCast v59
  ![v60.toNat]
def k1_off8 (v61 : BitVec 32) : Fin 2 → Nat :=
  let v62 : Index := Scalar.indexCast v61
  let c0_23 : Index := 0#32
  ![v62.toNat, 0]

def k1_chk3 (v61 : BitVec 32) : Prop :=
  (∀ a, (k1_off8 v61) a + S1x512.size a ≤ S18432x512.size a)
theorem k1_off8_inb : ∀ (v61 : BitVec 32) (k1_hw3 : k1_chk3 v61), ∀ a, (k1_off8 v61) a + S1x512.size a ≤ S18432x512.size a := fun v61 k1_hw3 => k1_hw3

def k1_off9 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c2_i32_24 : BitVec 32 := 2#32
  let v65 : BitVec 32 := Scalar.addi v27 c2_i32_24
  let v66 : Index := Scalar.indexCast v65
  let c0_25 : Index := 0#32
  ![v66.toNat, 0]
def k1_off10 (i : grid1.Coords) (k1_t1 : Fin k1_t1_loop.trips) : Fin 1 → Nat :=
  let arg0 : BitVec 32 := BitVec.ofNat 32 (i 0).val
  let c1024_i32_26 : BitVec 32 := 1024#32
  let v70 : BitVec 32 := Scalar.muli arg0 c1024_i32_26
  let c0_i32 : BitVec 32 := 0#32
  let c1_i32 : BitVec 32 := 1#32
  let arg7 : BitVec 32 := Scf.iv c0_i32 c1_i32 k1_t1
  let c8_i32_27 : BitVec 32 := 8#32
  let v71 : BitVec 32 := Scalar.muli arg7 c8_i32_27
  let v72 : BitVec 32 := Scalar.addi v70 v71
  let c3_i32 : BitVec 32 := 3#32
  let v73 : BitVec 32 := Scalar.addi v72 c3_i32
  let v74 : Index := Scalar.indexCast v73
  ![v74.toNat]
def k1_off11 (v75 : BitVec 32) : Fin 2 → Nat :=
  let v76 : Index := Scalar.indexCast v75
  let c0_28 : Index := 0#32
  ![v76.toNat, 0]

def k1_chk4 (v75 : BitVec 32) : Prop :=
  (∀ a, (k1_off11 v75) a + S1x512.size a ≤ S18432x512.size a)
theorem k1_off11_inb : ∀ (v75 : BitVec 32) (k1_hw4 : k1_chk4 v75), ∀ a, (k1_off11 v75) a + S1x512.size a ≤ S18432x512.size a := fun v75 k1_hw4 => k1_hw4

def k1_off12 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c3_i32_29 : BitVec 32 := 3#32
  let v79 : BitVec 32 := Scalar.addi v27 c3_i32_29
  let v80 : Index := Scalar.indexCast v79
  let c0_30 : Index := 0#32
  ![v80.toNat, 0]
def k1_off13 (i : grid1.Coords) (k1_t1 : Fin k1_t1_loop.trips) : Fin 1 → Nat :=
  let arg0 : BitVec 32 := BitVec.ofNat 32 (i 0).val
  let c1024_i32_31 : BitVec 32 := 1024#32
  let v84 : BitVec 32 := Scalar.muli arg0 c1024_i32_31
  let c0_i32 : BitVec 32 := 0#32
  let c1_i32 : BitVec 32 := 1#32
  let arg7 : BitVec 32 := Scf.iv c0_i32 c1_i32 k1_t1
  let c8_i32_32 : BitVec 32 := 8#32
  let v85 : BitVec 32 := Scalar.muli arg7 c8_i32_32
  let v86 : BitVec 32 := Scalar.addi v84 v85
  let c4_i32 : BitVec 32 := 4#32
  let v87 : BitVec 32 := Scalar.addi v86 c4_i32
  let v88 : Index := Scalar.indexCast v87
  ![v88.toNat]
def k1_off14 (v89 : BitVec 32) : Fin 2 → Nat :=
  let v90 : Index := Scalar.indexCast v89
  let c0_33 : Index := 0#32
  ![v90.toNat, 0]

def k1_chk5 (v89 : BitVec 32) : Prop :=
  (∀ a, (k1_off14 v89) a + S1x512.size a ≤ S18432x512.size a)
theorem k1_off14_inb : ∀ (v89 : BitVec 32) (k1_hw5 : k1_chk5 v89), ∀ a, (k1_off14 v89) a + S1x512.size a ≤ S18432x512.size a := fun v89 k1_hw5 => k1_hw5

def k1_off15 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c4_i32_34 : BitVec 32 := 4#32
  let v93 : BitVec 32 := Scalar.addi v27 c4_i32_34
  let v94 : Index := Scalar.indexCast v93
  let c0_35 : Index := 0#32
  ![v94.toNat, 0]
def k1_off16 (i : grid1.Coords) (k1_t1 : Fin k1_t1_loop.trips) : Fin 1 → Nat :=
  let arg0 : BitVec 32 := BitVec.ofNat 32 (i 0).val
  let c1024_i32_36 : BitVec 32 := 1024#32
  let v98 : BitVec 32 := Scalar.muli arg0 c1024_i32_36
  let c0_i32 : BitVec 32 := 0#32
  let c1_i32 : BitVec 32 := 1#32
  let arg7 : BitVec 32 := Scf.iv c0_i32 c1_i32 k1_t1
  let c8_i32_37 : BitVec 32 := 8#32
  let v99 : BitVec 32 := Scalar.muli arg7 c8_i32_37
  let v100 : BitVec 32 := Scalar.addi v98 v99
  let c5_i32 : BitVec 32 := 5#32
  let v101 : BitVec 32 := Scalar.addi v100 c5_i32
  let v102 : Index := Scalar.indexCast v101
  ![v102.toNat]
def k1_off17 (v103 : BitVec 32) : Fin 2 → Nat :=
  let v104 : Index := Scalar.indexCast v103
  let c0_38 : Index := 0#32
  ![v104.toNat, 0]

def k1_chk6 (v103 : BitVec 32) : Prop :=
  (∀ a, (k1_off17 v103) a + S1x512.size a ≤ S18432x512.size a)
theorem k1_off17_inb : ∀ (v103 : BitVec 32) (k1_hw6 : k1_chk6 v103), ∀ a, (k1_off17 v103) a + S1x512.size a ≤ S18432x512.size a := fun v103 k1_hw6 => k1_hw6

def k1_off18 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c5_i32_39 : BitVec 32 := 5#32
  let v107 : BitVec 32 := Scalar.addi v27 c5_i32_39
  let v108 : Index := Scalar.indexCast v107
  let c0_40 : Index := 0#32
  ![v108.toNat, 0]
def k1_off19 (i : grid1.Coords) (k1_t1 : Fin k1_t1_loop.trips) : Fin 1 → Nat :=
  let arg0 : BitVec 32 := BitVec.ofNat 32 (i 0).val
  let c1024_i32_41 : BitVec 32 := 1024#32
  let v112 : BitVec 32 := Scalar.muli arg0 c1024_i32_41
  let c0_i32 : BitVec 32 := 0#32
  let c1_i32 : BitVec 32 := 1#32
  let arg7 : BitVec 32 := Scf.iv c0_i32 c1_i32 k1_t1
  let c8_i32_42 : BitVec 32 := 8#32
  let v113 : BitVec 32 := Scalar.muli arg7 c8_i32_42
  let v114 : BitVec 32 := Scalar.addi v112 v113
  let c6_i32 : BitVec 32 := 6#32
  let v115 : BitVec 32 := Scalar.addi v114 c6_i32
  let v116 : Index := Scalar.indexCast v115
  ![v116.toNat]
def k1_off20 (v117 : BitVec 32) : Fin 2 → Nat :=
  let v118 : Index := Scalar.indexCast v117
  let c0_43 : Index := 0#32
  ![v118.toNat, 0]

def k1_chk7 (v117 : BitVec 32) : Prop :=
  (∀ a, (k1_off20 v117) a + S1x512.size a ≤ S18432x512.size a)
theorem k1_off20_inb : ∀ (v117 : BitVec 32) (k1_hw7 : k1_chk7 v117), ∀ a, (k1_off20 v117) a + S1x512.size a ≤ S18432x512.size a := fun v117 k1_hw7 => k1_hw7

def k1_off21 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c6_i32_44 : BitVec 32 := 6#32
  let v121 : BitVec 32 := Scalar.addi v27 c6_i32_44
  let v122 : Index := Scalar.indexCast v121
  let c0_45 : Index := 0#32
  ![v122.toNat, 0]
def k1_off22 (i : grid1.Coords) (k1_t1 : Fin k1_t1_loop.trips) : Fin 1 → Nat :=
  let arg0 : BitVec 32 := BitVec.ofNat 32 (i 0).val
  let c1024_i32_46 : BitVec 32 := 1024#32
  let v126 : BitVec 32 := Scalar.muli arg0 c1024_i32_46
  let c0_i32 : BitVec 32 := 0#32
  let c1_i32 : BitVec 32 := 1#32
  let arg7 : BitVec 32 := Scf.iv c0_i32 c1_i32 k1_t1
  let c8_i32_47 : BitVec 32 := 8#32
  let v127 : BitVec 32 := Scalar.muli arg7 c8_i32_47
  let v128 : BitVec 32 := Scalar.addi v126 v127
  let c7_i32 : BitVec 32 := 7#32
  let v129 : BitVec 32 := Scalar.addi v128 c7_i32
  let v130 : Index := Scalar.indexCast v129
  ![v130.toNat]
def k1_off23 (v131 : BitVec 32) : Fin 2 → Nat :=
  let v132 : Index := Scalar.indexCast v131
  let c0_48 : Index := 0#32
  ![v132.toNat, 0]

def k1_chk8 (v131 : BitVec 32) : Prop :=
  (∀ a, (k1_off23 v131) a + S1x512.size a ≤ S18432x512.size a)
theorem k1_off23_inb : ∀ (v131 : BitVec 32) (k1_hw8 : k1_chk8 v131), ∀ a, (k1_off23 v131) a + S1x512.size a ≤ S18432x512.size a := fun v131 k1_hw8 => k1_hw8

def k1_off24 (k1_t1 : Fin k1_t1_loop.trips) : Fin 2 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c7_i32_49 : BitVec 32 := 7#32
  let v135 : BitVec 32 := Scalar.addi v27 c7_i32_49
  let v136 : Index := Scalar.indexCast v135
  let c0_50 : Index := 0#32
  ![v136.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S18432x512 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Kernel2Ideal.lean ====
abbrev S16384 : Shape := ⟨1, ![16384]⟩
abbrev S36 : Shape := ⟨1, ![36]⟩
abbrev S18432x512 : Shape := ⟨2, ![18432, 512]⟩
abbrev S18432x128 : Shape := ⟨2, ![18432, 128]⟩
abbrev S32x1024x256 : Shape := ⟨3, ![32, 1024, 256]⟩
abbrev S32x256x1024 : Shape := ⟨3, ![32, 256, 1024]⟩
abbrev S16384x1024 : Shape := ⟨2, ![16384, 1024]⟩
abbrev S1024 : Shape := ⟨1, ![1024]⟩
abbrev S4x2048x1024 : Shape := ⟨3, ![4, 2048, 1024]⟩
abbrev S18432x2x512 : Shape := ⟨3, ![18432, 2, 512]⟩
abbrev S18432x1x512 : Shape := ⟨3, ![18432, 1, 512]⟩
abbrev S512x512 : Shape := ⟨2, ![512, 512]⟩
abbrev S512x128 : Shape := ⟨2, ![512, 128]⟩
abbrev S8x1024x256 : Shape := ⟨3, ![8, 1024, 256]⟩
abbrev S1 : Shape := ⟨1, ![1]⟩
abbrev S1x2048x1024 : Shape := ⟨3, ![1, 2048, 1024]⟩
abbrev S512x2x512 : Shape := ⟨3, ![512, 2, 512]⟩
abbrev S512x1x512 : Shape := ⟨3, ![512, 1, 512]⟩
abbrev S512x1024 : Shape := ⟨2, ![512, 1024]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2048 : Shape := ⟨2, ![512, 2048]⟩
abbrev S2048x1024 : Shape := ⟨2, ![2048, 1024]⟩
abbrev S1x1024 : Shape := ⟨2, ![1, 1024]⟩
abbrev S1024x1024 : Shape := ⟨2, ![1024, 1024]⟩
abbrev S1024x512 : Shape := ⟨2, ![1024, 512]⟩
abbrev S1024x2x512 : Shape := ⟨3, ![1024, 2, 512]⟩
abbrev S1024x1x512 : Shape := ⟨3, ![1024, 1, 512]⟩
abbrev S1x512 : Shape := ⟨2, ![1, 512]⟩
abbrev S1x2x512 : Shape := ⟨3, ![1, 2, 512]⟩
abbrev S1x1x512 : Shape := ⟨3, ![1, 1, 512]⟩
abbrev S2048x512 : Shape := ⟨2, ![2048, 512]⟩
abbrev S1024x1 : Shape := ⟨2, ![1024, 1]⟩

abbrev nBuf : Space → Nat
  | .hbm => 14
  | .vmem => 19
  | .smem => 2
  | _ => 0

abbrev bufTy : (tb : Table) → Fin (tcTables nBuf tb) → BufTy
  | .hbm, ⟨0, _⟩ => ⟨S18432x512, .i32⟩
  | .hbm, ⟨1, _⟩ => ⟨S18432x128, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S16384x1024, .f32⟩
  | .hbm, ⟨6, _⟩ => ⟨S1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S4x2048x1024, .bf16⟩
  | .hbm, ⟨11, _⟩ => ⟨S18432x2x512, .bf16⟩
  | .hbm, ⟨12, _⟩ => ⟨S1x1024, .f32⟩
  | .hbm, ⟨13, _⟩ => ⟨S16384x1024, .f32⟩
  | .local _ .vmem, ⟨0, _⟩ => ⟨S512x512, .i32⟩
  | .local _ .vmem, ⟨1, _⟩ => ⟨S512x512, .i32⟩
  | .local _ .vmem, ⟨2, _⟩ => ⟨S512x128, .f32⟩
  | .local _ .vmem, ⟨3, _⟩ => ⟨S512x128, .f32⟩
  | .local _ .vmem, ⟨4, _⟩ => ⟨S8x1024x256, .bf16⟩
  | .local _ .vmem, ⟨5, _⟩ => ⟨S8x1024x256, .bf16⟩
  | .local _ .vmem, ⟨6, _⟩ => ⟨S8x1024x256, .bf16⟩
  | .local _ .vmem, ⟨7, _⟩ => ⟨S8x1024x256, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S512x2x512, .bf16⟩
  | .local _ .vmem, ⟨11, _⟩ => ⟨S512x2x512, .bf16⟩
  | .local _ .vmem, ⟨12, _⟩ => ⟨S18432x2x512, .bf16⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x2x512, .bf16⟩
  | .local _ .smem, ⟨0, _⟩ => ⟨S36, .i32⟩
  | .local _ .smem, ⟨1, _⟩ => ⟨S16384, .i32⟩
  | _, _ => ⟨S18432x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg1 : Ref sig .tc := ⟨.smem, 0, rfl⟩
abbrev main_arg0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

abbrev pre1 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  v26
def k1_off1 (i : grid1.Coords) (k1_t1 : Fin k1_t1_loop.trips) : Fin 1 → Nat :=
  let arg0 : BitVec 32 := BitVec.ofNat 32 (i 0).val
  let c1024_i32 : BitVec 32 := 1024#32
  let v28 : BitVec 32 := Scalar.muli arg0 c1024_i32
  let c0_i32 : BitVec 32 := 0#32
  let c1_i32 : BitVec 32 := 1#32
  let arg7 : BitVec 32 := Scf.iv c0_i32 c1_i32 k1_t1
  let c8_i32_10 : BitVec 32 := 8#32
  let v29 : BitVec 32 := Scalar.muli arg7 c8_i32_10
  let v30 : BitVec 32 := Scalar.addi v28 v29
  let c0_i32_11 : BitVec 32 := 0#32
  let v31 : BitVec 32 := Scalar.addi v30 c0_i32_11
  let v32 : Index := Scalar.indexCast v31
  ![v32.toNat]
def k1_off2 (v33 : BitVec 32) : Fin 3 → Nat :=
  let v34 : Index := Scalar.indexCast v33
  let c0_12 : Index := 0#32
  ![v34.toNat, 0, 0]

def k1_chk1 (v33 : BitVec 32) : Prop :=
  (∀ a, (k1_off2 v33) a + S1x2x512.size a ≤ S18432x2x512.size a)
theorem k1_off2_inb : ∀ (v33 : BitVec 32) (k1_hw1 : k1_chk1 v33), ∀ a, (k1_off2 v33) a + S1x2x512.size a ≤ S18432x2x512.size a := fun v33 k1_hw1 => k1_hw1

def k1_off3 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c0_i32_13 : BitVec 32 := 0#32
  let v37 : BitVec 32 := Scalar.addi v27 c0_i32_13
  let v38 : Index := Scalar.indexCast v37
  let c0_14 : Index := 0#32
  ![v38.toNat, 0, 0]
def k1_off4 (i : grid1.Coords) (k1_t1 : Fin k1_t1_loop.trips) : Fin 1 → Nat :=
  let arg0 : BitVec 32 := BitVec.ofNat 32 (i 0).val
  let c1024_i32_15 : BitVec 32 := 1024#32
  let v42 : BitVec 32 := Scalar.muli arg0 c1024_i32_15
  let c0_i32 : BitVec 32 := 0#32
  let c1_i32 : BitVec 32 := 1#32
  let arg7 : BitVec 32 := Scf.iv c0_i32 c1_i32 k1_t1
  let c8_i32_16 : BitVec 32 := 8#32
  let v43 : BitVec 32 := Scalar.muli arg7 c8_i32_16
  let v44 : BitVec 32 := Scalar.addi v42 v43
  let c1_i32_17 : BitVec 32 := 1#32
  let v45 : BitVec 32 := Scalar.addi v44 c1_i32_17
  let v46 : Index := Scalar.indexCast v45
  ![v46.toNat]
def k1_off5 (v47 : BitVec 32) : Fin 3 → Nat :=
  let v48 : Index := Scalar.indexCast v47
  let c0_18 : Index := 0#32
  ![v48.toNat, 0, 0]

def k1_chk2 (v47 : BitVec 32) : Prop :=
  (∀ a, (k1_off5 v47) a + S1x2x512.size a ≤ S18432x2x512.size a)
theorem k1_off5_inb : ∀ (v47 : BitVec 32) (k1_hw2 : k1_chk2 v47), ∀ a, (k1_off5 v47) a + S1x2x512.size a ≤ S18432x2x512.size a := fun v47 k1_hw2 => k1_hw2

def k1_off6 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c1_i32_19 : BitVec 32 := 1#32
  let v51 : BitVec 32 := Scalar.addi v27 c1_i32_19
  let v52 : Index := Scalar.indexCast v51
  let c0_20 : Index := 0#32
  ![v52.toNat, 0, 0]
def k1_off7 (i : grid1.Coords) (k1_t1 : Fin k1_t1_loop.trips) : Fin 1 → Nat :=
  let arg0 : BitVec 32 := BitVec.ofNat 32 (i 0).val
  let c1024_i32_21 : BitVec 32 := 1024#32
  let v56 : BitVec 32 := Scalar.muli arg0 c1024_i32_21
  let c0_i32 : BitVec 32 := 0#32
  let c1_i32 : BitVec 32 := 1#32
  let arg7 : BitVec 32 := Scf.iv c0_i32 c1_i32 k1_t1
  let c8_i32_22 : BitVec 32 := 8#32
  let v57 : BitVec 32 := Scalar.muli arg7 c8_i32_22
  let v58 : BitVec 32 := Scalar.addi v56 v57
  let c2_i32 : BitVec 32 := 2#32
  let v59 : BitVec 32 := Scalar.addi v58 c2_i32
  let v60 : Index := Scalar.indexCast v59
  ![v60.toNat]
def k1_off8 (v61 : BitVec 32) : Fin 3 → Nat :=
  let v62 : Index := Scalar.indexCast v61
  let c0_23 : Index := 0#32
  ![v62.toNat, 0, 0]

def k1_chk3 (v61 : BitVec 32) : Prop :=
  (∀ a, (k1_off8 v61) a + S1x2x512.size a ≤ S18432x2x512.size a)
theorem k1_off8_inb : ∀ (v61 : BitVec 32) (k1_hw3 : k1_chk3 v61), ∀ a, (k1_off8 v61) a + S1x2x512.size a ≤ S18432x2x512.size a := fun v61 k1_hw3 => k1_hw3

def k1_off9 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c2_i32_24 : BitVec 32 := 2#32
  let v65 : BitVec 32 := Scalar.addi v27 c2_i32_24
  let v66 : Index := Scalar.indexCast v65
  let c0_25 : Index := 0#32
  ![v66.toNat, 0, 0]
def k1_off10 (i : grid1.Coords) (k1_t1 : Fin k1_t1_loop.trips) : Fin 1 → Nat :=
  let arg0 : BitVec 32 := BitVec.ofNat 32 (i 0).val
  let c1024_i32_26 : BitVec 32 := 1024#32
  let v70 : BitVec 32 := Scalar.muli arg0 c1024_i32_26
  let c0_i32 : BitVec 32 := 0#32
  let c1_i32 : BitVec 32 := 1#32
  let arg7 : BitVec 32 := Scf.iv c0_i32 c1_i32 k1_t1
  let c8_i32_27 : BitVec 32 := 8#32
  let v71 : BitVec 32 := Scalar.muli arg7 c8_i32_27
  let v72 : BitVec 32 := Scalar.addi v70 v71
  let c3_i32 : BitVec 32 := 3#32
  let v73 : BitVec 32 := Scalar.addi v72 c3_i32
  let v74 : Index := Scalar.indexCast v73
  ![v74.toNat]
def k1_off11 (v75 : BitVec 32) : Fin 3 → Nat :=
  let v76 : Index := Scalar.indexCast v75
  let c0_28 : Index := 0#32
  ![v76.toNat, 0, 0]

def k1_chk4 (v75 : BitVec 32) : Prop :=
  (∀ a, (k1_off11 v75) a + S1x2x512.size a ≤ S18432x2x512.size a)
theorem k1_off11_inb : ∀ (v75 : BitVec 32) (k1_hw4 : k1_chk4 v75), ∀ a, (k1_off11 v75) a + S1x2x512.size a ≤ S18432x2x512.size a := fun v75 k1_hw4 => k1_hw4

def k1_off12 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c3_i32_29 : BitVec 32 := 3#32
  let v79 : BitVec 32 := Scalar.addi v27 c3_i32_29
  let v80 : Index := Scalar.indexCast v79
  let c0_30 : Index := 0#32
  ![v80.toNat, 0, 0]
def k1_off13 (i : grid1.Coords) (k1_t1 : Fin k1_t1_loop.trips) : Fin 1 → Nat :=
  let arg0 : BitVec 32 := BitVec.ofNat 32 (i 0).val
  let c1024_i32_31 : BitVec 32 := 1024#32
  let v84 : BitVec 32 := Scalar.muli arg0 c1024_i32_31
  let c0_i32 : BitVec 32 := 0#32
  let c1_i32 : BitVec 32 := 1#32
  let arg7 : BitVec 32 := Scf.iv c0_i32 c1_i32 k1_t1
  let c8_i32_32 : BitVec 32 := 8#32
  let v85 : BitVec 32 := Scalar.muli arg7 c8_i32_32
  let v86 : BitVec 32 := Scalar.addi v84 v85
  let c4_i32 : BitVec 32 := 4#32
  let v87 : BitVec 32 := Scalar.addi v86 c4_i32
  let v88 : Index := Scalar.indexCast v87
  ![v88.toNat]
def k1_off14 (v89 : BitVec 32) : Fin 3 → Nat :=
  let v90 : Index := Scalar.indexCast v89
  let c0_33 : Index := 0#32
  ![v90.toNat, 0, 0]

def k1_chk5 (v89 : BitVec 32) : Prop :=
  (∀ a, (k1_off14 v89) a + S1x2x512.size a ≤ S18432x2x512.size a)
theorem k1_off14_inb : ∀ (v89 : BitVec 32) (k1_hw5 : k1_chk5 v89), ∀ a, (k1_off14 v89) a + S1x2x512.size a ≤ S18432x2x512.size a := fun v89 k1_hw5 => k1_hw5

def k1_off15 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c4_i32_34 : BitVec 32 := 4#32
  let v93 : BitVec 32 := Scalar.addi v27 c4_i32_34
  let v94 : Index := Scalar.indexCast v93
  let c0_35 : Index := 0#32
  ![v94.toNat, 0, 0]
def k1_off16 (i : grid1.Coords) (k1_t1 : Fin k1_t1_loop.trips) : Fin 1 → Nat :=
  let arg0 : BitVec 32 := BitVec.ofNat 32 (i 0).val
  let c1024_i32_36 : BitVec 32 := 1024#32
  let v98 : BitVec 32 := Scalar.muli arg0 c1024_i32_36
  let c0_i32 : BitVec 32 := 0#32
  let c1_i32 : BitVec 32 := 1#32
  let arg7 : BitVec 32 := Scf.iv c0_i32 c1_i32 k1_t1
  let c8_i32_37 : BitVec 32 := 8#32
  let v99 : BitVec 32 := Scalar.muli arg7 c8_i32_37
  let v100 : BitVec 32 := Scalar.addi v98 v99
  let c5_i32 : BitVec 32 := 5#32
  let v101 : BitVec 32 := Scalar.addi v100 c5_i32
  let v102 : Index := Scalar.indexCast v101
  ![v102.toNat]
def k1_off17 (v103 : BitVec 32) : Fin 3 → Nat :=
  let v104 : Index := Scalar.indexCast v103
  let c0_38 : Index := 0#32
  ![v104.toNat, 0, 0]

def k1_chk6 (v103 : BitVec 32) : Prop :=
  (∀ a, (k1_off17 v103) a + S1x2x512.size a ≤ S18432x2x512.size a)
theorem k1_off17_inb : ∀ (v103 : BitVec 32) (k1_hw6 : k1_chk6 v103), ∀ a, (k1_off17 v103) a + S1x2x512.size a ≤ S18432x2x512.size a := fun v103 k1_hw6 => k1_hw6

def k1_off18 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c5_i32_39 : BitVec 32 := 5#32
  let v107 : BitVec 32 := Scalar.addi v27 c5_i32_39
  let v108 : Index := Scalar.indexCast v107
  let c0_40 : Index := 0#32
  ![v108.toNat, 0, 0]
def k1_off19 (i : grid1.Coords) (k1_t1 : Fin k1_t1_loop.trips) : Fin 1 → Nat :=
  let arg0 : BitVec 32 := BitVec.ofNat 32 (i 0).val
  let c1024_i32_41 : BitVec 32 := 1024#32
  let v112 : BitVec 32 := Scalar.muli arg0 c1024_i32_41
  let c0_i32 : BitVec 32 := 0#32
  let c1_i32 : BitVec 32 := 1#32
  let arg7 : BitVec 32 := Scf.iv c0_i32 c1_i32 k1_t1
  let c8_i32_42 : BitVec 32 := 8#32
  let v113 : BitVec 32 := Scalar.muli arg7 c8_i32_42
  let v114 : BitVec 32 := Scalar.addi v112 v113
  let c6_i32 : BitVec 32 := 6#32
  let v115 : BitVec 32 := Scalar.addi v114 c6_i32
  let v116 : Index := Scalar.indexCast v115
  ![v116.toNat]
def k1_off20 (v117 : BitVec 32) : Fin 3 → Nat :=
  let v118 : Index := Scalar.indexCast v117
  let c0_43 : Index := 0#32
  ![v118.toNat, 0, 0]

def k1_chk7 (v117 : BitVec 32) : Prop :=
  (∀ a, (k1_off20 v117) a + S1x2x512.size a ≤ S18432x2x512.size a)
theorem k1_off20_inb : ∀ (v117 : BitVec 32) (k1_hw7 : k1_chk7 v117), ∀ a, (k1_off20 v117) a + S1x2x512.size a ≤ S18432x2x512.size a := fun v117 k1_hw7 => k1_hw7

def k1_off21 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c6_i32_44 : BitVec 32 := 6#32
  let v121 : BitVec 32 := Scalar.addi v27 c6_i32_44
  let v122 : Index := Scalar.indexCast v121
  let c0_45 : Index := 0#32
  ![v122.toNat, 0, 0]
def k1_off22 (i : grid1.Coords) (k1_t1 : Fin k1_t1_loop.trips) : Fin 1 → Nat :=
  let arg0 : BitVec 32 := BitVec.ofNat 32 (i 0).val
  let c1024_i32_46 : BitVec 32 := 1024#32
  let v126 : BitVec 32 := Scalar.muli arg0 c1024_i32_46
  let c0_i32 : BitVec 32 := 0#32
  let c1_i32 : BitVec 32 := 1#32
  let arg7 : BitVec 32 := Scf.iv c0_i32 c1_i32 k1_t1
  let c8_i32_47 : BitVec 32 := 8#32
  let v127 : BitVec 32 := Scalar.muli arg7 c8_i32_47
  let v128 : BitVec 32 := Scalar.addi v126 v127
  let c7_i32 : BitVec 32 := 7#32
  let v129 : BitVec 32 := Scalar.addi v128 c7_i32
  let v130 : Index := Scalar.indexCast v129
  ![v130.toNat]
def k1_off23 (v131 : BitVec 32) : Fin 3 → Nat :=
  let v132 : Index := Scalar.indexCast v131
  let c0_48 : Index := 0#32
  ![v132.toNat, 0, 0]

def k1_chk8 (v131 : BitVec 32) : Prop :=
  (∀ a, (k1_off23 v131) a + S1x2x512.size a ≤ S18432x2x512.size a)
theorem k1_off23_inb : ∀ (v131 : BitVec 32) (k1_hw8 : k1_chk8 v131), ∀ a, (k1_off23 v131) a + S1x2x512.size a ≤ S18432x2x512.size a := fun v131 k1_hw8 => k1_hw8

def k1_off24 (k1_t1 : Fin k1_t1_loop.trips) : Fin 3 → Nat :=
  let c0_i32 : BitVec 32 := 0#32
  let c1_i32 : BitVec 32 := 1#32
  let arg7 : BitVec 32 := Scf.iv c0_i32 c1_i32 k1_t1
  let c8_i32 : BitVec 32 := 8#32
  let v26 : BitVec 32 := Scalar.muli arg7 c8_i32
  let v27 : BitVec 32 := v26
  let c7_i32_49 : BitVec 32 := 7#32
  let v135 : BitVec 32 := Scalar.addi v27 c7_i32_49
  let v136 : Index := Scalar.indexCast v135
  let c0_50 : Index := 0#32
  ![v136.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, 0, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S18432x2x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference2Ideal.lean ====
abbrev S16384 : Shape := ⟨1, ![16384]⟩
abbrev S36 : Shape := ⟨1, ![36]⟩
abbrev S18432x512 : Shape := ⟨2, ![18432, 512]⟩
abbrev S18432x128 : Shape := ⟨2, ![18432, 128]⟩
abbrev S32x1024x256 : Shape := ⟨3, ![32, 1024, 256]⟩
abbrev S32x256x1024 : Shape := ⟨3, ![32, 256, 1024]⟩
abbrev S16384x1024 : Shape := ⟨2, ![16384, 1024]⟩
abbrev S1024 : Shape := ⟨1, ![1024]⟩
abbrev S18432x512x2 : Shape := ⟨3, ![18432, 512, 2]⟩
abbrev S18432x512x1 : Shape := ⟨3, ![18432, 512, 1]⟩
abbrev S18432x1024 : Shape := ⟨2, ![18432, 1024]⟩
abbrev S_ : Shape := ⟨0, ![]⟩
abbrev S16384x1 : Shape := ⟨2, ![16384, 1]⟩
abbrev S1x4 : Shape := ⟨2, ![1, 4]⟩
abbrev S16384x4 : Shape := ⟨2, ![16384, 4]⟩
abbrev S16384x128 : Shape := ⟨2, ![16384, 128]⟩
abbrev S16384x8 : Shape := ⟨2, ![16384, 8]⟩
abbrev S16384x4x1 : Shape := ⟨3, ![16384, 4, 1]⟩
abbrev S16384x1x8 : Shape := ⟨3, ![16384, 1, 8]⟩
abbrev S16384x4x8 : Shape := ⟨3, ![16384, 4, 8]⟩
abbrev S16384x32 : Shape := ⟨2, ![16384, 32]⟩
abbrev S32x256x16384 : Shape := ⟨3, ![32, 256, 16384]⟩
abbrev S32x16384x256 : Shape := ⟨3, ![32, 16384, 256]⟩
abbrev S32x16384 : Shape := ⟨2, ![32, 16384]⟩
abbrev S32x16384x1 : Shape := ⟨3, ![32, 16384, 1]⟩
abbrev S32x16384x1024 : Shape := ⟨3, ![32, 16384, 1024]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16384, .i32⟩
  | .hbm, ⟨1, _⟩ => ⟨S36, .i32⟩
  | .hbm, ⟨2, _⟩ => ⟨S18432x512, .i32⟩
  | .hbm, ⟨3, _⟩ => ⟨S18432x128, .f32⟩
  | .hbm, ⟨4, _⟩ => ⟨S32x1024x256, .f32⟩
  | .hbm, ⟨5, _⟩ => ⟨S32x1024x256, .f32⟩
  | .hbm, ⟨6, _⟩ => ⟨S32x256x1024, .f32⟩
  | .hbm, ⟨7, _⟩ => ⟨S16384x1024, .f32⟩
  | .hbm, ⟨8, _⟩ => ⟨S1024, .f32⟩
  | .hbm, ⟨9, _⟩ => ⟨S18432x512x2, .bf16⟩
  | .hbm, ⟨10, _⟩ => ⟨S18432x512x1, .bf16⟩
  | .hbm, ⟨11, _⟩ => ⟨S18432x512, .bf16⟩
  | .hbm, ⟨12, _⟩ => ⟨S18432x512x1, .bf16⟩
  | .hbm, ⟨13, _⟩ => ⟨S18432x512, .bf16⟩
  | .hbm, ⟨14, _⟩ => ⟨S18432x1024, .bf16⟩
  | .hbm, ⟨15, _⟩ => ⟨S18432x1024, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x1024, .f32⟩
  | .hbm, ⟨25, _⟩ => ⟨S_, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384, .i32⟩
  | .hbm, ⟨52, _⟩ => ⟨S16384x1, .i32⟩
  | .hbm, ⟨53, _⟩ => ⟨S1x4, .i32⟩
  | .hbm, ⟨54, _⟩ => ⟨S16384x4, .i32⟩
  | .hbm, ⟨55, _⟩ => ⟨S16384x4, .i32⟩
  | .hbm, ⟨56, _⟩ => ⟨S16384x4, .i1⟩
  | .hbm, ⟨57, _⟩ => ⟨S16384x4, .f32⟩
  | .hbm, ⟨58, _⟩ => ⟨S_, .i32⟩
  | .hbm, ⟨59, _⟩ => ⟨S16384, .i32⟩
  | .hbm, ⟨60, _⟩ => ⟨S16384, .i1⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384x1, .i32⟩
  | .hbm, ⟨66, _⟩ => ⟨S16384x128, .f32⟩
  | .hbm, ⟨67, _⟩ => ⟨S16384x8, .f32⟩
  | .hbm, ⟨68, _⟩ => ⟨S16384x4x1, .f32⟩
  | .hbm, ⟨69, _⟩ => ⟨S16384x1x8, .f32⟩
  | .hbm, ⟨70, _⟩ => ⟨S16384x4x8, .f32⟩
  | .hbm, ⟨71, _⟩ => ⟨S16384x4x8, .f32⟩
  | .hbm, ⟨72, _⟩ => ⟨S16384x4x8, .f32⟩
  | .hbm, ⟨73, _⟩ => ⟨S16384x32, .f32⟩
  | .hbm, ⟨74, _⟩ => ⟨S32x256x16384, .f32⟩
  | .hbm, ⟨75, _⟩ => ⟨S32x16384x256, .f32⟩
  | .hbm, ⟨76, _⟩ => ⟨S32x16384x256, .f32⟩
  | .hbm, ⟨77, _⟩ => ⟨S32x16384x256, .f32⟩
  | .hbm, ⟨78, _⟩ => ⟨S_, .f32⟩
  | .hbm, ⟨79, _⟩ => ⟨S32x16384x256, .f32⟩
  | .hbm, ⟨80, _⟩ => ⟨S32x16384x256, .f32⟩
  | .hbm, ⟨81, _⟩ => ⟨S_, .f32⟩
  | .hbm, ⟨82, _⟩ => ⟨S32x16384x256, .f32⟩
  | .hbm, ⟨83, _⟩ => ⟨S32x16384x256, .f32⟩
  | .hbm, ⟨84, _⟩ => ⟨S32x16384x256, .f32⟩
  | .hbm, ⟨85, _⟩ => ⟨S32x256x16384, .f32⟩
  | .hbm, ⟨86, _⟩ => ⟨S32x16384x256, .f32⟩
  | .hbm, ⟨87, _⟩ => ⟨S32x16384x256, .f32⟩
  | .hbm, ⟨88, _⟩ => ⟨S32x16384, .f32⟩
  | .hbm, ⟨89, _⟩ => ⟨S32x16384x1, .f32⟩
  | .hbm, ⟨90, _⟩ => ⟨S32x16384x1024, .f32⟩
  | .hbm, ⟨91, _⟩ => ⟨S32x16384x1024, .f32⟩
  | .hbm, ⟨92, _⟩ => ⟨S32x16384x1024, .f32⟩
  | .hbm, ⟨93, _⟩ => ⟨S_, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S16384, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S16384x1, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v22 : Ref sig .tc := ⟨.hbm, 57, rfl⟩
abbrev main_c_4 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_6 : Ref sig .tc := ⟨.hbm, 97, rfl⟩
abbrev main_v51 : Ref sig .tc := ⟨.hbm, 98, rfl⟩
abbrev main_v52 : Ref sig .tc := ⟨.hbm, 99, rfl⟩
abbrev main_cst_7 : Ref sig .tc := ⟨.hbm, 100, rfl⟩
abbrev main_v53 : Ref sig .tc := ⟨.hbm, 101, rfl⟩
abbrev main_v54 : Ref sig .tc := ⟨.hbm, 102, rfl⟩
abbrev main_cst_8 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩

abbrev nD : Nat := 1
abbrev τ : Topo := Topo.v7x

variable {F : FTy → Type} [FloatOps F]
-- ==== Kernel3.lean ====
abbrev S512x1024 : Shape := ⟨2, ![512, 1024]⟩
abbrev S512x128 : Shape := ⟨2, ![512, 128]⟩
abbrev S32x1024x256 : Shape := ⟨3, ![32, 1024, 256]⟩
abbrev S32x256x1024 : Shape := ⟨3, ![32, 256, 1024]⟩
abbrev S1024 : Shape := ⟨1, ![1024]⟩
abbrev S4x2048x1024 : Shape := ⟨3, ![4, 2048, 1024]⟩
abbrev S1x1024 : Shape := ⟨2, ![1, 1024]⟩
abbrev S8x1024x256 : Shape := ⟨3, ![8, 1024, 256]⟩
abbrev S1x2048x1024 : Shape := ⟨3, ![1, 2048, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2048 : Shape := ⟨2, ![512, 2048]⟩
abbrev S2048x1024 : Shape := ⟨2, ![2048, 1024]⟩

abbrev nBuf : Space → Nat
  | .hbm => 13
  | .vmem => 12
  | .smem => 0
  | _ => 0

abbrev bufTy : (tb : Table) → Fin (tcTables nBuf tb) → BufTy
  | .hbm, ⟨0, _⟩ => ⟨S512x1024, .bf16⟩
  | .hbm, ⟨1, _⟩ => ⟨S512x128, .f32⟩
  | .hbm, ⟨2, _⟩ => ⟨S512x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S4x2048x1024, .bf16⟩
  | .hbm, ⟨11, _⟩ => ⟨S1x1024, .f32⟩
  | .hbm, ⟨12, _⟩ => ⟨S512x1024, .f32⟩
  | .local _ .vmem, ⟨0, _⟩ => ⟨S512x1024, .bf16⟩
  | .local _ .vmem, ⟨1, _⟩ => ⟨S512x128, .f32⟩
  | .local _ .vmem, ⟨2, _⟩ => ⟨S512x1024, .f32⟩
  | .local _ .vmem, ⟨3, _⟩ => ⟨S8x1024x256, .bf16⟩
  | .local _ .vmem, ⟨4, _⟩ => ⟨S8x1024x256, .bf16⟩
  | .local _ .vmem, ⟨5, _⟩ => ⟨S8x1024x256, .bf16⟩
  | .local _ .vmem, ⟨6, _⟩ => ⟨S8x1024x256, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32_92 : BitVec 32 := 3#32
  let v175 : BitVec 1 := Scalar.cmpi .eq arg1 c3_i32_92
  let v176 : BitVec 32 := Scalar.extui v175
  let c0_i32_93 : BitVec 32 := 0#32
  let v177 : BitVec 1 := Scalar.cmpi .ne v176 c0_i32_93
  v177

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference3Ideal.lean ====
abbrev S512x1024 : Shape := ⟨2, ![512, 1024]⟩
abbrev S512x128 : Shape := ⟨2, ![512, 128]⟩
abbrev S32x1024x256 : Shape := ⟨3, ![32, 1024, 256]⟩
abbrev S32x256x1024 : Shape := ⟨3, ![32, 256, 1024]⟩
abbrev S1024 : Shape := ⟨1, ![1024]⟩
abbrev S512x32 : Shape := ⟨2, ![512, 32]⟩
abbrev S32x256x512 : Shape := ⟨3, ![32, 256, 512]⟩
abbrev S32x512x256 : Shape := ⟨3, ![32, 512, 256]⟩
abbrev S_ : Shape := ⟨0, ![]⟩
abbrev S32x512 : Shape := ⟨2, ![32, 512]⟩
abbrev S32x512x1 : Shape := ⟨3, ![32, 512, 1]⟩
abbrev S32x512x1024 : Shape := ⟨3, ![32, 512, 1024]⟩
abbrev S512 : Shape := ⟨1, ![512]⟩
abbrev S512x1 : Shape := ⟨2, ![512, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x128, .f32⟩
  | .hbm, ⟨2, _⟩ => ⟨S512x1024, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S512x1024, .f32⟩
  | .hbm, ⟨8, _⟩ => ⟨S512x32, .f32⟩
  | .hbm, ⟨9, _⟩ => ⟨S32x256x512, .f32⟩
  | .hbm, ⟨10, _⟩ => ⟨S32x512x256, .f32⟩
  | .hbm, ⟨11, _⟩ => ⟨S32x512x256, .f32⟩
  | .hbm, ⟨12, _⟩ => ⟨S32x512x256, .f32⟩
  | .hbm, ⟨13, _⟩ => ⟨S_, .f32⟩
  | .hbm, ⟨14, _⟩ => ⟨S32x512x256, .f32⟩
  | .hbm, ⟨15, _⟩ => ⟨S32x512x256, .f32⟩
  | .hbm, ⟨16, _⟩ => ⟨S_, .f32⟩
  | .hbm, ⟨17, _⟩ => ⟨S32x512x256, .f32⟩
  | .hbm, ⟨18, _⟩ => ⟨S32x512x256, .f32⟩
  | .hbm, ⟨19, _⟩ => ⟨S32x512x256, .f32⟩
  | .hbm, ⟨20, _⟩ => ⟨S32x256x512, .f32⟩
  | .hbm, ⟨21, _⟩ => ⟨S32x512x256, .f32⟩
  | .hbm, ⟨22, _⟩ => ⟨S32x512x256, .f32⟩
  | .hbm, ⟨23, _⟩ => ⟨S32x512, .f32⟩
  | .hbm, ⟨24, _⟩ => ⟨S32x512x1, .f32⟩
  | .hbm, ⟨25, _⟩ => ⟨S32x512x1024, .f32⟩
  | .hbm, ⟨26, _⟩ => ⟨S32x512x1024, .f32⟩
  | .hbm, ⟨27, _⟩ => ⟨S32x512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x1, .f32⟩
  | .hbm, ⟨42, _⟩ => ⟨S512x1024, .f32⟩
  | .hbm, ⟨43, _⟩ => ⟨S512x1024, .f32⟩
  | .hbm, ⟨44, _⟩ => ⟨S1x1024, .f32⟩
  | .hbm, ⟨45, _⟩ => ⟨S512x1024, .f32⟩
  | .hbm, ⟨46, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Kernel4.lean ====
abbrev S8x64x1024 : Shape := ⟨3, ![8, 64, 1024]⟩
abbrev S8x3x1024 : Shape := ⟨3, ![8, 3, 1024]⟩
abbrev S8x1024 : Shape := ⟨2, ![8, 1024]⟩
abbrev S8x128x4x64 : Shape := ⟨4, ![8, 128, 4, 64]⟩
abbrev S32x16 : Shape := ⟨2, ![32, 16]⟩
abbrev S1024 : Shape := ⟨1, ![1024]⟩
abbrev S1024x5632 : Shape := ⟨2, ![1024, 5632]⟩
abbrev S2048 : Shape := ⟨1, ![2048]⟩
abbrev S4x1024 : Shape := ⟨2, ![4, 1024]⟩
abbrev S16x64x64 : Shape := ⟨3, ![16, 64, 64]⟩
abbrev S16 : Shape := ⟨1, ![16]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S5632 : Shape := ⟨1, ![5632]⟩
abbrev S_ : Shape := ⟨0, ![]⟩
abbrev S1x5632 : Shape := ⟨2, ![1, 5632]⟩
abbrev S4x4x64x1x64 : Shape := ⟨5, ![4, 4, 64, 1, 64]⟩
abbrev S4x4 : Shape := ⟨2, ![4, 4]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S1x2048 : Shape := ⟨2, ![1, 2048]⟩
abbrev S256 : Shape := ⟨1, ![256]⟩
abbrev S256x1 : Shape := ⟨2, ![256, 1]⟩
abbrev S256x16 : Shape := ⟨2, ![256, 16]⟩
abbrev S16x256 : Shape := ⟨2, ![16, 256]⟩
abbrev S512x1024 : Shape := ⟨2, ![512, 1024]⟩
abbrev S8x8x1024 : Shape := ⟨3, ![8, 8, 1024]⟩
abbrev S8x1x1024 : Shape := ⟨3, ![8, 1, 1024]⟩
abbrev S8x128x256 : Shape := ⟨3, ![8, 128, 256]⟩
abbrev S8x128x4x128 : Shape := ⟨4, ![8, 128, 4, 128]⟩
abbrev S8x128x512 : Shape := ⟨3, ![8, 128, 512]⟩
abbrev S512x128 : Shape := ⟨2, ![512, 128]⟩
abbrev S8x64x256 : Shape := ⟨3, ![8, 64, 256]⟩
abbrev S8x192x512 : Shape := ⟨3, ![8, 192, 512]⟩
abbrev S8x192x1024 : Shape := ⟨3, ![8, 192, 1024]⟩
abbrev S8x512x128 : Shape := ⟨3, ![8, 512, 128]⟩
abbrev S512x3584 : Shape := ⟨2, ![512, 3584]⟩
abbrev S4x256x192 : Shape := ⟨3, ![4, 256, 192]⟩
abbrev S8x128x128 : Shape := ⟨3, ![8, 128, 128]⟩
abbrev S1x256 : Shape := ⟨2, ![1, 256]⟩
abbrev S64x256 : Shape := ⟨2, ![64, 256]⟩
abbrev S64x192 : Shape := ⟨2, ![64, 192]⟩
abbrev S1x64x192 : Shape := ⟨3, ![1, 64, 192]⟩
abbrev S512 : Shape := ⟨1, ![512]⟩
abbrev S512x1 : Shape := ⟨2, ![512, 1]⟩
abbrev S64x1024 : Shape := ⟨2, ![64, 1024]⟩
abbrev S1x8x1024 : Shape := ⟨3, ![1, 8, 1024]⟩
abbrev S1024x256 : Shape := ⟨2, ![1024, 256]⟩
abbrev S512x256 : Shape := ⟨2, ![512, 256]⟩
abbrev S56x1024 : Shape := ⟨2, ![56, 1024]⟩
abbrev S3x1024 : Shape := ⟨2, ![3, 1024]⟩
abbrev S1x3x1024 : Shape := ⟨3, ![1, 3, 1024]⟩
abbrev S1x256x512 : Shape := ⟨3, ![1, 256, 512]⟩
abbrev S256x512 : Shape := ⟨2, ![256, 512]⟩
abbrev S512x512 : Shape := ⟨2, ![512, 512]⟩
abbrev S1x512x128 : Shape := ⟨3, ![1, 512, 128]⟩
abbrev S8x128 : Shape := ⟨2, ![8, 128]⟩
abbrev S1x8x128 : Shape := ⟨3, ![1, 8, 128]⟩
abbrev S64x128 : Shape := ⟨2, ![64, 128]⟩
abbrev S1x64x128 : Shape := ⟨3, ![1, 64, 128]⟩
abbrev S1x64x256 : Shape := ⟨3, ![1, 64, 256]⟩
abbrev S256x128 : Shape := ⟨2, ![256, 128]⟩
abbrev S1x192x128 : Shape := ⟨3, ![1, 192, 128]⟩
abbrev S192x128 : Shape := ⟨2, ![192, 128]⟩
abbrev S1x192x256 : Shape := ⟨3, ![1, 192, 256]⟩
abbrev S192x256 : Shape := ⟨2, ![192, 256]⟩
abbrev S256x192 : Shape := ⟨2, ![256, 192]⟩
abbrev S1x256x192 : Shape := ⟨3, ![1, 256, 192]⟩
abbrev S1 : Shape := ⟨1, ![1]⟩
abbrev S256x256 : Shape := ⟨2, ![256, 256]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩
abbrev S8x64x4x64 : Shape := ⟨4, ![8, 64, 4, 64]⟩

abbrev nBuf : Space → Nat
  | .hbm => 177
  | .vmem => 39
  | .smem => 1
  | _ => 0

abbrev hbmTy0_0 (i : Nat) : BufTy := match i % 128 with
  | 0 => ⟨S8x64x1024, .f32⟩
  | 1 => ⟨S8x3x1024, .f32⟩
  | 2 => ⟨S8x1024, .f32⟩
  | 3 => ⟨S8x128x4x64, .f32⟩
  | 4 => ⟨S8x128x4x64, .f32⟩
  | 5 => ⟨S32x16, .f32⟩
  | 6 => ⟨S1024, .f32⟩
  | 7 => ⟨S1024x5632, .f32⟩
  | 8 => ⟨S2048, .f32⟩
  | 9 => ⟨S4x1024, .f32⟩
  | 10 => ⟨S1024, .f32⟩
  | 11 => ⟨S16x64x64, .f32⟩
  | 12 => ⟨S1024, .f32⟩
  | 13 => ⟨S16x64x64, .f32⟩
  | 14 => ⟨S1024, .f32⟩
  | 15 => ⟨S1024, .f32⟩
  | 16 => ⟨S16, .f32⟩
  | 17 => ⟨S1024x1024, .f32⟩
  | 18 => ⟨S1024x1024, .f32⟩
  | 19 => ⟨S1024x1024, .f32⟩
  | 20 => ⟨S1024, .f32⟩
  | 21 => ⟨S1024x4, .f32⟩
  | 22 => ⟨S4, .f32⟩
  | 23 => ⟨S1024x32, .f32⟩
  | 24 => ⟨S32, .f32⟩
  | 25 => ⟨S5632, .i32⟩
  | 26 => ⟨S_, .i32⟩
  | 27 => ⟨S5632, .i32⟩
  | 28 => ⟨S5632, .i1⟩
  | 29 => ⟨S_, .f32⟩
  | 30 => ⟨S_, .f32⟩
  | 31 => ⟨S5632, .f32⟩
  | 32 => ⟨S5632, .f32⟩
  | 33 => ⟨S5632, .f32⟩
  | 34 => ⟨S5632, .f32⟩
  | 35 => ⟨S1x5632, .f32⟩
  | 36 => ⟨S1024x5632, .f32⟩
  | 37 => ⟨S1024x5632, .f32⟩
  | 38 => ⟨S4x4x64x1x64, .f32⟩
  | 39 => ⟨S4x4, .i32⟩
  | 40 => ⟨S4x4, .i32⟩
  | 41 => ⟨S_, .i32⟩
  | 42 => ⟨S4x4, .i32⟩
  | 43 => ⟨S4x4, .i32⟩
  | 44 => ⟨S4x4, .i1⟩
  | 45 => ⟨S4x4, .f32⟩
  | 46 => ⟨S1x4x1x4x1, .f32⟩
  | 47 => ⟨S4x4x64x4x64, .f32⟩
  | 48 => ⟨S4x4x64x4x64, .f32⟩
  | 49 => ⟨S4x4x64x4x64, .f32⟩
  | 50 => ⟨S4x256x256, .f32⟩
  | 51 => ⟨S4x4x64x1x64, .f32⟩
  | 52 => ⟨S4x4, .i32⟩
  | 53 => ⟨S4x4, .i32⟩
  | 54 => ⟨S_, .i32⟩
  | 55 => ⟨S4x4, .i32⟩
  | 56 => ⟨S4x4, .i32⟩
  | 57 => ⟨S4x4, .i1⟩
  | 58 => ⟨S4x4, .f32⟩
  | 59 => ⟨S1x4x1x4x1, .f32⟩
  | 60 => ⟨S4x4x64x4x64, .f32⟩
  | 61 => ⟨S4x4x64x4x64, .f32⟩
  | 62 => ⟨S4x4x64x4x64, .f32⟩
  | 63 => ⟨S4x256x256, .f32⟩
  | 64 => ⟨S4x256x512, .f32⟩
  | 65 => ⟨S_, .f32⟩
  | 66 => ⟨S4x256x512, .f32⟩
  | 67 => ⟨S4x256x512, .f32⟩
  | 68 => ⟨S4x256x512, .bf16⟩
  | 69 => ⟨S_, .f32⟩
  | 70 => ⟨S1024x92, .f32⟩
  | 71 => ⟨S1024x128, .f32⟩
  | 72 => ⟨S1024x128, .bf16⟩
  | 73 => ⟨S_, .f32⟩
  | 74 => ⟨S92, .f32⟩
  | 75 => ⟨S128, .f32⟩
  | 76 => ⟨S1x128, .f32⟩
  | 77 => ⟨S1x1024, .f32⟩
  | 78 => ⟨S1024x5632, .bf16⟩
  | 79 => ⟨S1x2048, .f32⟩
  | 80 => ⟨S1x1024, .f32⟩
  | 81 => ⟨S1x1024, .f32⟩
  | 82 => ⟨S1x1024, .f32⟩
  | 83 => ⟨S1x1024, .f32⟩
  | 84 => ⟨S256, .i32⟩
  | 85 => ⟨S_, .i32⟩
  | 86 => ⟨S256, .i32⟩
  | 87 => ⟨S256, .i32⟩
  | 88 => ⟨S256, .i32⟩
  | 89 => ⟨S_, .i32⟩
  | 90 => ⟨S256, .i32⟩
  | 91 => ⟨S256, .i1⟩
  | 92 => ⟨S_, .i32⟩
  | 93 => ⟨S_, .i32⟩
  | 94 => ⟨S256, .i32⟩
  | 95 => ⟨S256, .i32⟩
  | 96 => ⟨S256, .i32⟩
  | 97 => ⟨S256, .i32⟩
  | 98 => ⟨S_, .i32⟩
  | 99 => ⟨S256, .i32⟩
  | 100 => ⟨S256, .i32⟩
  | 101 => ⟨S256, .f32⟩
  | 102 => ⟨S_, .f32⟩
  | 103 => ⟨S256, .f32⟩
  | 104 => ⟨S256, .f32⟩
  | 105 => ⟨S256, .f32⟩
  | 106 => ⟨S_, .f32⟩
  | 107 => ⟨S256, .f32⟩
  | 108 => ⟨S256, .f32⟩
  | 109 => ⟨S_, .f32⟩
  | 110 => ⟨S256, .f32⟩
  | 111 => ⟨S256, .f32⟩
  | 112 => ⟨S256, .i32⟩
  | 113 => ⟨S_, .i32⟩
  | 114 => ⟨S256, .i32⟩
  | 115 => ⟨S256, .i32⟩
  | 116 => ⟨S_, .i32⟩
  | 117 => ⟨S256, .i32⟩
  | 118 => ⟨S256, .i32⟩
  | 119 => ⟨S_, .i32⟩
  | 120 => ⟨S256, .i32⟩
  | 121 => ⟨S256, .i1⟩
  | 122 => ⟨S256, .i32⟩
  | 123 => ⟨S256, .i32⟩
  | 124 => ⟨S256, .i32⟩
  | 125 => ⟨S_, .i32⟩
  | 126 => ⟨S256, .i32⟩
  | 127 => ⟨S256, .i1⟩
  | _ => ⟨S8x64x1024, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S256x16, .f32⟩
  | 6 => ⟨S16x256, .f32⟩
  | 7 => ⟨S_, .f32⟩
  | 8 => ⟨S16x256, .f32⟩
  | 9 => ⟨S16x256, .f32⟩
  | 10 => ⟨S_, .f32⟩
  | 11 => ⟨S1024x1024, .f32⟩
  | 12 => ⟨S1024x1024, .f32⟩
  | 13 => ⟨S1024x1024, .bf16⟩
  | 14 => ⟨S_, .f32⟩
  | 15 => ⟨S1024x1024, .f32⟩
  | 16 => ⟨S1024x1024, .f32⟩
  | 17 => ⟨S1024x1024, .bf16⟩
  | 18 => ⟨S1024x1024, .bf16⟩
  | 19 => ⟨S1x1024, .f32⟩
  | 20 => ⟨S512x1024, .f32⟩
  | 21 => ⟨S_, .i32⟩
  | 22 => ⟨S_, .f32⟩
  | 23 => ⟨S8x8x1024, .f32⟩
  | 24 => ⟨S8x1x1024, .f32⟩
  | 25 => ⟨S8x8x1024, .f32⟩
  | 26 => ⟨S8x128x256, .f32⟩
  | 27 => ⟨S8x128x256, .f32⟩
  | 28 => ⟨S8x128x4x64, .f32⟩
  | 29 => ⟨S8x128x4x128, .f32⟩
  | 30 => ⟨S8x128x512, .f32⟩
  | 31 => ⟨S8x128x512, .bf16⟩
  | 32 => ⟨S8x128x4x64, .f32⟩
  | 33 => ⟨S8x128x4x128, .f32⟩
  | 34 => ⟨S8x128x512, .f32⟩
  | 35 => ⟨S8x128x512, .bf16⟩
  | 36 => ⟨S512x1024, .f32⟩
  | 37 => ⟨S512x1024, .bf16⟩
  | 38 => ⟨S512x128, .f32⟩
  | 39 => ⟨S8x3x1024, .f32⟩
  | 40 => ⟨S8x1024, .f32⟩
  | 41 => ⟨S8x64x256, .f32⟩
  | 42 => ⟨S8x64x256, .f32⟩
  | 43 => ⟨S8x64x4x64, .f32⟩
  | 44 => ⟨S8x64x4x64, .f32⟩
  | 45 => ⟨S8x128x4x64, .f32⟩
  | 46 => ⟨S8x64x4x64, .f32⟩
  | 47 => ⟨S8x64x4x64, .f32⟩
  | 48 => ⟨S8x128x4x64, .f32⟩
  | _ => ⟨S8x64x1024, .f32⟩

abbrev hbmTy (i : Nat) : BufTy := match i / 128 with
  | 0 => hbmTy0_0 i
  | 1 => hbmTy0_1 i
  | _ => ⟨S8x64x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x128x512, .bf16⟩
  | .local _ .vmem, ⟨4, _⟩ => ⟨S8x128x512, .bf16⟩
  | .local _ .vmem, ⟨5, _⟩ => ⟨S1x1024, .f32⟩
  | .local _ .vmem, ⟨6, _⟩ => ⟨S1024x5632, .bf16⟩
  | .local _ .vmem, ⟨7, _⟩ => ⟨S1x2048, .f32⟩
  | .local _ .vmem, ⟨8, _⟩ => ⟨S4x1024, .f32⟩
  | .local _ .vmem, ⟨9, _⟩ => ⟨S1x1024, .f32⟩
  | .local _ .vmem, ⟨10, _⟩ => ⟨S4x256x512, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S16x256, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x128, .bf16⟩
  | .local _ .vmem, ⟨20, _⟩ => ⟨S1x128, .f32⟩
  | .local _ .vmem, ⟨21, _⟩ => ⟨S512x1024, .f32⟩
  | .local _ .vmem, ⟨22, _⟩ => ⟨S512x1024, .bf16⟩
  | .local _ .vmem, ⟨23, _⟩ => ⟨S512x128, .f32⟩
  | .local _ .vmem, ⟨24, _⟩ => ⟨S8x3x1024, .f32⟩
  | .local _ .vmem, ⟨25, _⟩ => ⟨S8x1024, .f32⟩
  | .local _ .vmem, ⟨26, _⟩ => ⟨S8x64x256, .f32⟩
  | .local _ .vmem, ⟨27, _⟩ => ⟨S8x64x256, .f32⟩
  | .local _ .vmem, ⟨28, _⟩ => ⟨S8x8x1024, .f32⟩
  | .local _ .vmem, ⟨29, _⟩ => ⟨S8x8x1024, .f32⟩
  | .local _ .vmem, ⟨30, _⟩ => ⟨S8x192x512, .bf16⟩
  | .local _ .vmem, ⟨31, _⟩ => ⟨S8x192x1024, .bf16⟩
  | .local _ .vmem, ⟨32, _⟩ => ⟨S8x512x128, .f32⟩
  | .local _ .vmem, ⟨33, _⟩ => ⟨S8x512x128, .f32⟩
  | .local _ .vmem, ⟨34, _⟩ => ⟨S512x1024, .bf16⟩
  | .local _ .vmem, ⟨35, _⟩ => ⟨S512x1024, .bf16⟩
  | .local _ .vmem, ⟨36, _⟩ => ⟨S512x3584, .f32⟩
  | .local _ .vmem, ⟨37, _⟩ => ⟨S512x1024, .bf16⟩
  | .local _ .vmem, ⟨38, _⟩ => ⟨S4x256x192, .f32⟩
  | .local _ .smem, ⟨0, _⟩ => ⟨S16, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_c : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_3 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_4 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_5 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_6 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_7 : Ref sig .tc := ⟨.hbm, 89, rfl⟩
abbrev main_v53 : Ref sig .tc := ⟨.hbm, 90, rfl⟩
abbrev main_v54 : Ref sig .tc := ⟨.hbm, 91, rfl⟩
abbrev main_c_8 : Ref sig .tc := ⟨.hbm, 92, rfl⟩
abbrev main_c_9 : Ref sig .tc := ⟨.hbm, 93, rfl⟩
abbrev main_call1_v0 : Ref sig .tc := ⟨.hbm, 94, rfl⟩
abbrev main_call1_v1 : Ref sig .tc := ⟨.hbm, 95, rfl⟩
abbrev main_v55 : Ref sig .tc := ⟨.hbm, 96, rfl⟩
abbrev main_v56 : Ref sig .tc := ⟨.hbm, 97, rfl⟩
abbrev main_c_10 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_11 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_12 : Ref sig .tc := ⟨.hbm, 106, rfl⟩
abbrev main_v63 : Ref sig .tc := ⟨.hbm, 107, rfl⟩
abbrev main_v64 : Ref sig .tc := ⟨.hbm, 108, rfl⟩
abbrev main_cst_13 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_14 : Ref sig .tc := ⟨.hbm, 113, rfl⟩
abbrev main_v68 : Ref sig .tc := ⟨.hbm, 114, rfl⟩
abbrev main_v69 : Ref sig .tc := ⟨.hbm, 115, rfl⟩
abbrev main_c_15 : Ref sig .tc := ⟨.hbm, 116, rfl⟩
abbrev main_v70 : Ref sig .tc := ⟨.hbm, 117, rfl⟩
abbrev main_v71 : Ref sig .tc := ⟨.hbm, 118, rfl⟩
abbrev main_c_16 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_17 : Ref sig .tc := ⟨.hbm, 125, rfl⟩
abbrev main_v77 : Ref sig .tc := ⟨.hbm, 126, rfl⟩
abbrev main_v78 : Ref sig .tc := ⟨.hbm, 127, rfl⟩
abbrev main_c_18 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_19 : Ref sig .tc := ⟨.hbm, 135, rfl⟩
abbrev main_v85 : Ref sig .tc := ⟨.hbm, 136, rfl⟩
abbrev main_v86 : Ref sig .tc := ⟨.hbm, 137, rfl⟩
abbrev main_cst_20 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_21 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_22 : Ref sig .tc := ⟨.hbm, 149, rfl⟩
abbrev main_call3_v0 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109_0 : Ref sig .tc := ⟨.hbm, 164, rfl⟩
abbrev main_v109_1 : Ref sig .tc := ⟨.hbm, 165, rfl⟩
abbrev main_v109_2 : Ref sig .tc := ⟨.hbm, 166, rfl⟩
abbrev main_v109_3 : Ref sig .tc := ⟨.hbm, 167, rfl⟩
abbrev main_v109_4 : Ref sig .tc := ⟨.hbm, 168, rfl⟩
abbrev main_v109_5 : Ref sig .tc := ⟨.hbm, 169, rfl⟩
abbrev main_v109_6 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_stg28_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_stg14_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S512x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S8x3x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S8x64x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S8x64x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== Reference4Ideal.lean ====
abbrev S8x64x1024 : Shape := ⟨3, ![8, 64, 1024]⟩
abbrev S8x3x1024 : Shape := ⟨3, ![8, 3, 1024]⟩
abbrev S8x1024 : Shape := ⟨2, ![8, 1024]⟩
abbrev S8x128x4x64 : Shape := ⟨4, ![8, 128, 4, 64]⟩
abbrev S32x16 : Shape := ⟨2, ![32, 16]⟩
abbrev S1024 : Shape := ⟨1, ![1024]⟩
abbrev S1024x5632 : Shape := ⟨2, ![1024, 5632]⟩
abbrev S2048 : Shape := ⟨1, ![2048]⟩
abbrev S4x1024 : Shape := ⟨2, ![4, 1024]⟩
abbrev S16x64x64 : Shape := ⟨3, ![16, 64, 64]⟩
abbrev S16 : Shape := ⟨1, ![16]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S8x64x5632 : Shape := ⟨3, ![8, 64, 5632]⟩
abbrev S8x64x256 : Shape := ⟨3, ![8, 64, 256]⟩
abbrev S8x64x2048 : Shape := ⟨3, ![8, 64, 2048]⟩
abbrev S8x64x4x64 : Shape := ⟨4, ![8, 64, 4, 64]⟩
abbrev S8x192x4x64 : Shape := ⟨4, ![8, 192, 4, 64]⟩
abbrev S8x67x1024 : Shape := ⟨3, ![8, 67, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x3x1024, .f32⟩
  | .hbm, ⟨2, _⟩ => ⟨S8x1024, .f32⟩
  | .hbm, ⟨3, _⟩ => ⟨S8x128x4x64, .f32⟩
  | .hbm, ⟨4, _⟩ => ⟨S8x128x4x64, .f32⟩
  | .hbm, ⟨5, _⟩ => ⟨S32x16, .f32⟩
  | .hbm, ⟨6, _⟩ => ⟨S1024, .f32⟩
  | .hbm, ⟨7, _⟩ => ⟨S1024x5632, .f32⟩
  | .hbm, ⟨8, _⟩ => ⟨S2048, .f32⟩
  | .hbm, ⟨9, _⟩ => ⟨S4x1024, .f32⟩
  | .hbm, ⟨10, _⟩ => ⟨S1024, .f32⟩
  | .hbm, ⟨11, _⟩ => ⟨S16x64x64, .f32⟩
  | .hbm, ⟨12, _⟩ => ⟨S1024, .f32⟩
  | .hbm, ⟨13, _⟩ => ⟨S16x64x64, .f32⟩
  | .hbm, ⟨14, _⟩ => ⟨S1024, .f32⟩
  | .hbm, ⟨15, _⟩ => ⟨S1024, .f32⟩
  | .hbm, ⟨16, _⟩ => ⟨S16, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024, .f32⟩
  | .hbm, ⟨21, _⟩ => ⟨S1024x4, .f32⟩
  | .hbm, ⟨22, _⟩ => ⟨S4, .f32⟩
  | .hbm, ⟨23, _⟩ => ⟨S1024x32, .f32⟩
  | .hbm, ⟨24, _⟩ => ⟨S32, .f32⟩
  | .hbm, ⟨25, _⟩ => ⟨S8x64x1024, .f32⟩
  | .hbm, ⟨26, _⟩ => ⟨S_, .f32⟩
  | .hbm, ⟨27, _⟩ => ⟨S8x64, .f32⟩
  | .hbm, ⟨28, _⟩ => ⟨S8x64x1, .f32⟩
  | .hbm, ⟨29, _⟩ => ⟨S_, .f32⟩
  | .hbm, ⟨30, _⟩ => ⟨S8x64x1, .f32⟩
  | .hbm, ⟨31, _⟩ => ⟨S8x64x1, .f32⟩
  | .hbm, ⟨32, _⟩ => ⟨S_, .f32⟩
  | .hbm, ⟨33, _⟩ => ⟨S8x64x1, .f32⟩
  | .hbm, ⟨34, _⟩ => ⟨S8x64x1, .f32⟩
  | .hbm, ⟨35, _⟩ => ⟨S8x64x1, .f32⟩
  | .hbm, ⟨36, _⟩ => ⟨S8x64x1024, .f32⟩
  | .hbm, ⟨37, _⟩ => ⟨S8x64x1024, .f32⟩
  | .hbm, ⟨38, _⟩ => ⟨S1x1x1024, .f32⟩
  | .hbm, ⟨39, _⟩ => ⟨S8x64x1024, .f32⟩
  | .hbm, ⟨40, _⟩ => ⟨S8x64x1024, .f32⟩
  | .hbm, ⟨41, _⟩ => ⟨S8x64x5632, .f32⟩
  | .hbm, ⟨42, _⟩ => ⟨S8x64x1024, .f32⟩
  | .hbm, ⟨43, _⟩ => ⟨S8x64x1024, .f32⟩
  | .hbm, ⟨44, _⟩ => ⟨S8x64x1024, .f32⟩
  | .hbm, ⟨45, _⟩ => ⟨S8x64x256, .f32⟩
  | .hbm, ⟨46, _⟩ => ⟨S8x64x256, .f32⟩
  | .hbm, ⟨47, _⟩ => ⟨S8x64x2048, .f32⟩
  | .hbm, ⟨48, _⟩ => ⟨S8x64x4x64, .f32⟩
  | .hbm, ⟨49, _⟩ => ⟨S8x64x4x64, .f32⟩
  | .hbm, ⟨50, _⟩ => ⟨S8x192x4x64, .f32⟩
  | .hbm, ⟨51, _⟩ => ⟨S8x192x4x64, .f32⟩
  | .hbm, ⟨52, _⟩ => ⟨S8x67x1024, .f32⟩
  | .hbm, ⟨53, _⟩ => ⟨S8x3x1024, .f32⟩
  | .hbm, ⟨54, _⟩ => ⟨S8x128x4x64, .f32⟩
  | .hbm, ⟨55, _⟩ => ⟨S8x128x4x64, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩

abbrev nD : Nat := 1
abbrev τ : Topo := Topo.v7x

variable {F : FTy → Type} [FloatOps F]
-- ==== Proof.Gather.Loop.lean ====
/- The gathering loop of the combine call: what the scratch holds after each trip, for any floats. -/
module

public import proofs.«01_k».proof.Proof.Gen.KernelIdeal.Loops
public import proofs.«01_k».proof.Proof.Gen.KernelIdeal.Launch
public import Idealize.ShloMosaic.Lib.Pipeline.FrameBody
public import Idealize.ShloMosaic.Lib.Pipeline.Value
public import Idealize.ShloMosaic.Lib.WordCmp
public import Idealize.ShloMosaic.Lib.WritesUnit
public import Idealize.ShloMosaic.Lib.WholeRead
public import Idealize.ShloMosaic.Lib.Pipeline.ValueKit

@[expose] public section

set_option maxRecDepth 16384

noncomputable section

namespace Cert.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of positions and the scratch, as the memrefs the body is handed. -/
abbrev tbM : Memref sig .tc .smem S16384 .i32 := Memref.whole main_arg0
abbrev htbM : tbM.IsWhole := Memref.isWhole_whole _
abbrev scM : Memref sig .tc .vmem S1024x512 .i32 := Memref.whole cc0_scratch0
abbrev hscM : scM.IsWhole := Memref.isWhole_whole _

/-- The table on core `c`: its contents, and half of it held at those contents. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The scratch on core `c`, in the same way, held whole. -/
abbrev ScBuf (c : Dev nD) {S : Shape} {e : EltTy} (M : Memref sig .tc .vmem S e) : Type := Buf (Elt F) (M.view.loc (c : Thread nD τ))
abbrev scPt (c : Dev nD) {S : Shape} {e : EltTy} (M : Memref sig .tc .vmem S e) (f : ScBuf (F := F) c M) : sProp 𝕄 :=
  M.view.loc (c : Thread nD τ) ↦{fullShare} f

/-- The place of token `n` in the table. -/
def tokIx (n : ℕ) : S16384.Idx := fun | ⟨0, _⟩ => ⟨n % 16384, Nat.mod_lt _ (by decide)⟩
/-- The place of word `l` of slot `s`. -/
def slotIx (s : ℕ) (l : Fin 512) : S18432x512.Idx := fun | ⟨0, _⟩ => ⟨s % 18432, Nat.mod_lt _ (by decide)⟩ | ⟨1, _⟩ => l

/-- The rows gathered at grid point `i`: row `r` is the slot the table names for token `1024 i + r`. -/
def gathered (tb : Vec F S16384 .i32) (o : Vec F S18432x512 .i32) (i : grid0.Coords) : Vec F S1024x512 .i32 :=
  fun j => o (slotIx (tb (tokIx (1024 * (i 0).val + (j 0).val)) : BitVec 32).toNat (j 1))

/-- A row of the slots below the last is in bounds. -/
theorem row_inb (v : BitVec 32) (h : v.toNat < 18432) : ∀ a, (![v.toNat, 0] : Fin 2 → ℕ) a + S1x512.size a ≤ S18432x512.size a := by
  intro a
  match a with
  | ⟨0, _⟩ => show v.toNat + 1 ≤ 18432; omega
  | ⟨1, _⟩ => show 0 + 512 ≤ 512; omega

/-- A word of the table, loaded at token `n`. -/
theorem word_eq (c : Dev nD) (tb : TbBuf (F := F) c tbM) {off : Fin 1 → ℕ} {n : ℕ} (hoff : off = ![n]) (hn : n < 16384)
    (inb : ∀ a, off a + S1.size a ≤ S16384.size a) (y : S1.Idx) :
    View.readAt (Elt F) tbM.view (Rect.unit (s := S16384) off S1.size inb).toLoadRect tb y = tb (tokIx n) := by
  subst hoff
  refine congrArg tb (funext fun a => Fin.ext ?_)
  match a with
  | ⟨0, _⟩ =>
    have hy : (y 0).val < 1 := (y 0).isLt
    show n + 1 * (y 0).val = n % 16384
    rw [Nat.mod_eq_of_lt hn]; omega

/-- A row of the slots, loaded at slot `v`. -/
theorem row_eq {arg2 : Memref sig .tc .vmem S18432x512 .i32} (harg2 : arg2.IsWhole) (o : Vec F S18432x512 .i32) {v w : BitVec 32}
    (hv : v.toNat < 18432) (hw : v = w) {off : Fin 2 → ℕ} (hoff : off = ![v.toNat, 0]) (inb : ∀ a, off a + S1x512.size a ≤ S18432x512.size a)
    (x : S1x512.Idx) (l : Fin 512) (hl : (x 1).val = l.val) :
    View.readAt (Elt F) arg2.view (Rect.unit (s := S18432x512) off S1x512.size inb).toLoadRect (harg2.unread o) x = o (slotIx w.toNat l) := by
  subst hoff hw
  refine (harg2.readAt_unread o (Rect.unit (s := S18432x512) ![v.toNat, 0] S1x512.size inb).toLoadRect x).trans (congrArg o (funext fun a => Fin.ext ?_))
  match a with
  | ⟨0, _⟩ =>
    have hy : (x 0).val < 1 := (x 0).isLt
    show v.toNat + 1 * (x 0).val = v.toNat % 18432
    rw [Nat.mod_eq_of_lt hv]; omega
  | ⟨1, _⟩ => show 0 + 1 * (x 1).val = l.val; omega

/-- Eight rows put together, at an index: the row its first coordinate names. -/
theorem rows_eq (r0 r1 r2 r3 r4 r5 r6 r7 : Vec F S1x512 .i32) (j : S8x512.Idx) (v : Elt F .i32)
    (h0 : (j 0).val = 0 → ∀ x : S1x512.Idx, (x 1).val = (j 1).val → r0 x = v)
    (h1 : (j 0).val = 1 → ∀ x : S1x512.Idx, (x 1).val = (j 1).val → r1 x = v)
    (h2 : (j 0).val = 2 → ∀ x : S1x512.Idx, (x 1).val = (j 1).val → r2 x = v)
    (h3 : (j 0).val = 3 → ∀ x : S1x512.Idx, (x 1).val = (j 1).val → r3 x = v)
    (h4 : (j 0).val = 4 → ∀ x : S1x512.Idx, (x 1).val = (j 1).val → r4 x = v)
    (h5 : (j 0).val = 5 → ∀ x : S1x512.Idx, (x 1).val = (j 1).val → r5 x = v)
    (h6 : (j 0).val = 6 → ∀ x : S1x512.Idx, (x 1).val = (j 1).val → r6 x = v)
    (h7 : (j 0).val = 7 → ∀ x : S1x512.Idx, (x 1).val = (j 1).val → r7 x = v) :
    k0_pay1 r0 r1 r2 r3 r4 r5 r6 r7 j = v := by
  unfold k0_pay1
  rw [shapeCast_self]
  refine concatenate_unit_eq 0 _ _ j v rfl ?_
  exact ⟨fun hn _ x _ hb => h0 hn x (hb 1 (by decide)), fun hn _ x _ hb => h1 hn x (hb 1 (by decide)),
    fun hn _ x _ hb => h2 hn x (hb 1 (by decide)), fun hn _ x _ hb => h3 hn x (hb 1 (by decide)),
    fun hn _ x _ hb => h4 hn x (hb 1 (by decide)), fun hn _ x _ hb => h5 hn x (hb 1 (by decide)),
    fun hn _ x _ hb => h6 hn x (hb 1 (by decide)), fun hn _ x _ hb => h7 hn x (hb 1 (by decide)), trivial⟩

/-- The scratch is read as it lies. -/
theorem read_sc (c : Dev nD) (f : ScBuf (F := F) c scM) (j : S1024x512.Idx) : f j = scM.view.read (Elt F) f j := rfl

/-- A place among eight rows. -/
def eightIx (r : ℕ) (l : Fin 512) : S8x512.Idx := fun | ⟨0, _⟩ => ⟨r % 8, Nat.mod_lt _ (by decide)⟩ | ⟨1, _⟩ => l

/-- The scratch after a trip's store, at a row stored, -/
theorem written_mem (c : Dev nD) (f : ScBuf (F := F) c scM) (k : Fin k0_t1_loop.trips) (w : Vec F S8x512 .i32)
    (inb : ∀ a, k0_off17 k a + (![8, 512] : Fin 2 → ℕ) a ≤ S1024x512.size a) (j : S1024x512.Idx)
    (h0 : 8 * k.val ≤ (j 0).val) (h1 : (j 0).val < 8 * (k.val + 1)) :
    scM.view.writes (Elt F) f [⟨Rect.unit (s := S1024x512) (k0_off17 k) ![8, 512] inb, w⟩] j
      = w (eightIx ((j 0).val - 8 * k.val) (j 1)) :=
  (read_sc c _ j).trans <| View.read_writes_cons_unit_of_mem scM.view f (s := S1024x512) (off' := ![8 * k.val, 0]) (size := ![8, 512]) inb w [] j
    (eightIx ((j 0).val - 8 * k.val) (j 1)) (k0_off17_eq k) (fun a => by
      match a with
      | ⟨0, _⟩ => show (j 0).val = 8 * k.val + ((j 0).val - 8 * k.val) % 8; omega
      | ⟨1, _⟩ => show (j 1).val = 0 + (j 1).val; omega)

/-- and at an earlier row. -/
theorem written_not_mem (c : Dev nD) (f : ScBuf (F := F) c scM) (k : Fin k0_t1_loop.trips) (w : Vec F S8x512 .i32)
    (inb : ∀ a, k0_off17 k a + (![8, 512] : Fin 2 → ℕ) a ≤ S1024x512.size a) (j : S1024x512.Idx)
    (h : (j 0).val < 8 * k.val) :
    scM.view.writes (Elt F) f [⟨Rect.unit (s := S1024x512) (k0_off17 k) ![8, 512] inb, w⟩] j = f j :=
  (read_sc c _ j).trans <| View.read_writes_cons_unit_of_not_mem scM.view f (s := S1024x512) (off' := ![8 * k.val, 0]) (size := ![8, 512]) inb w [] j
    (k0_off17_eq k) 0 (.inl h)

/-- The gathered row, its token counted from the trip's first. -/
theorem gathered_row (tb : Vec F S16384 .i32) (o : Vec F S18432x512 .i32) (i : grid0.Coords) (j : S1024x512.Idx) (b r : ℕ) {d : ℕ}
    (h : 1024 * (i 0).val + (j 0).val = b + d) (e : d = r) :
    gathered tb o i j = o (slotIx (tb (tokIx (b + r)) : BitVec 32).toNat (j 1)) := by
  subst e; unfold gathered; rw [h]

/-- The loop: before trip `k` the first `8 k` rows of the scratch are gathered. -/
@[sl_loop, instance_reducible] def gatherLoop (c : Dev nD) (i : grid0.Coords)
    (arg2 : Memref sig .tc .vmem S18432x512 .i32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (arg0 : BitVec 32) (tb : TbBuf (F := F) c tbM) (hpos : ∀ j : S16384.Idx, (tb j : BitVec 32).toNat < 18432) (o : Vec F S18432x512 .i32) :
    LoopInvTy_k0_t1 (F := F) Unit ℕ (UR sig nD τ) ℕ Variants.none c none Set.univ i tbM htbM arg2 harg2 arg3 harg3 arg4 harg4 arg5 harg5 scM hscM arg0 where
  inv := fun k _ => iprop(tbPt c tbM tb ∗ (arg2.view.loc (c : Thread nD τ) ↦[arg2.view.set]{fullShare} (harg2.unread o)) ∗
    ∃ f : ScBuf (F := F) c scM, scPt c scM f ∗ ⌜∀ j : S1024x512.Idx, (j 0).val < 8 * k → f j = gathered tb o i j⌝)
  step := fun k acc => by
    unfold k0_t1_body
    simp only [k0_part1_eq_skeleton]
    unfold k0_part1_skel
    iintro ⟨HT, HO, %f, HS, %hf⟩
    sl_exec (disch := (first | exact row_inb _ (hpos _)))
    sl_step
    isplitl [HT]; · iexact HT
    isplitl [HO]; · iexact HO
    iexists _
    isplitl [HS]; · iexact HS
    ipureintro
    intro j hj
    have hi : (i 0).val < 16 := (i 0).isLt
    have hk : k.val < 128 := k.isLt
    by_cases h : 8 * k.val ≤ (j 0).val
    · have hjj : 1024 * (i 0).val + (j 0).val = 1024 * (i 0).val + 8 * k.val + ((j 0).val - 8 * k.val) := by omega
      rw [written_mem c f k _ _ j h hj]
      refine rows_eq _ _ _ _ _ _ _ _ _ _ ?_ ?_ ?_ ?_ ?_ ?_ ?_ ?_
      · intro e x hx
        have e' : (j 0).val - 8 * k.val = 0 := by have : ((j 0).val - 8 * k.val) % 8 = 0 := e; omega
        rw [gathered_row tb o i j _ _ hjj e']
        exact row_eq harg2 o (hpos _) (word_eq c tb (k0_off1_eq i k) (by omega) _ _) rfl _ x (j 1) hx
      · intro e x hx
        have e' : (j 0).val - 8 * k.val = 1 := by have : ((j 0).val - 8 * k.val) % 8 = 1 := e; omega
        rw [gathered_row tb o i j _ _ hjj e']
        exact row_eq harg2 o (hpos _) (word_eq c tb (k0_off3_eq i k) (by omega) _ _) rfl _ x (j 1) hx
      · intro e x hx
        have e' : (j 0).val - 8 * k.val = 2 := by have : ((j 0).val - 8 * k.val) % 8 = 2 := e; omega
        rw [gathered_row tb o i j _ _ hjj e']
        exact row_eq harg2 o (hpos _) (word_eq c tb (k0_off5_eq i k) (by omega) _ _) rfl _ x (j 1) hx
      · intro e x hx
        have e' : (j 0).val - 8 * k.val = 3 := by have : ((j 0).val - 8 * k.val) % 8 = 3 := e; omega
        rw [gathered_row tb o i j _ _ hjj e']
        exact row_eq harg2 o (hpos _) (word_eq c tb (k0_off7_eq i k) (by omega) _ _) rfl _ x (j 1) hx
      · intro e x hx
        have e' : (j 0).val - 8 * k.val = 4 := by have : ((j 0).val - 8 * k.val) % 8 = 4 := e; omega
        rw [gathered_row tb o i j _ _ hjj e']
        exact row_eq harg2 o (hpos _) (word_eq c tb (k0_off9_eq i k) (by omega) _ _) rfl _ x (j 1) hx
      · intro e x hx
        have e' : (j 0).val - 8 * k.val = 5 := by have : ((j 0).val - 8 * k.val) % 8 = 5 := e; omega
        rw [gathered_row tb o i j _ _ hjj e']
        exact row_eq harg2 o (hpos _) (word_eq c tb (k0_off11_eq i k) (by omega) _ _) rfl _ x (j 1) hx
      · intro e x hx
        have e' : (j 0).val - 8 * k.val = 6 := by have : ((j 0).val - 8 * k.val) % 8 = 6 := e; omega
        rw [gathered_row tb o i j _ _ hjj e']
        exact row_eq harg2 o (hpos _) (word_eq c tb (k0_off13_eq i k) (by omega) _ _) rfl _ x (j 1) hx
      · intro e x hx
        have e' : (j 0).val - 8 * k.val = 7 := by have : ((j 0).val - 8 * k.val) % 8 = 7 := e; omega
        rw [gathered_row tb o i j _ _ hjj e']
        exact row_eq harg2 o (hpos _) (word_eq c tb (k0_off15_eq i k) (by omega) _ _) rfl _ x (j 1) hx
    · rw [written_not_mem c f k _ _ j (by omega)]
      exact hf j (by omega)

end Cert.Gather

end
-- ==== Proof.Gather.Body.lean ====
/- The body of the combine call at one grid point, for any floats: from the blocks it is handed to the block it leaves. -/
module

public import proofs.«01_k».proof.Proof.Gather.Loop
public import Idealize.ShloMosaic.Lib.VecWindow

@[expose] public section

set_option maxRecDepth 16384

noncomputable section

namespace Cert.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body leaves in its output block: the tokens' rows, the gathered experts' rows added, normalised and scaled. -/
def outBlock (tb : Vec F S16384 .i32) (o : Vec F S18432x512 .i32) (x1 : Vec F S1024x1024 .f32) (g : Vec F S1x1024 .f32)
    (i : grid0.Coords) : Vec F S1024x1024 .f32 :=
  k0_pay2 x1 (gathered tb o i) g

theorem zero2 : (![0, 0] : Fin 2 → ℕ) = fun _ => 0 := by funext a; fin_cases a <;> rfl

/-- What is read back of the one store that covers the output block. -/
theorem out_eq (c : Dev nD) (arg3 : Memref sig .tc .vmem S1024x1024 .f32) (harg3 : arg3.IsWhole)
    (arg4 : Memref sig .tc .vmem S1x1024 .f32) (harg4 : arg4.IsWhole) (arg5 : Memref sig .tc .vmem S1024x1024 .f32)
    (x1 : Vec F S1024x1024 .f32) (x2 : Vec F S1x1024 .f32) (s : ScBuf (F := F) c scM) (f : arg5.view.ty.Contents (Elt F)) :
    View.read (Elt F) arg5.view (arg5.view.writes (Elt F) f
      [⟨Rect.unit ![0, 0] S1024x1024.size inb_S1024x1024_S1024x1024_0_0,
        k0_pay2 (View.readAt (Elt F) arg3.view (Rect.unit ![0, 0] S1024x1024.size inb_S1024x1024_S1024x1024_0_0).toLoadRect (harg3.unread x1))
          (View.readAt (Elt F) scM.view (Rect.unit ![0, 0] S1024x512.size inb_S1024x512_S1024x512_0_0).toLoadRect s)
          (View.readAt (Elt F) arg4.view (Rect.unit ![0, 0] S1x1024.size inb_S1x1024_S1x1024_0_0).toLoadRect (harg4.unread x2))⟩])
      = k0_pay2 x1 s x2 := by
  rw [View.read_writes_full]
  have e1 : View.readAt (Elt F) arg3.view (Rect.unit ![0, 0] S1024x1024.size inb_S1024x1024_S1024x1024_0_0).toLoadRect (harg3.unread x1) = x1 := by
    rw [View.readAt_eq_ld, harg3.read_unread, View.ld_unit_zero zero2]
  have e2 : View.readAt (Elt F) arg4.view (Rect.unit ![0, 0] S1x1024.size inb_S1x1024_S1x1024_0_0).toLoadRect (harg4.unread x2) = x2 := by
    rw [View.readAt_eq_ld, harg4.read_unread, View.ld_unit_zero zero2]
  have e3 : View.readAt (Elt F) scM.view (Rect.unit ![0, 0] S1024x512.size inb_S1024x512_S1024x512_0_0).toLoadRect s = s := by
    rw [View.readAt_eq_ld, View.ld_unit_zero zero2]; rfl
  rw [e1, e2, e3]

set_option maxHeartbeats 1000000 in
/-- The body's triple. -/
theorem body_run (c : Dev nD) (i : grid0.Coords)
    (arg2 : Memref sig .tc .vmem S18432x512 .i32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (x0 : Vec F S18432x512 .i32) (x1 : Vec F S1024x1024 .f32) (x2 : Vec F S1x1024 .f32)
    (tb : TbBuf (F := F) c tbM) (hpos : ∀ j : S16384.Idx, (tb j : BitVec 32).toNat < 18432) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ tbPt c tbM tb ∗ (∃ f : ScBuf (F := F) c scM, scPt c scM f)
        ∗ (iprop(owns (c : Thread nD τ) arg2 fullShare x0 ∗ owns (c : Thread nD τ) arg3 fullShare x1 ∗ owns (c : Thread nD τ) arg4 fullShare x2
            ∗ owns (c : Thread nD τ) arg5 fullShare (outBlock tb x0 x1 x2 i) ∗ tbPt c tbM tb ∗ (∃ f : ScBuf (F := F) c scM, scPt c scM f)) -∗ K ⟨⟩))
      ⊢ wp frame (wpE (defs₀ (F := F)) Variants.none c none) Set.univ
          (cc0_moe_gather_norm i tbM htbM arg2 harg2 arg3 harg3 arg4 harg4 arg5 harg5 scM hscM) K := by
  rw [cc0_moe_gather_norm_eq_skeleton]; unfold cc0_moe_gather_norm_skel
  unfold owns
  iintro ⟨⟨%f0, %hf0, H0⟩, ⟨%f1, %hf1, H1⟩, ⟨%f2, %hf2, H2⟩, ⟨%d3, %f3, -, H3⟩, HT, ⟨%fs, HS⟩, Hk⟩
  obtain rfl := harg2.eq_unread hf0; obtain rfl := harg3.eq_unread hf1; obtain rfl := harg4.eq_unread hf2
  letI := gatherLoop c i arg2 harg2 arg3 harg3 arg4 harg4 arg5 harg5 (BitVec.ofNat 32 (i 0).val) tb hpos x0
  sl_exec
  sl_step
  have hS : fL0 = gathered tb x0 i := funext fun j => hL3 j (by
    have hj : (j 0).val < 1024 := (j 0).isLt
    have ht : Scf.trips k0_t1_loop.lb k0_t1_loop.ub k0_t1_loop.st = 128 := by decide
    omega)
  subst hS
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    exact out_eq c arg3 harg3 arg4 harg4 arg5 x1 x2 (gathered tb x0 i) f3
  isplitl [HT]; · iexact HT
  iexists _; iexact HS

end Cert.Gather

end
-- ==== Proof.Gather.Run.lean ====
/- The run of the combine call, for any floats: from any memory whose positions name slots, the program ends with its
   arguments unchanged, its result holding what the pipeline's points left in it, and every counter at zero. -/
module

public import proofs.«01_k».proof.Proof.Gather.Body
public import Idealize.ShloMosaic.Lib.Claim

@[expose] public section

set_option maxRecDepth 16384

noncomputable section

namespace Cert.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- Core `c`'s buffers when the call is entered: after the one host operation before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host operation writes one buffer only. -/
theorem V_of_ne (c : Dev nD) (b : Ref sig .tc) (h : b ≠ main_v0) : V m c b = m ((c : Thread nD τ).loc b) :=
  StableHlo.after_of_forall_not_mem (b := Proc.devRef .tc b) _ _ (by
    simp only [hostOps0, List.mem_singleton, forall_eq, StableHlo.unary_writes, Finset.mem_singleton]
    exact StableHlo.devRef_ne_of_ne h)

/-! ## The table of positions -/

/-- The table's contents when the call is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- Every position names a slot. -/
def InRange : Prop := ∀ j : S16384.Idx, (tbl m 0 j : BitVec 32).toNat < 18432

/-! ## The blocks -/

/-- Window `w`'s block at point `t`, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves at point `t` of its output. -/
def left (c : Dev nD) (t : Fin (cfgM m).N) : Vec F S1024x1024 .f32 :=
  outBlock (tbl m 0) (iblk m c 0 t) (iblk m c 1 t) (iblk m c 2 t) (grid0.coords t)

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = left m c t := by dsimp only [dats]; try rfl
/-- Input window 0 holds its block at every point. -/
theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Input window 1 holds its block at every point. -/
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Input window 2 holds its block at every point. -/
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body at a point -/

abbrev ms_0 (t : Fin (cfgM m).N) : Memref sig .tc .vmem S18432x512 .i32 := spec0_0.stage ((cfgM m).slots t 0)
abbrev hs_0 (t : Fin (cfgM m).N) : (ms_0 m t).IsWhole := hstage0_0 (((cfgM m).slots t 0).cast nbuf0_0)
abbrev ms_1 (t : Fin (cfgM m).N) : Memref sig .tc .vmem S1024x1024 .f32 := spec0_1.stage ((cfgM m).slots t 1)
abbrev hs_1 (t : Fin (cfgM m).N) : (ms_1 m t).IsWhole := hstage0_1 (((cfgM m).slots t 1).cast nbuf0_1)
abbrev ms_2 (t : Fin (cfgM m).N) : Memref sig .tc .vmem S1x1024 .f32 := spec0_2.stage ((cfgM m).slots t 2)
abbrev hs_2 (t : Fin (cfgM m).N) : (ms_2 m t).IsWhole := hstage0_2 (((cfgM m).slots t 2).cast nbuf0_2)
abbrev ms_3 (t : Fin (cfgM m).N) : Memref sig .tc .vmem S1024x1024 .f32 := spec0_3.stage ((cfgM m).slots t 3)
abbrev hs_3 (t : Fin (cfgM m).N) : (ms_3 m t).IsWhole := hstage0_3 (((cfgM m).slots t 3).cast nbuf0_3)

abbrev bodyAt (t : Fin (cfgM m).N) : Prog (TpuEff nD τ sig (Elt F) Λ₀ .tc) PUnit :=
  cc0_moe_gather_norm (grid0.coords t) tbM htbM (ms_0 m t) (hs_0 m t) (ms_1 m t) (hs_1 m t) (ms_2 m t) (hs_2 m t) (ms_3 m t) (hs_3 m t) scM hscM

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d)))

def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t))

theorem sound_body (hpos : InRange m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = iprop(Pipeline.ΦA spec0 c ∗ Pipeline.ΦT pre0 (tbl m) c) from rfl, PhiT_eq]
  unfold Pipeline.ΦA
  rw [scopedRest0_eq]
  iintro ⟨⟨⟨HS, HR⟩, HT⟩, Ho, ⟨%d0, H0⟩, ⟨%d1, H1⟩, ⟨%d2, H2⟩, ⟨%d3, H3⟩⟩
  iapply (body_run c (grid0.coords t) _ _ _ _ _ _ _ _ (iblk m c 0 t) (iblk m c 1 t) (iblk m c 2 t) (tbl m 0) hpos _)
  isplitl [H0]; · iexact H0
  isplitl [H1]; · iexact H1
  isplitl [H2]; · iexact H2
  isplitl [H3]; · iexists _; iexact H3
  isplitl [HT]; · iexact HT
  isplitl [HS]; · iexact HS
  iintro ⟨H0, H1, H2, H3, HT, HS⟩
  isplitl [HS HR HT]
  · isplitl [HS HR]
    · isplitl [HS]
      · iexact HS
      iexact HR
    iexact HT
  isplitl [Ho]; · iexact Ho
  isplitl [H0]; · iexact H0
  isplitl [H1]; · iexact H1
  isplitl [H2]; · iexact H2
  iexact H3

theorem defs₀_row (t : Fin (cfgM m).N) :
    defs₀ (F := F) .tc (cfgM m).body ((cfgM m).bodyArgs t ((cfgM m).slots t)) = bodyAt m t := by
  unfold defs₀; rw [Defs.onTc_tc]

theorem body_obligation (hpos : InRange m) (c : Dev nD) : BodyObligation (dats (F := F) m 0 c) (defs₀ (F := F)) Variants.none () Set.univ := fun t => by
  rw [bigSep_W0, bigSep_W0, defs₀_row m]
  exact triple_restated (sound_body m hpos c t) rfl .rfl fun _ => .rfl

/-! ## The run -/

set_option backward.isDefEq.respectTransparency.types false in
theorem run_main (hpos : InRange m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m hpos c).loose) (hshare := fun c => (dats m 0 c).share_full fun _ => rfl)
    (howed := fun _ _ => rfl) (V := V m) (hmain := hmain m Variants.none) (hA := A_eq m) (hpf := V_pre m) (hΦ := fun _ _ => rfl)

/-- The arguments end unchanged, the result at what the points left, the counters at zero. -/
theorem run_result (hpos : InRange m) : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
    ∧ ∀ c : Dev nD, r.2.mem ((c.tc : Thread nD τ).loc main_v1) = (dats m 0 c).arrAt 3 (cfgM m).N) :=
  (θ_run defs _ _).mono (fun _ h => ⟨⟨fun c => ⟨
      ((h.1 c).2 main_arg0 (by decide : main_arg0 ∈ Pipeline.restRefs sig spec0)).trans (V_of_ne m c _ (by decide)),
      (Pipeline.FramePost.in_eq h.1 c 0 rfl).trans ((A_eq m c 0).trans (V_of_ne m c main_arg1 (by decide))),
      (Pipeline.FramePost.in_eq h.1 c 1 rfl).trans ((A_eq m c 1).trans (V_of_ne m c main_arg2 (by decide))),
      ((h.1 c).2 main_arg3 (by decide : main_arg3 ∈ Pipeline.restRefs sig spec0)).trans (V_of_ne m c _ (by decide))⟩, h.2⟩,
    fun c => Pipeline.FramePost.out_eq h.1 c 3⟩) (run_main m ρ hpos)

end Cert.Gather

end
-- ==== Proof.Gather.Pre.lean ====
/- The precondition of the claims, read: every entry of the table of positions names a row of the slots. -/
module

public import proofs.«01_k».proof.Defs
public import proofs.«01_k».proof.Proof.Gen.Pre_pos_in_range
public import Idealize.ShloMosaic.Lib.ReduceAll
public import proofs.«01_k».proof.Proof.Gather.Run

@[expose] public section

namespace Cert.Gather

open Idealize.ShloMosaic Idealize.ShloMosaic.TcCoe Idealize.SL.Sem

variable {F : FTy → Type} [FloatOps F]

theorem word_lt {a : BitVec 32} (h0 : 0 ≤ a.toInt) (h1 : a.toInt < 18432) : a.toNat < 18432 := by
  rw [BitVec.toInt_eq_toNat_cond] at h0 h1
  split at h1 <;> omega

/-- The printed precondition, at every position: the word is one of the 18432 row numbers. -/
theorem pos_of_fn (pos : IVec Cert.Pre_pos_in_range.S16384 32) (o : IVec Cert.Pre_pos_in_range.S18432x512 32)
    (x1 : FVec F Cert.Pre_pos_in_range.S16384x1024 .f32) (g : FVec F Cert.Pre_pos_in_range.S1024 .f32)
    (h : Cert.Pre_pos_in_range.fn (F := F) pos o x1 g = fun _ => 1#1) (j : Cert.Pre_pos_in_range.S16384.Idx) :
    (pos j).toNat < 18432 := by
  have hs : Subsingleton Cert.Pre_pos_in_range.S_.Idx := ⟨fun a b => funext fun k => k.elim0⟩
  have e := Host.reduce_andi_all _ _ _ _ (fun k => k.elim0) (congrFun h _) j
  have e2 : IntOp.cmpi .sge (pos j) 0#32 = 1#1 ∧ IntOp.cmpi .slt (pos j) 18432#32 = 1#1 := IntOp.andi_eq_one.1 e
  exact word_lt (by simpa using IntOp.cmpi_sge.1 e2.1) (by simpa using IntOp.cmpi_slt.1 e2.2)

end Cert.Gather

end
-- ==== Proof.Gather.Same.lean ====
/- The combine call's two programs, the kernel and its idealization, have the same text: their bodies, and so their
   definitions, are equal at bit patterns. -/
module

public import proofs.«01_k».proof.Defs
public import proofs.«01_k».proof.Proof.Gen.Kernel
public import proofs.«01_k».proof.Proof.Gen.KernelIdeal

@[expose] public section

set_option maxRecDepth 100000

namespace Cert.Gather

open Idealize.ShloMosaic Idealize.ShloMosaic.TcCoe

/-- The two bodies are one. -/
theorem body_same : Cert.Kernel.cc0_moe_gather_norm (F := Bits) = Cert.KernelIdeal.cc0_moe_gather_norm (F := Bits) := rfl

/-- So are the kernels' definitions, label by label. -/
theorem defs₀_same : Cert.Kernel.defs₀ (F := Bits) = Cert.KernelIdeal.defs₀ (F := Bits) := by
  unfold Cert.Kernel.defs₀ Cert.KernelIdeal.defs₀
  rw [body_same]
  refine congrArg Defs.onTc ?_
  funext l a
  match l, a with
  | ⟨0, _⟩, (t, s) => rfl
  | ⟨_ + 1, h⟩, _ => exact absurd h (Nat.not_lt.2 (Nat.le_add_left _ _))

/-- And the pipelined programs' definitions. -/
theorem defs_same : Cert.Kernel.defs (F := Bits) = Cert.KernelIdeal.defs (F := Bits) := by
  unfold Cert.Kernel.defs Cert.KernelIdeal.defs
  rw [defs₀_same]
  rfl

end Cert.Gather

end
-- ==== Proof.Gather.Rows.lean ====
/- Both programs' results at one element, over the extended reals. -/
module

public import proofs.«01_k».proof.Proof.Gen.ReferenceIdeal.Run
public import proofs.«01_k».proof.Proof.Gather.Body
public import Idealize.ShloMosaic.Lib.Pointwise
public import Idealize.ShloMosaic.Lib.BitcastConvert

@[expose] public section

noncomputable section

namespace Cert.Gather

open Idealize.ShloMosaic Idealize.ShloMosaic.TcCoe
open scoped BigOperators

/-- Column `k` of a row of packed words: the low half of word `k`, or the high half of word `k - 512`. -/
def half (w : Fin 512 → BitVec 32) (k : Fin 1024) : EReal :=
  if h : k.val < 512 then Ideal.ofBits .bf16 ((w ⟨k.val, h⟩).extractLsb' 0 16)
  else Ideal.ofBits .bf16 ((w ⟨k.val - 512, by omega⟩).extractLsb' 16 16)

/-- A row divided by the root of its mean square (and a little more), at one column, scaled. -/
def normed (x : Fin 1024 → EReal) (g : EReal) (k : Fin 1024) : EReal :=
  x k * Ideal.rsqrt (Ideal.div (∑ l, x l * x l) (Ideal.ofBits .f32 0x44800000#32) + Ideal.ofBits .f32 0x358637BD#32) * g

section Kernel
open Cert.KernelIdeal Cert.KernelIdeal.Gen

/-- The kernel's added rows. -/
def kernelSum (v1 : Vec Ideal S1024x1024 .f32) (v2 : Vec Ideal S1024x512 .i32) : FVec Ideal S1024x1024 .f32 :=
  addf v1 (concatenate S1024x1024 1 [⟨S1024x512, unpackElementwise 0 v2⟩, ⟨S1024x512, unpackElementwise 1 v2⟩] concatenates_S1024x512_S1024x512_S1024x1024_d1)

theorem kernelSum_at (v1 : Vec Ideal S1024x1024 .f32) (v2 : Vec Ideal S1024x512 .i32) (r k : Fin 1024) :
    kernelSum v1 v2 (ix2 r k) = v1 (ix2 r k) + half (fun l => v2 (ix2 r l)) k := by
  unfold half
  pointwise [kernelSum]

/-- The kernel's normalisation of added rows. -/
def kernelNorm (v6 : FVec Ideal S1024x1024 .f32) (v7 : Vec Ideal S1x1024 .f32) : FVec Ideal S1024x1024 .f32 :=
  mulf (mulf v6 (broadcastTo S1024x1024 (rsqrt (addf (divf (shapeCast S1024x1 (multiReduction .add [1] S1024 (mulf v6 v6) 0x00000000#32
    reduces_S1024x1024_S1024 (.inl rfl) rfl) shapeCasts_S1024_S1024x1) (broadcast S1024x1 (Scalar.ofBits .f32 0x44800000#32)))
    (broadcast S1024x1 (Scalar.ofBits .f32 0x358637BD#32)))) broadcasts_S1024x1_S1024x1024))
    (broadcastTo S1024x1024 (shapeCast S1x1024 v7 shapeCasts_S1x1024_S1x1024) broadcasts_S1x1024_S1024x1024)

theorem kernelNorm_at (v6 : FVec Ideal S1024x1024 .f32) (v7 : Vec Ideal S1x1024 .f32) (r k : Fin 1024) :
    kernelNorm v6 v7 (ix2 r k) = normed (fun l => v6 (ix2 r l)) (v7 (ix2 0 k)) k := by
  unfold normed
  pointwise [kernelNorm]
  try rfl

theorem pay_eq (v1 : Vec Ideal S1024x1024 .f32) (v2 : Vec Ideal S1024x512 .i32) (v7 : Vec Ideal S1x1024 .f32) :
    k0_pay2 v1 v2 v7 = kernelNorm (kernelSum v1 v2) v7 := rfl

/-- One element of the block the body leaves. -/
theorem outBlock_at (tb : Vec Ideal S16384 .i32) (o : Vec Ideal S18432x512 .i32) (x1 : Vec Ideal S1024x1024 .f32) (g : Vec Ideal S1x1024 .f32)
    (i : grid0.Coords) (r k : Fin 1024) :
    outBlock tb o x1 g i (ix2 r k)
      = normed (fun l => x1 (ix2 r l) + half (fun q => gathered tb o i (ix2 r q)) l) (g (ix2 0 k)) k := by
  unfold outBlock
  rw [pay_eq, kernelNorm_at]
  simp only [kernelSum_at]

end Kernel

section Reference
open Cert.ReferenceIdeal Cert.ReferenceIdeal.Gen

/-- The reference's widened experts' rows, as the host builds them from the packed words. -/
def refRows (o : Vec Ideal S18432x512 .i32) : FVec Ideal S18432x1024 .f32 :=
  extf .f32 (concatenate S18432x1024 1
    [⟨S18432x512, shapeCast _ (extractStridedSlice S18432x512x1 ![0, 0, 0] (bitcastToFloat (F := Ideal) .bf16
        (Host.bitcastConvertNarrow S18432x512x2 16 o splits_S18432x512_w32_S18432x512x2_w16)) slices_S18432x512x2_S18432x512x1_0_0_0)
        shapeCasts_S18432x512x1_S18432x512⟩,
      ⟨S18432x512, shapeCast _ (extractStridedSlice S18432x512x1 ![0, 0, 1] (bitcastToFloat (F := Ideal) .bf16
        (Host.bitcastConvertNarrow S18432x512x2 16 o splits_S18432x512_w32_S18432x512x2_w16)) slices_S18432x512x2_S18432x512x1_0_0_1)
        shapeCasts_S18432x512x1_S18432x512⟩] concatenates_S18432x512_S18432x512_S18432x1024_d1) bitsLt_bf16_f32

theorem refRows_at (o : Vec Ideal S18432x512 .i32) (n : Fin 18432) (k : Fin 1024) :
    refRows o (ix2 n k) = half (fun l => o (ix2 n l)) k := by
  have hd : ∀ (l : Fin 512) (q : Fin 2), splits_S18432x512_w32_S18432x512x2_w16.drop (ix3 n l q) = ix2 n l := fun l q => by
    funext b
    apply Fin.ext
    match b with
    | ⟨0, _⟩ => rfl
    | ⟨1, _⟩ => rfl
  unfold half
  pointwise [refRows, hd]

/-- The positions as the host's indexing normalises them: a negative one counts from the end. -/
def refPos (pos : Vec Ideal S16384 .i32) : IVec S16384x1 32 :=
  broadcastInDim S16384x1 ![0] bcast_S16384_S16384x1_0 (select (cmpi .slt pos (broadcastInDim S16384 ![] bcast_S_S16384 (constantI S_ 32 0#32)))
    (addi pos (broadcastInDim S16384 ![] bcast_S_S16384 (constantI S_ 32 18432#32))) pos)

theorem refPos_at (pos : Vec Ideal S16384 .i32) (n : Fin 16384) (h : (pos (ix1 n)).toNat < 18432) :
    refPos pos (ix2 n 0) = pos (ix1 n) := by
  have h0 : ¬ IntOp.cmpi .slt (pos (ix1 n)) 0#32 = 1#1 := by
    rw [IntOp.cmpi_slt, BitVec.toInt_eq_toNat_cond]
    split <;> simp <;> omega
  pointwise [refPos]
  exact if_neg h0

/-- The printed dimension numbers of that indexing. -/
abbrev D := gather_S18432x1024_S16384x1_S16384x1024_1_0_n_n_0_1_11024

/-- Rows taken by a column of row numbers. -/
theorem take_at {α : Type} (x : S18432x1024.Idx → α) (idx : IVec S16384x1 32) (n : Fin 16384) (k : Fin 1024) :
    Host.gather gather_S18432x1024_S16384x1_S16384x1024_1_0_n_n_0_1_11024 x idx (ix2 n k)
      = x (ix2 ⟨min (idx (ix2 n 0)).toInt.toNat 18431, by omega⟩ k) := by
  unfold Host.gather
  congr 1
  funext a
  refine Fin.ext ?_
  show D.start (ix2 n k) idx a + D.batchCoord (ix2 n k) a + D.offCoord (ix2 n k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 n k) ⟨List.idxOf (0 : Fin 2) D.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · rw [GatherDims.batchCoord_eq_zero _ _ _ List.not_mem_nil]
    have hs : D.start (ix2 n k) idx 1 = 0 := by
      unfold GatherDims.start
      rw [dif_neg (show (1 : Fin 2) ∉ D.startIndexMap from by unfold D gather_S18432x1024_S16384x1_S16384x1024_1_0_n_n_0_1_11024; decide)]
    have hk : (1 : Fin 2) ∈ D.sKept := (GatherDims.mem_sKept _ _).mpr ⟨by unfold D gather_S18432x1024_S16384x1_S16384x1024_1_0_n_n_0_1_11024; decide, List.not_mem_nil⟩
    rw [hs]
    unfold GatherDims.offCoord
    rw [dif_pos hk]
    simp only [Nat.zero_add]
    rfl

/-- The reference's added rows. -/
def refSum (pos : Vec Ideal S16384 .i32) (o : Vec Ideal S18432x512 .i32) (x1 : Vec Ideal S16384x1024 .f32) : FVec Ideal S16384x1024 .f32 :=
  addf x1 (Host.gather gather_S18432x1024_S16384x1_S16384x1024_1_0_n_n_0_1_11024 (refRows o) (refPos pos))

theorem refSum_at (pos : Vec Ideal S16384 .i32) (o : Vec Ideal S18432x512 .i32) (x1 : Vec Ideal S16384x1024 .f32) (n : Fin 16384) (k : Fin 1024)
    (h : (pos (ix1 n)).toNat < 18432) :
    refSum pos o x1 (ix2 n k) = x1 (ix2 n k) + half (fun l => o (ix2 ⟨(pos (ix1 n)).toNat, h⟩ l)) k := by
  show x1 (ix2 n k) + Host.gather gather_S18432x1024_S16384x1_S16384x1024_1_0_n_n_0_1_11024 (refRows o) (refPos pos) (ix2 n k) = _
  rw [take_at, refRows_at]
  have e : min (refPos pos (ix2 n 0)).toInt.toNat 18431 = (pos (ix1 n)).toNat := by
    rw [refPos_at pos n h, BitVec.toInt_eq_toNat_cond]
    split <;> omega
  simp only [e]

/-- The reference's normalisation. -/
def refNorm (x : FVec Ideal S16384x1024 .f32) (g : Vec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem refNorm_at (x : FVec Ideal S16384x1024 .f32) (g : Vec Ideal S1024 .f32) (n : Fin 16384) (k : Fin 1024) :
    refNorm x g (ix2 n k) = normed (fun l => x (ix2 n l)) (g (ix1 k)) k := by
  unfold normed
  pointwise [refNorm]
  try rfl

variable (m : (ℓ : Idealize.ShloMosaic.Loc nD τ sig) → Buf (Elt Ideal) ℓ) (c : Dev nD)

theorem res_eq : Value.res_main_v27 m c
    = refNorm (refSum (m ((c.tc : Thread nD τ).loc main_arg0)) (m ((c.tc : Thread nD τ).loc main_arg1)) (m ((c.tc : Thread nD τ).loc main_arg2)))
        (m ((c.tc : Thread nD τ).loc main_arg3)) := rfl

end Reference

end Cert.Gather

end
-- ==== Proof.Gather.Value.lean ====
/- The combine call's result array, element by element. -/
module

public import proofs.«01_k».proof.Proof.Gather.Run
public import proofs.«01_k».proof.Proof.Gather.Rows
public import Idealize.ShloMosaic.Lib.Pipeline.ValueKit

@[expose] public section

noncomputable section

namespace Cert.Gather

open Cert.KernelIdeal Cert.KernelIdeal.Gen
open Idealize.ShloMosaic Idealize.ShloMosaic.TcCoe Idealize.ShloMosaic.Tactic
open scoped BigOperators

variable (m : (ℓ : Loc nD τ sig) → Buf (Elt Ideal) ℓ)

theorem idx1 : ∀ t : Fin grid0.N, cc0_transform_1 (grid0.coords t) = ![t.val, 0] := by decide +kernel
theorem idx3 : ∀ t : Fin grid0.N, cc0_transform_3 (grid0.coords t) = ![t.val, 0] := by decide +kernel
theorem co : ∀ t : Fin grid0.N, ((grid0.coords t) 0).val = t.val := by decide +kernel

/-- The output block is written back at every point. -/
theorem flush3 (t : Fin (cfgM m).N) : ((cfgM m).win 3).flush t = true := by
  have h : ∀ t : Fin grid0.N, Pipeline.Window.flushOf grid0 true cc0_transform_3 t = true := by decide +kernel
  exact h t

/-- The blocks the body is handed, at their shapes. -/
abbrev b0 (c : Dev nD) (t : Fin (cfgM m).N) : Vec Ideal S18432x512 .i32 := iblk m c 0 t
abbrev b1 (c : Dev nD) (t : Fin (cfgM m).N) : Vec Ideal S1024x1024 .f32 := iblk m c 1 t
abbrev b2 (c : Dev nD) (t : Fin (cfgM m).N) : Vec Ideal S1x1024 .f32 := iblk m c 2 t
abbrev tb (m : (ℓ : Loc nD τ sig) → Buf (Elt Ideal) ℓ) : Vec Ideal S16384 .i32 := tbl m 0

/-- The whole block of packed words is the array of slots. -/
theorem blk0_at (c : Dev nD) (t : Fin (cfgM m).N) (r : Fin 18432) (l : Fin 512) :
    b0 m c t (ix2 r l) = m ((c : Thread nD τ).loc main_arg1) (ix2 r l) := by
  show V m c main_arg1 _ = _
  rw [V_of_ne m c _ (by decide)]
  congr 1
  funext a
  apply Fin.ext
  match a with
  | ⟨0, _⟩ => show 0 * 18432 + 1 * r.val = r.val; omega
  | ⟨1, _⟩ => show 0 * 512 + 1 * l.val = l.val; omega

/-- The tokens' block at point `t` is rows 1024 t and on. -/
theorem blk1_at (c : Dev nD) (t : Fin (cfgM m).N) (r l : Fin 1024) (n : Fin 16384) (hn : n.val = t.val * 1024 + r.val) :
    b1 m c t (ix2 r l) = m ((c : Thread nD τ).loc main_arg2) (ix2 n l) := by
  show V m c main_arg2 _ = _
  rw [V_of_ne m c _ (by decide)]
  congr 1
  funext a
  apply Fin.ext
  match a with
  | ⟨0, _⟩ => show cc0_transform_1 (grid0.coords t) 0 * 1024 + 1 * r.val = n.val; rw [idx1]; show t.val * 1024 + 1 * r.val = n.val; omega
  | ⟨1, _⟩ => show cc0_transform_1 (grid0.coords t) 1 * 1024 + 1 * l.val = l.val; rw [idx1]; show 0 * 1024 + 1 * l.val = l.val; omega

/-- The scale's block is its row. -/
theorem blk2_at (c : Dev nD) (t : Fin (cfgM m).N) (l : Fin 1024) :
    b2 m c t (ix2 0 l) = m ((c : Thread nD τ).loc main_arg3) (ix1 l) := by
  have hV : V m c main_v0 = broadcastInDim S1x1024 ![1] bcast_S1024_S1x1024_1 (m ((c : Thread nD τ).loc main_arg3)) := by
    unfold V; after_results_simp <;> rfl
  show V m c main_v0 _ = _
  rw [hV]
  unfold broadcastInDim
  congr 1
  funext a
  apply Fin.ext
  match a with
  | ⟨0, _⟩ => show 0 * 1024 + 1 * l.val = l.val; omega

/-- The combine call's result at one element: the reference's. -/
def result (c : Dev nD) : Vec Ideal S16384x1024 .f32 :=
  refNorm (refSum (m ((c : Thread nD τ).loc main_arg0)) (m ((c : Thread nD τ).loc main_arg1)) (m ((c : Thread nD τ).loc main_arg2)))
    (m ((c : Thread nD τ).loc main_arg3))

theorem tbl_eq : tb m = m (((0 : Dev nD) : Thread nD τ).loc main_arg0) := V_of_ne m 0 _ (by decide)

theorem left_at (hpos : InRange m) (c : Dev nD) (t : Fin (cfgM m).N) (r k : Fin 1024) (n : Fin 16384) (hn : n.val = t.val * 1024 + r.val) :
    left m c t (ix2 r k) = result m c (ix2 n k) := by
  obtain rfl : c = 0 := Subsingleton.elim _ _
  have hp : (tb m (ix1 n)).toNat < 18432 := hpos (ix1 n)
  rw [tbl_eq] at hp
  have e1 : tokIx (1024 * ((grid0.coords t) 0).val + r.val) = ix1 n := by
    funext a
    apply Fin.ext
    match a with
    | ⟨0, _⟩ => show (1024 * ((grid0.coords t) 0).val + r.val) % 16384 = n.val; rw [co]; have := n.isLt; omega
  have e2 : ∀ s (hs : s < 18432) (q : Fin 512), slotIx s q = ix2 ⟨s, hs⟩ q := by
    intro s hs q
    funext a
    apply Fin.ext
    match a with
    | ⟨0, _⟩ => show s % 18432 = s; omega
    | ⟨1, _⟩ => rfl
  have hw : ∀ q : Fin 512, gathered (tb m) (b0 m 0 t) (grid0.coords t) (ix2 r q)
      = m (((0 : Dev nD) : Thread nD τ).loc main_arg1) (ix2 ⟨(m (((0 : Dev nD) : Thread nD τ).loc main_arg0) (ix1 n) : BitVec 32).toNat, hp⟩ q) := fun q => by
    show b0 m 0 t (slotIx (tb m (tokIx (1024 * ((grid0.coords t) 0).val + r.val)) : BitVec 32).toNat q) = _
    rw [e1, tbl_eq, e2 _ hp]
    exact blk0_at m _ t _ q
  have hx : ∀ l : Fin 1024, b1 m 0 t (ix2 r l) + half (fun q => gathered (tb m) (b0 m 0 t) (grid0.coords t) (ix2 r q)) l
      = refSum (m (((0 : Dev nD) : Thread nD τ).loc main_arg0)) (m (((0 : Dev nD) : Thread nD τ).loc main_arg1)) (m (((0 : Dev nD) : Thread nD τ).loc main_arg2)) (ix2 n l) := fun l => by
    rw [refSum_at _ _ _ n l hp, blk1_at m 0 t r l n hn]
    exact congrArg (fun f => _ + half f l) (funext hw)
  refine (outBlock_at _ _ _ _ _ r k).trans (Eq.trans ?_ (refNorm_at _ _ n k).symm)
  exact congrArg₂ (fun f g => normed f g k) (funext hx) (blk2_at m 0 t k)

theorem flushed_eq (hpos : InRange m) (c : Dev nD) (t : Fin (cfgM m).N) :
    (dats m 0 c).flushed 3 t = (((cfgM m).win 3).blk t).view.read (Elt Ideal) (result m c) := by
  refine funext fun j : S1024x1024.Idx => ?_
  show left m c t j = result m c _
  have hN : t.val < 16 := t.isLt
  have h0 : (j 0).val < 1024 := (j 0).isLt
  refine (congrArg (left m c t) (eq_ix2 j)).trans ((left_at m hpos c t (j 0) (j 1) ⟨t.val * 1024 + (j 0).val, by omega⟩ rfl).trans (congrArg (result m c) ?_))
  funext a
  apply Fin.ext
  match a with
  | ⟨0, _⟩ => show t.val * 1024 + (j 0).val = cc0_transform_3 (grid0.coords t) 0 * 1024 + 1 * (j 0).val; rw [idx3]; show _ = t.val * 1024 + 1 * (j 0).val; omega
  | ⟨1, _⟩ => show (j 1).val = cc0_transform_3 (grid0.coords t) 1 * 1024 + 1 * (j 1).val; rw [idx3]; show _ = 0 * 1024 + 1 * (j 1).val; omega

theorem final (hpos : InRange m) (c : Dev nD) : (dats m 0 c).arrAt 3 (cfgM m).N = result m c := by
  refine (dats m 0 c).arrAt_eq_of_cover 3 (result m c) (fun t _ => flushed_eq m hpos c t) fun i : S16384x1024.Idx => ?_
  have h0 : (i 0 : Nat) < 16384 := (i 0).isLt
  have h1 : (i 1 : Nat) < 1024 := (i 1).isLt
  have ht : (i 0).val / 1024 < 16 := by omega
  let t : Fin (cfgM m).N := (⟨(i 0).val / 1024, ht⟩ : Fin grid0.N)
  refine ⟨t, flush3 m t, ?_⟩
  have hm : i ∈ (((cfgM m).win 3).rect t).set := by
    refine Rect.mem_set_unit.2 fun a => ?_
    match a with
    | ⟨0, _⟩ =>
      show cc0_transform_3 (grid0.coords t) 0 * 1024 ≤ (i 0 : Nat) ∧ (i 0 : Nat) < cc0_transform_3 (grid0.coords t) 0 * 1024 + 1024
      rw [idx3]
      show (i 0).val / 1024 * 1024 ≤ (i 0 : Nat) ∧ (i 0 : Nat) < (i 0).val / 1024 * 1024 + 1024
      omega
    | ⟨1, _⟩ =>
      show cc0_transform_3 (grid0.coords t) 1 * 1024 ≤ (i 1 : Nat) ∧ (i 1 : Nat) < cc0_transform_3 (grid0.coords t) 1 * 1024 + 1024
      rw [idx3]
      show 0 * 1024 ≤ (i 1 : Nat) ∧ (i 1 : Nat) < 0 * 1024 + 1024
      omega
  exact (View.set_slice_whole main_v1 (((cfgM m).win 3).rect t)).symm ▸ hm

end Cert.Gather

end
-- ==== Proof.Experts.Pre.lean ====
/- The second claims' precondition, read: positions name slots, tiles name groups, and the weights of the records are finite and not negative. -/
module

public import proofs.«01_k».proof.Defs
public import proofs.«01_k».proof.Proof.Gen.Pre_slots_in_range
public import Idealize.ShloMosaic.Lib.ReduceAll
public import Idealize.ShloMosaic.Lib.Pointwise

@[expose] public section

noncomputable section

namespace Cert.Experts.Pre

open Idealize.ShloMosaic Idealize.ShloMosaic.TcCoe
open Cert.Pre_slots_in_range Cert.Pre_slots_in_range.Facts

variable {F : FTy → Type} [FloatOps F]

theorem word_lt {a : BitVec 32} {n : ℕ} (h0 : 0 ≤ a.toInt) (h1 : a.toInt < n) : a.toNat < n := by
  rw [BitVec.toInt_eq_toNat_cond] at h0 h1
  split at h1 <;> omega

/-- The weights' part of the printed precondition. -/
def weightsOk (r : FVec F S18432x128 .f32) : IVec S_ 1 :=
  Host.reduce IntOp.andi
    (andi (cmpf .oge (extractStridedSlice S18432x8 ![0, 0] r slices_S18432x128_S18432x8_0_0) (broadcastInDim S18432x8 ![] bcast_S_S18432x8 (constant S_ .f32 0x00000000#32)))
      (cmpf .olt (extractStridedSlice S18432x8 ![0, 0] r slices_S18432x128_S18432x8_0_0) (broadcastInDim S18432x8 ![] bcast_S_S18432x8 (constant S_ .f32 0x7F800000#32))))
    (constantI S_ 1 1#1) reducesTo_S18432x8_S_d0_1 h_S_

/-- The printed precondition, part by part. -/
theorem parts (p : IVec S16384 32) (t : IVec S36 32) (x : IVec S18432x512 32) (r : FVec F S18432x128 .f32) (wg wu : FVec F S32x1024x256 .f32)
    (wd : FVec F S32x256x1024 .f32) (x1 : FVec F S16384x1024 .f32) (g : FVec F S1024 .f32)
    (h : fn (F := F) p t x r wg wu wd x1 g = fun _ => 1#1) :
    (∀ j, (p j).toNat < 18432) ∧ (∀ j, (t j).toNat < 4) ∧ weightsOk r = fun _ => 1#1 := by
  have hs : Subsingleton S_.Idx := ⟨fun a b => funext fun k => k.elim0⟩
  have e := IntOp.andi_eq_one.1 (congrFun h fun k => k.elim0)
  have e' := IntOp.andi_eq_one.1 e.1
  refine ⟨fun j => ?_, fun j => ?_, funext fun q => ?_⟩
  · have e2 : IntOp.cmpi .sge (p j) 0#32 = 1#1 ∧ IntOp.cmpi .slt (p j) 18432#32 = 1#1 := IntOp.andi_eq_one.1 (Host.reduce_andi_all _ _ _ _ (fun k => k.elim0) e'.1 j)
    exact word_lt (by simpa using IntOp.cmpi_sge.1 e2.1) (by simpa using IntOp.cmpi_slt.1 e2.2)
  · have e2 : IntOp.cmpi .sge (t j) 0#32 = 1#1 ∧ IntOp.cmpi .slt (t j) 4#32 = 1#1 := IntOp.andi_eq_one.1 (Host.reduce_andi_all _ _ _ _ (fun k => k.elim0) e'.2 j)
    exact word_lt (by simpa using IntOp.cmpi_sge.1 e2.1) (by simpa using IntOp.cmpi_slt.1 e2.2)
  · rw [Subsingleton.elim q fun k => k.elim0]; exact e.2

theorem ideal_inf : Ideal.ofBits .f32 0x7F800000#32 = ⊤ := by simp [Ideal.ofBits, Ideal.ieee]

/-- Over the extended reals: the eight weights of a record are at least zero and below infinity. -/
theorem weights_of (r : FVec Ideal S18432x128 .f32) (h : weightsOk r = fun _ => 1#1) (n : Fin 18432) (e : Fin 8) :
    (0 : EReal) ≤ r (ix2 n ⟨e.val, by omega⟩) ∧ (r (ix2 n ⟨e.val, by omega⟩) : EReal) ≠ ⊤ := by
  have hs : Subsingleton S_.Idx := ⟨fun a b => funext fun k => k.elim0⟩
  have e1 := IntOp.andi_eq_one.1 (Host.reduce_andi_all _ _ _ _ (fun k => k.elim0) (congrFun h _) (ix2 n e))
  have hx : extractStridedSlice S18432x8 ![0, 0] r slices_S18432x128_S18432x8_0_0 (ix2 n e) = r (ix2 n ⟨e.val, by omega⟩) := by
    show r _ = r _
    congr 1
    funext a
    apply Fin.ext
    match a with
    | ⟨0, _⟩ => show 0 + n.val = n.val; omega
    | ⟨1, _⟩ => show 0 + e.val = e.val; omega
  have e2 : Ideal.cmp .oge (r (ix2 n ⟨e.val, by omega⟩)) (Ideal.ofBits .f32 0x00000000#32) = 1#1 := by rw [← hx]; exact e1.1
  have e3 : Ideal.cmp .olt (r (ix2 n ⟨e.val, by omega⟩)) (Ideal.ofBits .f32 0x7F800000#32) = 1#1 := by rw [← hx]; exact e1.2
  rw [Ideal.ofBits_zero_f32] at e2
  rw [ideal_inf] at e3
  unfold Ideal.cmp at e2 e3
  constructor
  · by_contra hc; simp [hc] at e2
  · intro hc; rw [hc] at e3; simp at e3

end Cert.Experts.Pre

end
-- ==== Proof.Groups.Pre.lean ====
/- The third claims' precondition, read: the weights of the experts are finite and not negative. -/
module

public import proofs.«01_k».proof.Proof.Gen.Pre_weights_in_range
public import proofs.«01_k».proof.Proof.Experts.Pre

@[expose] public section

noncomputable section

namespace Cert.Groups.Pre

open Idealize.ShloMosaic Idealize.ShloMosaic.TcCoe
open Cert.Pre_weights_in_range Cert.Pre_weights_in_range.Facts

/-- Over the extended reals: each of the 32 weights of a token is at least zero and below infinity. -/
theorem weights_of (x : FVec Ideal S512x1024 .bf16) (cb : FVec Ideal S512x128 .f32) (x1 : FVec Ideal S512x1024 .f32) (wg wu : FVec Ideal S32x1024x256 .f32)
    (wd : FVec Ideal S32x256x1024 .f32) (g : FVec Ideal S1024 .f32) (h : fn (F := Ideal) x cb x1 wg wu wd g = fun _ => 1#1) (n : Fin 512) (q : Fin 32) :
    (0 : EReal) ≤ cb (ix2 n ⟨q.val, by omega⟩) ∧ (cb (ix2 n ⟨q.val, by omega⟩) : EReal) ≠ ⊤ := by
  have hs : Subsingleton S_.Idx := ⟨fun a b => funext fun k => k.elim0⟩
  have e1 := IntOp.andi_eq_one.1 (Host.reduce_andi_all _ _ _ _ (fun k => k.elim0) (congrFun h _) (ix2 n q))
  have hx : extractStridedSlice S512x32 ![0, 0] cb slices_S512x128_S512x32_0_0 (ix2 n q) = cb (ix2 n ⟨q.val, by omega⟩) := by
    show cb _ = cb _
    congr 1
    funext a
    apply Fin.ext
    match a with
    | ⟨0, _⟩ => show 0 + n.val = n.val; omega
    | ⟨1, _⟩ => show 0 + q.val = q.val; omega
  have e2 : Ideal.cmp .oge (cb (ix2 n ⟨q.val, by omega⟩)) (Ideal.ofBits .f32 0x00000000#32) = 1#1 := by rw [← hx]; exact e1.1
  have e3 : Ideal.cmp .olt (cb (ix2 n ⟨q.val, by omega⟩)) (Ideal.ofBits .f32 0x7F800000#32) = 1#1 := by rw [← hx]; exact e1.2
  rw [Ideal.ofBits_zero_f32] at e2
  rw [Cert.Experts.Pre.ideal_inf] at e3
  unfold Ideal.cmp at e2 e3
  constructor
  · by_contra hc; simp [hc] at e2
  · intro hc; rw [hc] at e3; simp at e3

end Cert.Groups.Pre

end
-- ==== Proof.Groups.Body.lean ====
/- The third call's body at one grid point, for any floats: what it leaves in the sums it keeps between points, and in its output block. -/
module

public import proofs.«01_k».proof.Proof.Gen.Kernel3Ideal.Frame
public import Idealize.ShloMosaic.Lib.Pipeline.Value
public import Idealize.ShloMosaic.Lib.VecWindow

@[expose] public section

set_option maxRecDepth 16384

noncomputable section

namespace Cert.Groups

open Cert.Kernel3Ideal Cert.Kernel3Ideal.Gen
open Idealize.ShloMosaic Idealize.ShloMosaic.TcCoe Idealize.ShloMosaic.Tactic

variable {F : FTy → Type} [FloatOps F]

theorem zero2 : (![0, 0] : Fin 2 → ℕ) = fun _ => 0 := by funext a; fin_cases a <;> rfl
theorem zero3 : (![0, 0, 0] : Fin 3 → ℕ) = fun _ => 0 := by funext a; fin_cases a <;> rfl

/-- One expert's weights out of its group's. -/
abbrev expert (e : ℕ) (h : ∀ a, (![e, 0, 0] : Fin 3 → ℕ) a + S1x1024x256.size a ≤ S8x1024x256.size a) (w : Vec F S8x1024x256 .bf16) : Vec F S1x1024x256 .bf16 :=
  View.ld w (Rect.unit (s := S8x1024x256) ![e, 0, 0] S1x1024x256.size h)

/-- The sums after a point, from those before it, the tokens, their weights and the group's experts. -/
def stepOf (i : grid0.Coords) (x : Vec F S512x1024 .bf16) (cb : Vec F S512x128 .f32) (acc : Vec F S512x1024 .f32)
    (g0 u0 g1 u1 g2 u2 g3 u3 g4 u4 g5 u5 g6 u6 g7 u7 : Vec F S1x1024x256 .bf16) (wd : Vec F S1x2048x1024 .bf16) : FVec F S512x1024 .f32 :=
  k0_pay1 (k0_pay10 (BitVec.ofNat 32 (i 1).val) cb (iota .tc S512x128 32 [1] iota_S512x128_d1_w32))
    (k0_pay11 (BitVec.ofNat 32 (i 1).val) cb (iota .tc S512x128 32 [1] iota_S512x128_d1_w32)) acc x
    (k0_pay13 (k0_pay4 i cb) x (k0_pay12 g0) (constant S512x256 .f32 0x00000000#32) u0)
    (k0_pay14 (k0_pay5 i cb) x g1 u1) (k0_pay15 (k0_pay6 i cb) x g2 u2)
    (k0_pay17 (k0_pay7 i cb) x (k0_pay16 g3) (constant S512x256 .f32 0x00000000#32) u3)
    (k0_pay18 (k0_pay8 (BitVec.ofNat 32 (i 1).val) cb (iota .tc S512x128 32 [1] iota_S512x128_d1_w32)) x g4 u4)
    (k0_pay19 (k0_pay9 (BitVec.ofNat 32 (i 1).val) cb (iota .tc S512x128 32 [1] iota_S512x128_d1_w32)) x g5 u5)
    (k0_pay20 g6) (constant S512x256 .f32 0x00000000#32) u6 g7 u7 wd

/-- The same, of a group's weights. -/
def stepBlock (i : grid0.Coords) (x : Vec F S512x1024 .bf16) (cb : Vec F S512x128 .f32) (wg wu : Vec F S8x1024x256 .bf16) (wd : Vec F S1x2048x1024 .bf16)
    (acc : Vec F S512x1024 .f32) : FVec F S512x1024 .f32 :=
  stepOf i x cb acc
    (expert 0 inb_S8x1024x256_S1x1024x256_0_0_0 wg) (expert 0 inb_S8x1024x256_S1x1024x256_0_0_0 wu)
    (expert 1 inb_S8x1024x256_S1x1024x256_1_0_0 wg) (expert 1 inb_S8x1024x256_S1x1024x256_1_0_0 wu)
    (expert 2 inb_S8x1024x256_S1x1024x256_2_0_0 wg) (expert 2 inb_S8x1024x256_S1x1024x256_2_0_0 wu)
    (expert 3 inb_S8x1024x256_S1x1024x256_3_0_0 wg) (expert 3 inb_S8x1024x256_S1x1024x256_3_0_0 wu)
    (expert 4 inb_S8x1024x256_S1x1024x256_4_0_0 wg) (expert 4 inb_S8x1024x256_S1x1024x256_4_0_0 wu)
    (expert 5 inb_S8x1024x256_S1x1024x256_5_0_0 wg) (expert 5 inb_S8x1024x256_S1x1024x256_5_0_0 wu)
    (expert 6 inb_S8x1024x256_S1x1024x256_6_0_0 wg) (expert 6 inb_S8x1024x256_S1x1024x256_6_0_0 wu)
    (expert 7 inb_S8x1024x256_S1x1024x256_7_0_0 wg) (expert 7 inb_S8x1024x256_S1x1024x256_7_0_0 wu) wd

/-- The zeros the first point stores. -/
abbrev zeros : Vec F S512x1024 .f32 := k0_pay3

section
variable (c : Dev nD) (i : grid0.Coords) (arg2 : Memref sig .tc .vmem S512x1024 .bf16) (harg2 : arg2.IsWhole) (arg3 : Memref sig .tc .vmem S512x128 .f32) (harg3 : arg3.IsWhole)
    (arg4 : Memref sig .tc .vmem S512x1024 .f32) (harg4 : arg4.IsWhole) (arg5 : Memref sig .tc .vmem S8x1024x256 .bf16) (harg5 : arg5.IsWhole)
    (arg6 : Memref sig .tc .vmem S8x1024x256 .bf16) (harg6 : arg6.IsWhole) (arg7 : Memref sig .tc .vmem S1x2048x1024 .bf16) (harg7 : arg7.IsWhole)
    (arg8 : Memref sig .tc .vmem S1x1024 .f32) (harg8 : arg8.IsWhole) (arg9 : Memref sig .tc .vmem S512x1024 .f32) (harg9 : arg9.IsWhole)
    (arg10 : Memref sig .tc .vmem S512x1024 .f32) (harg10 : arg10.IsWhole)

/-- The first point's sums. -/
theorem sums_A (hc0 : cond0_0 i) (hc1 : ¬cond0_1 i)
    (x0 : Vec F S512x1024 .bf16) (x1 : Vec F S512x128 .f32) (x2 : Vec F S512x1024 .f32) (x3 x4 : Vec F S8x1024x256 .bf16) (x5 : Vec F S1x2048x1024 .bf16) (x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6 = stepBlock i x0 x1 x3 x4 x5 zeros := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x1024) zero2, View.readCov_unit_zero (S := S512x1024) _ zero2]
  simp only [View.readAt_eq_ld, harg2.read_unread, harg3.read_unread, harg4.read_unread, harg5.read_unread, harg6.read_unread, harg7.read_unread, harg8.read_unread,
    harg10.read_unread, View.ld_unit_zero (S := S512x1024) zero2, View.ld_unit_zero (S := S512x128) zero2, View.ld_unit_zero (S := S1x1024) zero2,
    View.ld_unit_zero (S := S1x2048x1024) zero3]
  rfl

/-- A middle point's sums. -/
theorem sums_B (hc0 : ¬cond0_0 i) (hc1 : ¬cond0_1 i)
    (x0 : Vec F S512x1024 .bf16) (x1 : Vec F S512x128 .f32) (x2 : Vec F S512x1024 .f32) (x3 x4 : Vec F S8x1024x256 .bf16) (x5 : Vec F S1x2048x1024 .bf16) (x6 : Vec F S1x1024 .f32) (xs0 : Vec F S512x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = stepBlock i x0 x1 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero zero2]
  simp only [View.readAt_eq_ld, harg2.read_unread, harg3.read_unread, harg4.read_unread, harg5.read_unread, harg6.read_unread, harg7.read_unread, harg8.read_unread,
    harg10.read_unread, View.ld_unit_zero (S := S512x1024) zero2, View.ld_unit_zero (S := S512x128) zero2, View.ld_unit_zero (S := S1x1024) zero2,
    View.ld_unit_zero (S := S1x2048x1024) zero3]
  rfl

/-- The last point's output block. -/
theorem out_C (hc0 : ¬cond0_0 i) (hc1 : cond0_1 i)
    (x0 : Vec F S512x1024 .bf16) (x1 : Vec F S512x128 .f32) (x2 : Vec F S512x1024 .f32) (x3 x4 : Vec F S8x1024x256 .bf16) (x5 : Vec F S1x2048x1024 .bf16) (x6 : Vec F S1x1024 .f32) (xs0 : Vec F S512x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 x2 (stepBlock i x0 x1 x3 x4 x5 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero zero2, View.readCov_unit_zero (S := S512x1024) _ zero2]
  simp only [View.readAt_eq_ld, harg2.read_unread, harg3.read_unread, harg4.read_unread, harg5.read_unread, harg6.read_unread, harg7.read_unread, harg8.read_unread,
    harg10.read_unread, View.ld_unit_zero (S := S512x1024) zero2, View.ld_unit_zero (S := S512x128) zero2, View.ld_unit_zero (S := S1x1024) zero2,
    View.ld_unit_zero (S := S1x2048x1024) zero3]
  rfl

end

end Cert.Groups

end
-- ==== Proof.Experts.Loop.lean ====
/- The gathering loop of the combine call, its rows pairs of halves: what the scratch holds after each trip, for any floats. -/
module

public import proofs.«01_k».proof.Proof.Gen.Kernel2Ideal.Loops
public import proofs.«01_k».proof.Proof.Gen.Kernel2Ideal.Regions
public import Idealize.ShloMosaic.Lib.Pipeline.FrameBody
public import Idealize.ShloMosaic.Lib.Pipeline.Value
public import Idealize.ShloMosaic.Lib.WordCmp
public import Idealize.ShloMosaic.Lib.WritesUnit
public import Idealize.ShloMosaic.Lib.WholeRead
public import Idealize.ShloMosaic.Lib.Bf16PairInverse
public import Idealize.ShloMosaic.Lib.Pipeline.ValueKit

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of positions and the scratch, as the memrefs the body is handed. -/
abbrev tbM : Memref sig .tc .smem S16384 .i32 := Memref.whole main_arg0
abbrev htbM : tbM.IsWhole := Memref.isWhole_whole _
abbrev scM : Memref sig .tc .vmem S1024x2x512 .bf16 := Memref.whole cc1_scratch0
abbrev hscM : scM.IsWhole := Memref.isWhole_whole _

/-- A table on core `c`: its contents, and it held at those contents. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- The scratch on core `c`, in the same way. -/
abbrev ScBuf (c : Dev nD) {S : Shape} {e : EltTy} (M : Memref sig .tc .vmem S e) : Type := Buf (Elt F) (M.view.loc (c : Thread nD τ))
abbrev scPt (c : Dev nD) {S : Shape} {e : EltTy} (M : Memref sig .tc .vmem S e) (f : ScBuf (F := F) c M) : sProp 𝕄 :=
  M.view.loc (c : Thread nD τ) ↦{fullShare} f

/-- The place of token `n` in the table. -/
def tokIx (n : ℕ) : S16384.Idx := fun | ⟨0, _⟩ => ⟨n % 16384, Nat.mod_lt _ (by decide)⟩
/-- The place in slot `s` that `j` has in its own row. -/
def slotIx (s : ℕ) (j : S1024x2x512.Idx) : S18432x2x512.Idx :=
  fun | ⟨0, _⟩ => ⟨s % 18432, Nat.mod_lt _ (by decide)⟩ | ⟨1, _⟩ => j 1 | ⟨2, _⟩ => j 2
/-- The same place in a row by itself. -/
def rowIx (j : S1024x2x512.Idx) : S1x2x512.Idx := fun | ⟨0, _⟩ => (0 : Fin 1) | ⟨1, _⟩ => j 1 | ⟨2, _⟩ => j 2

/-- The rows gathered at grid point `i`: row `r` is the slot the table names for token `1024 i + r`. -/
def gathered (tb : Vec F S16384 .i32) (o : Vec F S18432x2x512 .bf16) (i : grid1.Coords) : Vec F S1024x2x512 .bf16 :=
  fun j => o (slotIx (tb (tokIx (1024 * (i 0).val + (j 0).val)) : BitVec 32).toNat j)

/-- A row of the slots below the last is in bounds. -/
theorem row_inb (v : BitVec 32) (h : v.toNat < 18432) : ∀ a, (![v.toNat, 0, 0] : Fin 3 → ℕ) a + S1x2x512.size a ≤ S18432x2x512.size a := by
  intro a
  match a with
  | ⟨0, _⟩ => show v.toNat + 1 ≤ 18432; omega
  | ⟨1, _⟩ => show 0 + 2 ≤ 2; omega
  | ⟨2, _⟩ => show 0 + 512 ≤ 512; omega

/-- A word of the table, loaded at token `n`. -/
theorem word_eq (c : Dev nD) (tb : TbBuf (F := F) c tbM) {off : Fin 1 → ℕ} {n : ℕ} (hoff : off = ![n]) (hn : n < 16384)
    (inb : ∀ a, off a + S1.size a ≤ S16384.size a) (y : S1.Idx) :
    View.readAt (Elt F) tbM.view (Rect.unit (s := S16384) off S1.size inb).toLoadRect tb y = tb (tokIx n) := by
  subst hoff
  refine congrArg tb (funext fun a => Fin.ext ?_)
  match a with
  | ⟨0, _⟩ =>
    have hy : (y 0).val < 1 := (y 0).isLt
    show n + 1 * (y 0).val = n % 16384
    rw [Nat.mod_eq_of_lt hn]; omega

/-- A row of the slots, loaded at slot `v`. -/
theorem row_eq {arg2 : Memref sig .tc .vmem S18432x2x512 .bf16} (harg2 : arg2.IsWhole) (o : Vec F S18432x2x512 .bf16) {v w : BitVec 32}
    (hv : v.toNat < 18432) (hw : v = w) {off : Fin 3 → ℕ} (hoff : off = ![v.toNat, 0, 0]) (inb : ∀ a, off a + S1x2x512.size a ≤ S18432x2x512.size a)
    (j : S1024x2x512.Idx) :
    View.readAt (Elt F) arg2.view (Rect.unit (s := S18432x2x512) off S1x2x512.size inb).toLoadRect (harg2.unread o) (rowIx j) = o (slotIx w.toNat j) := by
  subst hoff hw
  refine (harg2.readAt_unread o (Rect.unit (s := S18432x2x512) ![v.toNat, 0, 0] S1x2x512.size inb).toLoadRect (rowIx j)).trans (congrArg o (funext fun a => Fin.ext ?_))
  match a with
  | ⟨0, _⟩ =>
    show v.toNat + 1 * 0 = v.toNat % 18432
    rw [Nat.mod_eq_of_lt hv]; omega
  | ⟨1, _⟩ => show 0 + 1 * (j 1).val = (j 1).val; omega
  | ⟨2, _⟩ => show 0 + 1 * (j 2).val = (j 2).val; omega

/-- The scratch is read as it lies. -/
theorem read_sc (c : Dev nD) (f : ScBuf (F := F) c scM) (j : S1024x2x512.Idx) : f j = scM.view.read (Elt F) f j := rfl

/-- The scratch after the store of a row: at that row the row stored, elsewhere what the stores before left. -/
theorem written (c : Dev nD) (f : ScBuf (F := F) c scM) (L : List (View.Piece (Elt F) S1024x2x512 .bf16)) (w : Vec F S1x2x512 .bf16)
    {off : Fin 3 → ℕ} {n : ℕ} (hoff : off = ![n, 0, 0])
    (inb : ∀ a, off a + S1x2x512.size a ≤ S1024x2x512.size a) (j : S1024x2x512.Idx) {v : Elt F .bf16}
    (h : (j 0).val = n → w (rowIx j) = v) (h' : (j 0).val ≠ n → scM.view.writes (Elt F) f L j = v) :
    scM.view.writes (Elt F) f (⟨Rect.unit (s := S1024x2x512) off S1x2x512.size inb, w⟩ :: L) j = v := by
  by_cases hn : (j 0).val = n
  · refine ((read_sc c _ j).trans <| View.read_writes_cons_unit_of_mem scM.view f (s := S1024x2x512) inb w L j (rowIx j) hoff fun a => ?_).trans (h hn)
    match a with
    | ⟨0, _⟩ => exact hn
    | ⟨1, _⟩ => show (j 1).val = 0 + (j 1).val; omega
    | ⟨2, _⟩ => show (j 2).val = 0 + (j 2).val; omega
  · refine ((read_sc c _ j).trans <| View.read_writes_cons_unit_of_not_mem scM.view f (s := S1024x2x512) inb w L j hoff 0 ?_).trans (h' hn)
    show (j 0).val < n ∨ n + 1 ≤ (j 0).val
    omega

/-- A row stored is the row loaded: its halves are taken apart and put together again. -/
theorem pair_self (v : Vec F S1x2x512 .bf16) :
    interleaveRows S1x2x512
      (shapeCast S1x1x512 (shapeCast S1x512 (rowsOfParity 0 S1x1x512 v bitcasts_S1x2x512_w16_S1x1x512_w32) shapeCasts_S1x1x512_S1x512) shapeCasts_S1x512_S1x1x512)
      (shapeCast S1x1x512 (shapeCast S1x512 (rowsOfParity 1 S1x1x512 v bitcasts_S1x2x512_w16_S1x1x512_w32) shapeCasts_S1x1x512_S1x512) shapeCasts_S1x512_S1x1x512)
      bitcasts_S1x2x512_w16_S1x1x512_w32 = v := by
  rw [shapeCast_shapeCast, shapeCast_shapeCast]
  exact interleaveRows_rowsOfParity _ v

/-- So it is with each of a trip's eight rows. -/
theorem pair_0 (v : Vec F S1x2x512 .bf16) : k1_pay3 v = v := pair_self v
theorem pair_1 (v : Vec F S1x2x512 .bf16) : k1_pay6 (k1_pay4 v) (k1_pay5 v) = v := pair_self v
theorem pair_2 (v : Vec F S1x2x512 .bf16) : k1_pay7 v = v := pair_self v
theorem pair_3 (v : Vec F S1x2x512 .bf16) : k1_pay10 (k1_pay8 v) (k1_pay9 v) = v := pair_self v
theorem pair_4 (v : Vec F S1x2x512 .bf16) : k1_pay11 v = v := pair_self v
theorem pair_5 (v : Vec F S1x2x512 .bf16) : k1_pay14 (k1_pay12 v) (k1_pay13 v) = v := pair_self v
theorem pair_6 (v : Vec F S1x2x512 .bf16) : k1_pay15 v = v := pair_self v
theorem pair_7 (v : Vec F S1x2x512 .bf16) : k1_pay1 (k1_pay16 v) (k1_pay17 v) = v := pair_self v

/-- The gathered row, its token counted from the trip's first. -/
theorem gathered_row (tb : Vec F S16384 .i32) (o : Vec F S18432x2x512 .bf16) (i : grid1.Coords) (j : S1024x2x512.Idx) {b n : ℕ}
    (h : (j 0).val = n) (e : 1024 * (i 0).val + n = b) :
    gathered tb o i j = o (slotIx (tb (tokIx b) : BitVec 32).toNat j) := by
  subst e h; rfl

/-- The loop: before trip `k` the first `8 k` rows of the scratch are gathered. -/
@[sl_loop, instance_reducible] def gatherLoop (c : Dev nD) (i : grid1.Coords)
    (arg2 : Memref sig .tc .vmem S18432x2x512 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (arg0 : BitVec 32) (tb : TbBuf (F := F) c tbM) (hpos : ∀ j : S16384.Idx, (tb j : BitVec 32).toNat < 18432) (o : Vec F S18432x2x512 .bf16) :
    LoopInvTy_k1_t1 (F := F) Unit ℕ (UR sig nD τ) ℕ Variants.none c none Set.univ i tbM htbM arg2 harg2 arg3 harg3 arg4 harg4 arg5 harg5 scM hscM arg0 where
  inv := fun k _ => iprop(tbPt c tbM tb ∗ (arg2.view.loc (c : Thread nD τ) ↦[arg2.view.set]{fullShare} (harg2.unread o)) ∗
    ∃ f : ScBuf (F := F) c scM, scPt c scM f ∗ ⌜∀ j : S1024x2x512.Idx, (j 0).val < 8 * k → f j = gathered tb o i j⌝)
  step := fun k acc => by
    unfold k1_t1_body
    simp only [k1_part1_eq_skeleton, k1_part2_eq_skeleton, k1_part3_eq_skeleton, k1_part4_eq_skeleton]
    unfold k1_part1_skel k1_part2_skel k1_part3_skel k1_part4_skel
    iintro ⟨HT, HO, %f, HS, %hf⟩
    sl_exec (disch := (first | exact row_inb _ (hpos _)))
    sl_step
    isplitl [HT]; · iexact HT
    isplitl [HO]; · iexact HO
    iexists _
    isplitl [HS]; · iexact HS
    ipureintro
    intro j hj
    have hi : (i 0).val < 16 := (i 0).isLt
    have hk : k.val < 128 := k.isLt
    refine written c f _ _ (k1_off24_eq k) _ j (fun e => ?_) fun h7 => ?_
    · dsimp only
      refine (congrFun (pair_7 (F := F) _) (rowIx j)).trans ?_
      rw [gathered_row (F := F) tb o i j e (b := 1024 * (i 0).val + 8 * k.val + 7) (by omega)]
      exact row_eq harg2 o (hpos _) (word_eq c tb (k1_off22_eq i k) (by omega) _ _) rfl _ j
    refine written c f _ _ (k1_off21_eq k) _ j (fun e => ?_) fun h6 => ?_
    · refine (congrFun (pair_6 (F := F) _) (rowIx j)).trans ?_
      rw [gathered_row (F := F) tb o i j e (b := 1024 * (i 0).val + 8 * k.val + 6) (by omega)]
      exact row_eq harg2 o (hpos _) (word_eq c tb (k1_off19_eq i k) (by omega) _ _) rfl _ j
    refine written c f _ _ (k1_off18_eq k) _ j (fun e => ?_) fun h5 => ?_
    · dsimp only
      refine (congrFun (pair_5 (F := F) _) (rowIx j)).trans ?_
      rw [gathered_row (F := F) tb o i j e (b := 1024 * (i 0).val + 8 * k.val + 5) (by omega)]
      exact row_eq harg2 o (hpos _) (word_eq c tb (k1_off16_eq i k) (by omega) _ _) rfl _ j
    refine written c f _ _ (k1_off15_eq k) _ j (fun e => ?_) fun h4 => ?_
    · refine (congrFun (pair_4 (F := F) _) (rowIx j)).trans ?_
      rw [gathered_row (F := F) tb o i j e (b := 1024 * (i 0).val + 8 * k.val + 4) (by omega)]
      exact row_eq harg2 o (hpos _) (word_eq c tb (k1_off13_eq i k) (by omega) _ _) rfl _ j
    refine written c f _ _ (k1_off12_eq k) _ j (fun e => ?_) fun h3 => ?_
    · dsimp only
      refine (congrFun (pair_3 (F := F) _) (rowIx j)).trans ?_
      rw [gathered_row (F := F) tb o i j e (b := 1024 * (i 0).val + 8 * k.val + 3) (by omega)]
      exact row_eq harg2 o (hpos _) (word_eq c tb (k1_off10_eq i k) (by omega) _ _) rfl _ j
    refine written c f _ _ (k1_off9_eq k) _ j (fun e => ?_) fun h2 => ?_
    · refine (congrFun (pair_2 (F := F) _) (rowIx j)).trans ?_
      rw [gathered_row (F := F) tb o i j e (b := 1024 * (i 0).val + 8 * k.val + 2) (by omega)]
      exact row_eq harg2 o (hpos _) (word_eq c tb (k1_off7_eq i k) (by omega) _ _) rfl _ j
    refine written c f _ _ (k1_off6_eq k) _ j (fun e => ?_) fun h1 => ?_
    · dsimp only
      refine (congrFun (pair_1 (F := F) _) (rowIx j)).trans ?_
      rw [gathered_row (F := F) tb o i j e (b := 1024 * (i 0).val + 8 * k.val + 1) (by omega)]
      exact row_eq harg2 o (hpos _) (word_eq c tb (k1_off4_eq i k) (by omega) _ _) rfl _ j
    refine written c f _ _ (k1_off3_eq k) _ j (fun e => ?_) fun h0 => ?_
    · refine (congrFun (pair_0 (F := F) _) (rowIx j)).trans ?_
      rw [gathered_row (F := F) tb o i j e (b := 1024 * (i 0).val + 8 * k.val) (by omega)]
      exact row_eq harg2 o (hpos _) (word_eq c tb (k1_off1_eq i k) (by omega) _ _) rfl _ j
    exact hf j (by omega)

end Cert.Experts

end
-- ==== Proof.Experts.Body.lean ====
/- The bodies of the two calls at one grid point, for any floats: from the blocks each is handed to the block it leaves. -/
module

public import proofs.«01_k».proof.Proof.Experts.Loop
public import Idealize.ShloMosaic.Lib.VecWindow

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem zero2 : (![0, 0] : Fin 2 → ℕ) = fun _ => 0 := by funext a; fin_cases a <;> rfl
theorem zero3 : (![0, 0, 0] : Fin 3 → ℕ) = fun _ => 0 := by funext a; fin_cases a <;> rfl

/-! ## The experts of a group -/

/-- One expert's weights out of its group's. -/
abbrev expert (e : ℕ) (h : ∀ a, (![e, 0, 0] : Fin 3 → ℕ) a + S1x1024x256.size a ≤ S8x1024x256.size a) (w : Vec F S8x1024x256 .bf16) : Vec F S1x1024x256 .bf16 :=
  View.ld w (Rect.unit (s := S8x1024x256) ![e, 0, 0] S1x1024x256.size h)

/-- What eight experts' gated products give, side by side, each scaled by its weight. -/
def hiddenOf (xs : Vec F S512x512 .i32) (rec : Vec F S512x128 .f32) (g0 u0 g1 u1 g2 u2 g3 u3 g4 u4 g5 u5 g6 u6 g7 u7 : Vec F S1x1024x256 .bf16) : FVec F S512x2048 .bf16 :=
  k0_pay14 (k0_pay2 xs) (k0_pay6 rec) (k0_pay7 rec) (k0_pay8 rec) (k0_pay9 xs rec g0 u0) (k0_pay10 xs rec g1 u1)
    (k0_pay11 (k0_pay2 xs) (k0_pay3 rec) g2 u2) (k0_pay12 (k0_pay2 xs) (k0_pay4 rec) g3 u3) (k0_pay13 (k0_pay2 xs) (k0_pay5 rec) g4 u4)
    g5 u5 g6 u6 g7 u7

/-- The same, of a group's experts. -/
def hiddenBlock (xs : Vec F S512x512 .i32) (rec : Vec F S512x128 .f32) (wg wu : Vec F S8x1024x256 .bf16) : FVec F S512x2048 .bf16 :=
  hiddenOf xs rec
    (expert 0 inb_S8x1024x256_S1x1024x256_0_0_0 wg) (expert 0 inb_S8x1024x256_S1x1024x256_0_0_0 wu)
    (expert 1 inb_S8x1024x256_S1x1024x256_1_0_0 wg) (expert 1 inb_S8x1024x256_S1x1024x256_1_0_0 wu)
    (expert 2 inb_S8x1024x256_S1x1024x256_2_0_0 wg) (expert 2 inb_S8x1024x256_S1x1024x256_2_0_0 wu)
    (expert 3 inb_S8x1024x256_S1x1024x256_3_0_0 wg) (expert 3 inb_S8x1024x256_S1x1024x256_3_0_0 wu)
    (expert 4 inb_S8x1024x256_S1x1024x256_4_0_0 wg) (expert 4 inb_S8x1024x256_S1x1024x256_4_0_0 wu)
    (expert 5 inb_S8x1024x256_S1x1024x256_5_0_0 wg) (expert 5 inb_S8x1024x256_S1x1024x256_5_0_0 wu)
    (expert 6 inb_S8x1024x256_S1x1024x256_6_0_0 wg) (expert 6 inb_S8x1024x256_S1x1024x256_6_0_0 wu)
    (expert 7 inb_S8x1024x256_S1x1024x256_7_0_0 wg) (expert 7 inb_S8x1024x256_S1x1024x256_7_0_0 wu)

/-- What the first call's body leaves in its output block. -/
def expertsBlock (xs : Vec F S512x512 .i32) (rec : Vec F S512x128 .f32) (wg wu : Vec F S8x1024x256 .bf16) (wd : Vec F S1x2048x1024 .bf16) :
    Vec F S512x2x512 .bf16 :=
  k0_pay1 (hiddenBlock xs rec wg wu) wd

/-- The table of groups, as the memref the body is handed. -/
abbrev tgM : Memref sig .tc .smem S36 .i32 := Memref.whole main_arg1
abbrev htgM : tgM.IsWhole := Memref.isWhole_whole _

/-- What is loaded of a block held is that block's part. -/
theorem part_of {S : Shape} {e : EltTy} {M : Memref sig .tc .vmem S e} (hM : M.IsWhole) (x : Vec F S e) (r : Rect S) :
    View.readAt (Elt F) M.view r.toLoadRect (hM.unread x) = View.ld x r := by
  rw [View.readAt_eq_ld, hM.read_unread]

set_option maxHeartbeats 2000000 in
/-- The first body's triple. -/
theorem experts_run (c : Dev nD) (i : grid0.Coords)
    (arg2 : Memref sig .tc .vmem S512x512 .i32) (harg2 : arg2.IsWhole) (arg3 : Memref sig .tc .vmem S512x128 .f32) (harg3 : arg3.IsWhole)
    (arg4 : Memref sig .tc .vmem S8x1024x256 .bf16) (harg4 : arg4.IsWhole) (arg5 : Memref sig .tc .vmem S8x1024x256 .bf16) (harg5 : arg5.IsWhole)
    (arg6 : Memref sig .tc .vmem S1x2048x1024 .bf16) (harg6 : arg6.IsWhole) (arg7 : Memref sig .tc .vmem S512x2x512 .bf16) (harg7 : arg7.IsWhole)
    (x0 : Vec F S512x512 .i32) (x1 : Vec F S512x128 .f32) (x2 x3 : Vec F S8x1024x256 .bf16) (x4 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (expertsBlock x0 x1 x2 x3 x4)) -∗ K ⟨⟩))
      ⊢ wp frame (wpE (defs₀ (F := F)) Variants.none c none) Set.univ
          (cc0_moe_sorted i tgM htgM arg2 harg2 arg3 harg3 arg4 harg4 arg5 harg5 arg6 harg6 arg7 harg7) K := by
  simp only [cc0_moe_sorted_eq_skeleton]; unfold cc0_moe_sorted_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2
  obtain rfl := harg5.eq_unread hf3; obtain rfl := harg6.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  rw [View.read_writes_full]
  have w0 : View.readAt (Elt F) arg2.view (Rect.unit (s := S512x512) ![0, 0] S512x512.size inb_S512x512_S512x512_0_0).toLoadRect (harg2.unread x0) = x0 :=
    (part_of harg2 x0 _).trans (View.ld_unit_zero zero2 _ _)
  have w1 : View.readAt (Elt F) arg3.view (Rect.unit (s := S512x128) ![0, 0] S512x128.size inb_S512x128_S512x128_0_0).toLoadRect (harg3.unread x1) = x1 :=
    (part_of harg3 x1 _).trans (View.ld_unit_zero zero2 _ _)
  have w4 : View.readAt (Elt F) arg6.view (Rect.unit (s := S1x2048x1024) ![0, 0, 0] S1x2048x1024.size inb_S1x2048x1024_S1x2048x1024_0_0_0).toLoadRect (harg6.unread x4) = x4 :=
    (part_of harg6 x4 _).trans (View.ld_unit_zero zero3 _ _)
  have wh : ∀ v0 v5, v0 = x0 → v5 = x1 → hiddenOf v0 v5
      (View.readAt (Elt F) arg4.view (Rect.unit (s := S8x1024x256) ![0, 0, 0] S1x1024x256.size inb_S8x1024x256_S1x1024x256_0_0_0).toLoadRect (harg4.unread x2))
      (View.readAt (Elt F) arg5.view (Rect.unit (s := S8x1024x256) ![0, 0, 0] S1x1024x256.size inb_S8x1024x256_S1x1024x256_0_0_0).toLoadRect (harg5.unread x3))
      (View.readAt (Elt F) arg4.view (Rect.unit (s := S8x1024x256) ![1, 0, 0] S1x1024x256.size inb_S8x1024x256_S1x1024x256_1_0_0).toLoadRect (harg4.unread x2))
      (View.readAt (Elt F) arg5.view (Rect.unit (s := S8x1024x256) ![1, 0, 0] S1x1024x256.size inb_S8x1024x256_S1x1024x256_1_0_0).toLoadRect (harg5.unread x3))
      (View.readAt (Elt F) arg4.view (Rect.unit (s := S8x1024x256) ![2, 0, 0] S1x1024x256.size inb_S8x1024x256_S1x1024x256_2_0_0).toLoadRect (harg4.unread x2))
      (View.readAt (Elt F) arg5.view (Rect.unit (s := S8x1024x256) ![2, 0, 0] S1x1024x256.size inb_S8x1024x256_S1x1024x256_2_0_0).toLoadRect (harg5.unread x3))
      (View.readAt (Elt F) arg4.view (Rect.unit (s := S8x1024x256) ![3, 0, 0] S1x1024x256.size inb_S8x1024x256_S1x1024x256_3_0_0).toLoadRect (harg4.unread x2))
      (View.readAt (Elt F) arg5.view (Rect.unit (s := S8x1024x256) ![3, 0, 0] S1x1024x256.size inb_S8x1024x256_S1x1024x256_3_0_0).toLoadRect (harg5.unread x3))
      (View.readAt (Elt F) arg4.view (Rect.unit (s := S8x1024x256) ![4, 0, 0] S1x1024x256.size inb_S8x1024x256_S1x1024x256_4_0_0).toLoadRect (harg4.unread x2))
      (View.readAt (Elt F) arg5.view (Rect.unit (s := S8x1024x256) ![4, 0, 0] S1x1024x256.size inb_S8x1024x256_S1x1024x256_4_0_0).toLoadRect (harg5.unread x3))
      (View.readAt (Elt F) arg4.view (Rect.unit (s := S8x1024x256) ![5, 0, 0] S1x1024x256.size inb_S8x1024x256_S1x1024x256_5_0_0).toLoadRect (harg4.unread x2))
      (View.readAt (Elt F) arg5.view (Rect.unit (s := S8x1024x256) ![5, 0, 0] S1x1024x256.size inb_S8x1024x256_S1x1024x256_5_0_0).toLoadRect (harg5.unread x3))
      (View.readAt (Elt F) arg4.view (Rect.unit (s := S8x1024x256) ![6, 0, 0] S1x1024x256.size inb_S8x1024x256_S1x1024x256_6_0_0).toLoadRect (harg4.unread x2))
      (View.readAt (Elt F) arg5.view (Rect.unit (s := S8x1024x256) ![6, 0, 0] S1x1024x256.size inb_S8x1024x256_S1x1024x256_6_0_0).toLoadRect (harg5.unread x3))
      (View.readAt (Elt F) arg4.view (Rect.unit (s := S8x1024x256) ![7, 0, 0] S1x1024x256.size inb_S8x1024x256_S1x1024x256_7_0_0).toLoadRect (harg4.unread x2))
      (View.readAt (Elt F) arg5.view (Rect.unit (s := S8x1024x256) ![7, 0, 0] S1x1024x256.size inb_S8x1024x256_S1x1024x256_7_0_0).toLoadRect (harg5.unread x3)) = hiddenBlock x0 x1 x2 x3 := by
    rintro _ _ rfl rfl
    unfold hiddenBlock
    simp only [part_of harg4, part_of harg5]
  exact congrArg₂ k0_pay1 (wh _ _ w0 w1) w4

/-! ## The combine call -/

/-- What the second call's body leaves in its output block: the tokens' rows, the gathered experts' rows added, normalised and scaled. -/
def outBlock (tb : Vec F S16384 .i32) (o : Vec F S18432x2x512 .bf16) (x1 : Vec F S1024x1024 .f32) (g : Vec F S1x1024 .f32)
    (i : grid1.Coords) : Vec F S1024x1024 .f32 :=
  k1_pay2 x1 (gathered tb o i) g

/-- What is read back of the one store that covers the output block. -/
theorem out_eq (c : Dev nD) (arg3 : Memref sig .tc .vmem S1024x1024 .f32) (harg3 : arg3.IsWhole)
    (arg4 : Memref sig .tc .vmem S1x1024 .f32) (harg4 : arg4.IsWhole) (arg5 : Memref sig .tc .vmem S1024x1024 .f32)
    (x1 : Vec F S1024x1024 .f32) (x2 : Vec F S1x1024 .f32) (s : ScBuf (F := F) c scM) (f : arg5.view.ty.Contents (Elt F)) :
    View.read (Elt F) arg5.view (arg5.view.writes (Elt F) f
      [⟨Rect.unit ![0, 0] S1024x1024.size inb_S1024x1024_S1024x1024_0_0,
        k1_pay2 (View.readAt (Elt F) arg3.view (Rect.unit ![0, 0] S1024x1024.size inb_S1024x1024_S1024x1024_0_0).toLoadRect (harg3.unread x1))
          (View.readAt (Elt F) scM.view (Rect.unit ![0, 0, 0] S1024x2x512.size inb_S1024x2x512_S1024x2x512_0_0_0).toLoadRect s)
          (View.readAt (Elt F) arg4.view (Rect.unit ![0, 0] S1x1024.size inb_S1x1024_S1x1024_0_0).toLoadRect (harg4.unread x2))⟩])
      = k1_pay2 x1 s x2 := by
  rw [View.read_writes_full, part_of harg3, part_of harg4, View.ld_unit_zero zero2, View.ld_unit_zero zero2]
  have e3 : View.readAt (Elt F) scM.view (Rect.unit ![0, 0, 0] S1024x2x512.size inb_S1024x2x512_S1024x2x512_0_0_0).toLoadRect s = s := by
    rw [View.readAt_eq_ld, View.ld_unit_zero zero3]; rfl
  rw [e3]

set_option maxHeartbeats 1000000 in
/-- The second body's triple. -/
theorem combine_run (c : Dev nD) (i : grid1.Coords)
    (arg2 : Memref sig .tc .vmem S18432x2x512 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (x0 : Vec F S18432x2x512 .bf16) (x1 : Vec F S1024x1024 .f32) (x2 : Vec F S1x1024 .f32)
    (tb : TbBuf (F := F) c tbM) (hpos : ∀ j : S16384.Idx, (tb j : BitVec 32).toNat < 18432) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ tbPt c tbM tb ∗ (∃ f : ScBuf (F := F) c scM, scPt c scM f)
        ∗ (iprop(owns (c : Thread nD τ) arg2 fullShare x0 ∗ owns (c : Thread nD τ) arg3 fullShare x1 ∗ owns (c : Thread nD τ) arg4 fullShare x2
            ∗ owns (c : Thread nD τ) arg5 fullShare (outBlock tb x0 x1 x2 i) ∗ tbPt c tbM tb ∗ (∃ f : ScBuf (F := F) c scM, scPt c scM f)) -∗ K ⟨⟩))
      ⊢ wp frame (wpE (defs₀ (F := F)) Variants.none c none) Set.univ
          (cc1_moe_gather_norm i tbM htbM arg2 harg2 arg3 harg3 arg4 harg4 arg5 harg5 scM hscM) K := by
  rw [cc1_moe_gather_norm_eq_skeleton]; unfold cc1_moe_gather_norm_skel
  unfold owns
  iintro ⟨⟨%f0, %hf0, H0⟩, ⟨%f1, %hf1, H1⟩, ⟨%f2, %hf2, H2⟩, ⟨%d3, %f3, -, H3⟩, HT, ⟨%fs, HS⟩, Hk⟩
  obtain rfl := harg2.eq_unread hf0; obtain rfl := harg3.eq_unread hf1; obtain rfl := harg4.eq_unread hf2
  letI := gatherLoop c i arg2 harg2 arg3 harg3 arg4 harg4 arg5 harg5 (BitVec.ofNat 32 (i 0).val) tb hpos x0
  sl_exec
  sl_step
  have hS : fL0 = gathered tb x0 i := funext fun j => hL3 j (by
    have hj : (j 0).val < 1024 := (j 0).isLt
    have ht : Scf.trips k1_t1_loop.lb k1_t1_loop.ub k1_t1_loop.st = 128 := by decide
    omega)
  subst hS
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    exact out_eq c arg3 harg3 arg4 harg4 arg5 x1 x2 (gathered tb x0 i) f3
  isplitl [HT]; · iexact HT
  iexists _; iexact HS

end Cert.Experts

end
-- ==== Proof.Experts.Rows.lean ====
/- The kernels' blocks at one element, over the extended reals. -/
module

public import proofs.«01_k».proof.Proof.Experts.Body
public import proofs.«01_k».proof.Proof.Gather.Rows
public import Idealize.ShloMosaic.Lib.Pointwise

@[expose] public section

noncomputable section

namespace Cert.Experts

open Cert.Kernel2Ideal Cert.Kernel2Ideal.Gen
open Idealize.ShloMosaic Idealize.ShloMosaic.TcCoe
open Cert.Gather (half normed)
open scoped BigOperators

/-- A row times a column. -/
def dotRow (x w : Fin 1024 → EReal) : EReal := ∑ k, x k * w k

/-- The gated product of a row's two projections. -/
def gated (g u : EReal) : EReal := g * Ideal.logistic g * u

/-- What one expert makes of a row, at one of its 256 hidden columns. -/
def hid (x : Fin 1024 → EReal) (wg wu : Fin 1024 → Fin 256 → EReal) (f : Fin 256) : EReal :=
  gated (dotRow x fun k => wg k f) (dotRow x fun k => wu k f)

/-- The widened row of packed words. -/
theorem unpacked_at (xs : Vec Ideal S512x512 .i32) (r : Fin 512) (k : Fin 1024) :
    k0_pay2 xs (ix2 r k) = half (fun l => xs (ix2 r l)) k := by
  unfold half
  pointwise [k0_pay2]

/-- One expert's columns, from its weights, its column of the records and the widened rows. -/
def expertCols (x : FVec Ideal S512x1024 .bf16) (v : FVec Ideal S512x1 .f32) (g u : Vec Ideal S1x1024x256 .bf16) : FVec Ideal S512x256 .bf16 :=
  k0_pay12 x v g u

theorem expertCols_at (x : FVec Ideal S512x1024 .bf16) (v : FVec Ideal S512x1 .f32) (g u : Vec Ideal S1x1024x256 .bf16) (r : Fin 512) (f : Fin 256) :
    expertCols x v g u (ix2 r f) = hid (fun k => x (ix2 r k)) (fun k f => g (ix3 0 k f)) (fun k f => u (ix3 0 k f)) f * v (ix2 r 0) := by
  unfold hid gated dotRow
  pointwise [expertCols, k0_pay12]

/-- Eight experts' columns side by side. -/
def eight (c0 c1 c2 c3 c4 c5 c6 c7 : FVec Ideal S512x256 .bf16) : FVec Ideal S512x2048 .bf16 :=
  concatenate S512x2048 1 [⟨S512x256, c0⟩, ⟨S512x256, c1⟩, ⟨S512x256, c2⟩, ⟨S512x256, c3⟩, ⟨S512x256, c4⟩, ⟨S512x256, c5⟩, ⟨S512x256, c6⟩, ⟨S512x256, c7⟩]
    concatenates_S512x256_S512x256_S512x256_S512x256_S512x256_S512x256_S512x256_S512x256_S512x2048_d1

theorem same_at (c : FVec Ideal S512x256 .bf16) (r : Fin 512) {a b : Fin 256} (h : a.val = b.val) : c (ix2 r a) = c (ix2 r b) := by
  rw [Fin.ext h]

theorem eight_at (c0 c1 c2 c3 c4 c5 c6 c7 : FVec Ideal S512x256 .bf16) (r : Fin 512) (e : Fin 8) (f : Fin 256) (j : Fin 2048) (hj : j.val = 256 * e.val + f.val) :
    eight c0 c1 c2 c3 c4 c5 c6 c7 (ix2 r j) = (![c0, c1, c2, c3, c4, c5, c6, c7] e) (ix2 r f) := by
  have hf := f.isLt
  obtain ⟨j, hj'⟩ := j
  simp only at hj
  subst hj
  fin_cases e
  all_goals
    pointwise [eight]
  all_goals
    repeat (first | rw [dif_pos (by omega)] | rw [dif_neg (by omega)])
  all_goals exact same_at _ r (by first | omega | (dsimp only; omega))

theorem hiddenOf_eq (xs : Vec Ideal S512x512 .i32) (rec : Vec Ideal S512x128 .f32) (g0 u0 g1 u1 g2 u2 g3 u3 g4 u4 g5 u5 g6 u6 g7 u7 : Vec Ideal S1x1024x256 .bf16) :
    hiddenOf xs rec g0 u0 g1 u1 g2 u2 g3 u3 g4 u4 g5 u5 g6 u6 g7 u7
      = eight (expertCols (k0_pay2 xs) (extractStridedSlice S512x1 ![0, 0] rec slices_S512x128_o0_0_S512x1) g0 u0)
          (expertCols (k0_pay2 xs) (extractStridedSlice S512x1 ![0, 1] rec slices_S512x128_o0_1_S512x1) g1 u1)
          (expertCols (k0_pay2 xs) (k0_pay3 rec) g2 u2) (expertCols (k0_pay2 xs) (k0_pay4 rec) g3 u3) (expertCols (k0_pay2 xs) (k0_pay5 rec) g4 u4)
          (expertCols (k0_pay2 xs) (k0_pay6 rec) g5 u5) (expertCols (k0_pay2 xs) (k0_pay7 rec) g6 u6) (expertCols (k0_pay2 xs) (k0_pay8 rec) g7 u7) := rfl

/-- A record's weight for expert `e` of its group. -/
def weightAt (rec : Fin 128 → EReal) (e : Fin 8) : EReal := rec ⟨e.val, by omega⟩

theorem hiddenBlock_at (xs : Vec Ideal S512x512 .i32) (rec : Vec Ideal S512x128 .f32) (wg wu : Vec Ideal S8x1024x256 .bf16) (r : Fin 512)
    (e : Fin 8) (f : Fin 256) (j : Fin 2048) (hj : j.val = 256 * e.val + f.val) :
    hiddenBlock xs rec wg wu (ix2 r j)
      = hid (half fun l => xs (ix2 r l)) (fun k f => wg (ix3 e k f)) (fun k f => wu (ix3 e k f)) f * weightAt (fun q => rec (ix2 r q)) e := by
  unfold hiddenBlock
  rw [hiddenOf_eq, eight_at _ _ _ _ _ _ _ _ r e f j hj]
  have hx : ∀ k, k0_pay2 xs (ix2 r k) = half (fun l => xs (ix2 r l)) k := unpacked_at xs r
  have hw : ∀ (w : Vec Ideal S8x1024x256 .bf16) (e : Fin 8) (h) (k : Fin 1024) (f : Fin 256), expert e.val h w (ix3 0 k f) = w (ix3 e k f) := fun w e h k f => by
    show w _ = w _
    congr 1
    funext a
    apply Fin.ext
    match a with
    | ⟨0, _⟩ => show e.val + 1 * 0 = e.val; omega
    | ⟨1, _⟩ => show 0 + 1 * k.val = k.val; omega
    | ⟨2, _⟩ => show 0 + 1 * f.val = f.val; omega
  have key : ∀ (v : FVec Ideal S512x1 .f32) (h), v (ix2 r 0) = weightAt (fun q => rec (ix2 r q)) e →
      expertCols (k0_pay2 xs) v (expert e.val h wg) (expert e.val h wu) (ix2 r f)
        = hid (half fun l => xs (ix2 r l)) (fun k f => wg (ix3 e k f)) (fun k f => wu (ix3 e k f)) f * weightAt (fun q => rec (ix2 r q)) e := fun v h hv => by
    rw [expertCols_at, hv, show (fun k => k0_pay2 xs (ix2 r k)) = half fun l => xs (ix2 r l) from funext hx,
      show (fun k f => expert e.val h wg (ix3 0 k f)) = fun k f => wg (ix3 e k f) from funext fun k => funext fun f => hw wg e h k f,
      show (fun k f => expert e.val h wu (ix3 0 k f)) = fun k f => wu (ix3 e k f) from funext fun k => funext fun f => hw wu e h k f]
  fin_cases e
  · exact key _ inb_S8x1024x256_S1x1024x256_0_0_0 (by unfold weightAt; pointwise []; try rfl)
  · exact key _ inb_S8x1024x256_S1x1024x256_1_0_0 (by unfold weightAt; pointwise []; try rfl)
  · exact key _ inb_S8x1024x256_S1x1024x256_2_0_0 (by unfold weightAt; pointwise [k0_pay3]; try rfl)
  · exact key _ inb_S8x1024x256_S1x1024x256_3_0_0 (by unfold weightAt; pointwise [k0_pay4]; try rfl)
  · exact key _ inb_S8x1024x256_S1x1024x256_4_0_0 (by unfold weightAt; pointwise [k0_pay5]; try rfl)
  · exact key _ inb_S8x1024x256_S1x1024x256_5_0_0 (by unfold weightAt; pointwise [k0_pay6]; try rfl)
  · exact key _ inb_S8x1024x256_S1x1024x256_6_0_0 (by unfold weightAt; pointwise [k0_pay7]; try rfl)
  · exact key _ inb_S8x1024x256_S1x1024x256_7_0_0 (by unfold weightAt; pointwise [k0_pay8]; try rfl)

/-- The columns' product with the group's last projection, before it is packed. -/
def downBlock (h : FVec Ideal S512x2048 .bf16) (wd : Vec Ideal S1x2048x1024 .bf16) : FVec Ideal S512x1024 .f32 :=
  matmul (φ₂ := .bf16) dot_S512x2048_S2048x1024_S512x1024_1_0_0_1_n_n none h (shapeCast S2048x1024 wd shapeCasts_S1x2048x1024_S2048x1024) (constant S512x1024 .f32 0x00000000#32)

theorem downBlock_at (h : FVec Ideal S512x2048 .bf16) (wd : Vec Ideal S1x2048x1024 .bf16) (r : Fin 512) (k : Fin 1024) :
    downBlock h wd (ix2 r k) = ∑ j : Fin 2048, h (ix2 r j) * wd (ix3 0 j k) := by
  pointwise [downBlock]

theorem pay1_eq (h : FVec Ideal S512x2048 .bf16) (wd : Vec Ideal S1x2048x1024 .bf16) :
    k0_pay1 h wd = interleaveRows S512x2x512
      (shapeCast S512x1x512 (truncf .bf16 (extractStridedSlice S512x512 ![0, 0] (downBlock h wd) slices_S512x1024_o0_0_S512x512) bitsLt_bf16_f32) shapeCasts_S512x512_S512x1x512)
      (shapeCast S512x1x512 (truncf .bf16 (extractStridedSlice S512x512 ![0, 512] (downBlock h wd) slices_S512x1024_o0_512_S512x512) bitsLt_bf16_f32) shapeCasts_S512x512_S512x1x512)
      bitcasts_S512x2x512_w16_S512x1x512_w32 := rfl

/-- Element `(r, p, l)` of the packed block: column `512 p + l` of row `r`. -/
theorem expertsBlock_at (xs : Vec Ideal S512x512 .i32) (rec : Vec Ideal S512x128 .f32) (wg wu : Vec Ideal S8x1024x256 .bf16) (wd : Vec Ideal S1x2048x1024 .bf16)
    (r : Fin 512) (p : Fin 2) (l : Fin 512) (k : Fin 1024) (hk : k.val = 512 * p.val + l.val) :
    expertsBlock xs rec wg wu wd (ix3 r p l) = ∑ j : Fin 2048, hiddenBlock xs rec wg wu (ix2 r j) * wd (ix3 0 j k) := by
  rw [← downBlock_at]
  unfold expertsBlock
  rw [pay1_eq]
  generalize downBlock (hiddenBlock xs rec wg wu) wd = D
  obtain ⟨k, hk'⟩ := k
  simp only at hk
  subst hk
  fin_cases p
  · pointwise []
    done
  · pointwise []
    done

/-- The combine's added rows. -/
def addedBlock (v1 : Vec Ideal S1024x1024 .f32) (v2 : Vec Ideal S1024x2x512 .bf16) : FVec Ideal S1024x1024 .f32 :=
  addf v1 (concatenate S1024x1024 1
    [⟨S1024x512, extf .f32 (shapeCast S1024x512 (rowsOfParity 0 S1024x1x512 v2 bitcasts_S1024x2x512_w16_S1024x1x512_w32) shapeCasts_S1024x1x512_S1024x512) bitsLt_bf16_f32⟩,
      ⟨S1024x512, extf .f32 (shapeCast S1024x512 (rowsOfParity 1 S1024x1x512 v2 bitcasts_S1024x2x512_w16_S1024x1x512_w32) shapeCasts_S1024x1x512_S1024x512) bitsLt_bf16_f32⟩]
    concatenates_S1024x512_S1024x512_S1024x1024_d1)

theorem addedBlock_at (v1 : Vec Ideal S1024x1024 .f32) (v2 : Vec Ideal S1024x2x512 .bf16) (r k : Fin 1024) :
    addedBlock v1 v2 (ix2 r k) = v1 (ix2 r k) + v2 (ix3 r ⟨k.val / 512, by omega⟩ ⟨k.val % 512, by omega⟩) := by
  have h2 := k.isLt
  have same : ∀ {p q : Fin 2} {a b : Fin 512}, p.val = q.val → a.val = b.val → v2 (ix3 r p a) = v2 (ix3 r q b) := fun h h' => by
    rw [Fin.ext h, Fin.ext h']
  pointwise [addedBlock]
  refine congrArg _ ?_
  split
  · exact same (by show 0 = k.val / 512; omega) (by show k.val = k.val % 512; omega)
  · exact same (by show 1 = k.val / 512; omega) (by show k.val - 512 = k.val % 512; omega)

/-- The combine's normalisation. -/
def normBlock (v6 : FVec Ideal S1024x1024 .f32) (v7 : Vec Ideal S1x1024 .f32) : FVec Ideal S1024x1024 .f32 :=
  mulf (mulf v6 (broadcastTo S1024x1024 (rsqrt (addf (divf (shapeCast S1024x1 (multiReduction .add [1] S1024 (mulf v6 v6) 0x00000000#32
    reduces_S1024x1024_S1024 (.inl rfl) rfl) shapeCasts_S1024_S1024x1) (broadcast S1024x1 (Scalar.ofBits .f32 0x44800000#32)))
    (broadcast S1024x1 (Scalar.ofBits .f32 0x358637BD#32)))) broadcasts_S1024x1_S1024x1024))
    (broadcastTo S1024x1024 (shapeCast S1x1024 v7 shapeCasts_S1x1024_S1x1024) broadcasts_S1x1024_S1024x1024)

theorem normBlock_at (v6 : FVec Ideal S1024x1024 .f32) (v7 : Vec Ideal S1x1024 .f32) (r k : Fin 1024) :
    normBlock v6 v7 (ix2 r k) = normed (fun l => v6 (ix2 r l)) (v7 (ix2 0 k)) k := by
  unfold normed
  pointwise [normBlock]
  try rfl

theorem pay2_eq (v1 : Vec Ideal S1024x1024 .f32) (v2 : Vec Ideal S1024x2x512 .bf16) (v7 : Vec Ideal S1x1024 .f32) :
    k1_pay2 v1 v2 v7 = normBlock (addedBlock v1 v2) v7 := rfl

/-- One element of the block the combine leaves. -/
theorem outBlock_at (tb : Vec Ideal S16384 .i32) (o : Vec Ideal S18432x2x512 .bf16) (x1 : Vec Ideal S1024x1024 .f32) (g : Vec Ideal S1x1024 .f32)
    (i : grid1.Coords) (r k : Fin 1024) :
    outBlock tb o x1 g i (ix2 r k)
      = normed (fun l => x1 (ix2 r l) + gathered tb o i (ix3 r ⟨l.val / 512, by omega⟩ ⟨l.val % 512, by omega⟩)) (g (ix2 0 k)) k := by
  unfold outBlock
  rw [pay2_eq, normBlock_at]
  simp only [addedBlock_at]

end Cert.Experts

end
-- ==== Proof.Experts.Mix.lean ====
/- Two ways of summing a token's experts: all 32 of them, each weighted, or the eight of its group, each hidden column weighted. -/
module

public import Mathlib.Data.EReal.Operations
public import Idealize.ShloMosaic.Lib.Pointwise
public import Mathlib.Algebra.BigOperators.Fin
public import Mathlib.Algebra.BigOperators.Ring.Finset

@[expose] public section

noncomputable section

namespace Cert.Experts

open scoped BigOperators

/-- A finite number that is not negative multiplies a sum term by term. -/
theorem mul_sum_of_nonneg {ι : Type} (s : Finset ι) (c : EReal) (h0 : 0 ≤ c) (h1 : c ≠ ⊤) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- The expert that is number `e` of group `g`. -/
def expertOf (g : Fin 4) (e : Fin 8) : Fin 32 := ⟨8 * g.val + e.val, by omega⟩

theorem sum_experts (F : Fin 32 → EReal) : ∑ q, F q = ∑ g : Fin 4, ∑ e : Fin 8, F (expertOf g e) := by
  rw [← Fintype.sum_prod_type', ← Equiv.sum_comp (finProdFinEquiv (m := 4) (n := 8))]
  refine Finset.sum_congr rfl fun x _ => congrArg F (Fin.ext ?_)
  show x.2.val + 8 * x.1.val = 8 * x.1.val + x.2.val
  omega

/-- Hidden column `f` of the group's expert `e`. -/
def colOf (e : Fin 8) (f : Fin 256) : Fin 2048 := ⟨256 * e.val + f.val, by omega⟩

theorem sum_cols (F : Fin 2048 → EReal) : ∑ j, F j = ∑ e : Fin 8, ∑ f : Fin 256, F (colOf e f) := by
  rw [← Fintype.sum_prod_type', ← Equiv.sum_comp (finProdFinEquiv (m := 8) (n := 256))]
  refine Finset.sum_congr rfl fun x _ => congrArg F (Fin.ext ?_)
  show x.2.val + 256 * x.1.val = 256 * x.1.val + x.2.val
  omega

/-- All 32 experts, each weighted by its group's indicator and its own weight, sum to the group's eight. -/
theorem mix_eq (tg : Fin 4) (cw : Fin 32 → EReal) (c : Fin 8 → EReal) (hcw : ∀ g e, cw (expertOf g e) = (if tg.val = g.val then 1 else 0) * c e)
    (h0 : ∀ e, 0 ≤ c e) (h1 : ∀ e, c e ≠ ⊤) (H W : Fin 32 → Fin 256 → EReal) :
    ∑ q, cw q * ∑ f, H q f * W q f = ∑ e : Fin 8, ∑ f : Fin 256, H (expertOf tg e) f * c e * W (expertOf tg e) f := by
  rw [sum_experts, Finset.sum_eq_single tg]
  · refine Finset.sum_congr rfl fun e _ => ?_
    rw [hcw, if_pos rfl, one_mul, mul_sum_of_nonneg _ _ (h0 e) (h1 e)]
    refine Finset.sum_congr rfl fun f _ => ?_
    generalize c e = a, H (expertOf tg e) f = b, W (expertOf tg e) f = d
    rw [mul_comm b a, mul_assoc]
  · intro g _ hg
    refine Finset.sum_eq_zero fun e _ => ?_
    rw [hcw, if_neg (fun h => hg (Fin.ext h.symm)), zero_mul, zero_mul]
  · exact fun h => absurd (Finset.mem_univ _) h

end Cert.Experts

end
-- ==== Proof.Groups.Rows.lean ====
/- The third call's block at one element, over the extended reals. -/
module

public import proofs.«01_k».proof.Proof.Groups.Body
public import proofs.«01_k».proof.Proof.Experts.Rows
public import proofs.«01_k».proof.Proof.Experts.Mix
public import Idealize.ShloMosaic.Lib.Pointwise

@[expose] public section

noncomputable section

namespace Cert.Groups

open Cert.Kernel3Ideal Cert.Kernel3Ideal.Gen
open Idealize.ShloMosaic Idealize.ShloMosaic.TcCoe
open Cert.Gather (normed)
open Cert.Experts (dotRow gated hid expertOf colOf sum_cols)
open scoped BigOperators

/-! ## The weight of one expert -/

/-- The column of weights whose number is `w`, taken by a masked sum over the columns. -/
def weightCol (cb : Vec Ideal S512x128 .f32) (w : BitVec 32) : FVec Ideal S512x1 .f32 :=
  shapeCast S512x1 (multiReduction .add [1] S512 (select (cmpi .eq (iota .tc S512x128 32 [1] iota_S512x128_d1_w32) (broadcast S512x128 w)) cb
    (broadcast S512x128 (Scalar.ofBits (F := Ideal) .f32 0x00000000#32))) 0x00000000#32 reduces_S512x128_S512 (.inl rfl) rfl) shapeCasts_S512_S512x1

theorem weightCol_at (cb : Vec Ideal S512x128 .f32) (w : BitVec 32) (r : Fin 512) (n : Fin 128) (h : w.toNat = n.val) :
    weightCol cb w (ix2 r 0) = cb (ix2 r n) := by
  have key : weightCol cb w (ix2 r 0) = ∑ q : Fin 128, if IntOp.cmpi .eq (BitVec.ofNat 32 q.val) w = 1#1 then cb (ix2 r q) else 0 := by
    pointwise [weightCol]
    try rfl
  rw [key, Finset.sum_eq_single n]
  · rw [if_pos (IntOp.cmpi_eq.2 (BitVec.eq_of_toNat_eq (by rw [BitVec.toNat_ofNat, h]; omega)))]
  · intro q _ hq
    rw [if_neg]
    intro hc
    refine hq (Fin.ext ?_)
    have e := congrArg BitVec.toNat (IntOp.cmpi_eq.1 hc)
    rw [BitVec.toNat_ofNat, h] at e
    omega
  · exact fun hn => absurd (Finset.mem_univ _) hn

/-- Number `8 g + e`, as the body computes it. -/
def numOf (g e : ℕ) : BitVec 32 := Scalar.addi (Scalar.muli (BitVec.ofNat 32 g) 8#32) (BitVec.ofNat 32 e)

theorem numOf_val {g e : ℕ} (hg : g < 4) (he : e < 8) : (numOf g e).toNat = 8 * g + e := by
  show (BitVec.ofNat 32 g * 8#32 + BitVec.ofNat 32 e).toNat = _
  rw [BitVec.toNat_add, BitVec.toNat_mul, BitVec.toNat_ofNat, BitVec.toNat_ofNat, BitVec.toNat_ofNat]
  omega

/-! ## The block of columns -/

/-- One expert's columns, from its weights, its column of the tokens' weights and the tokens. -/
def expertCols (x : FVec Ideal S512x1024 .bf16) (v : FVec Ideal S512x1 .f32) (g u : Vec Ideal S1x1024x256 .bf16) : FVec Ideal S512x256 .bf16 :=
  k0_pay14 v x g u

theorem expertCols_at (x : FVec Ideal S512x1024 .bf16) (v : FVec Ideal S512x1 .f32) (g u : Vec Ideal S1x1024x256 .bf16) (r : Fin 512) (f : Fin 256) :
    expertCols x v g u (ix2 r f) = hid (fun k => x (ix2 r k)) (fun k f => g (ix3 0 k f)) (fun k f => u (ix3 0 k f)) f * v (ix2 r 0) := by
  unfold hid gated dotRow
  pointwise [expertCols, k0_pay14]

/-- Eight experts' columns side by side. -/
def eight (c0 c1 c2 c3 c4 c5 c6 c7 : FVec Ideal S512x256 .bf16) : FVec Ideal S512x2048 .bf16 :=
  concatenate S512x2048 1 [⟨S512x256, c0⟩, ⟨S512x256, c1⟩, ⟨S512x256, c2⟩, ⟨S512x256, c3⟩, ⟨S512x256, c4⟩, ⟨S512x256, c5⟩, ⟨S512x256, c6⟩, ⟨S512x256, c7⟩]
    concatenates_S512x256_S512x256_S512x256_S512x256_S512x256_S512x256_S512x256_S512x256_S512x2048_d1

theorem eight_at (c0 c1 c2 c3 c4 c5 c6 c7 : FVec Ideal S512x256 .bf16) (r : Fin 512) (e : Fin 8) (f : Fin 256) (j : Fin 2048) (hj : j.val = 256 * e.val + f.val) :
    eight c0 c1 c2 c3 c4 c5 c6 c7 (ix2 r j) = (![c0, c1, c2, c3, c4, c5, c6, c7] e) (ix2 r f) :=
  Cert.Experts.eight_at c0 c1 c2 c3 c4 c5 c6 c7 r e f j hj

/-- The columns' product with the group's last projection, added to the sums. -/
def addedBlock (acc : FVec Ideal S512x1024 .f32) (h : FVec Ideal S512x2048 .bf16) (wd : Vec Ideal S1x2048x1024 .bf16) : FVec Ideal S512x1024 .f32 :=
  shapeCast S512x1024 (addf acc (matmul (φ₂ := .bf16) dot_S512x2048_S2048x1024_S512x1024_1_0_0_1_n_n none h (shapeCast S2048x1024 wd shapeCasts_S1x2048x1024_S2048x1024)
    (constant S512x1024 .f32 0x00000000#32))) shapeCasts_S512x1024_S512x1024

theorem addedBlock_at (acc : FVec Ideal S512x1024 .f32) (h : FVec Ideal S512x2048 .bf16) (wd : Vec Ideal S1x2048x1024 .bf16) (r : Fin 512) (k : Fin 1024) :
    addedBlock acc h wd (ix2 r k) = acc (ix2 r k) + ∑ j : Fin 2048, h (ix2 r j) * wd (ix3 0 j k) := by
  pointwise [addedBlock]
  try rfl

theorem stepOf_eq (i : grid0.Coords) (x : Vec Ideal S512x1024 .bf16) (cb : Vec Ideal S512x128 .f32) (acc : Vec Ideal S512x1024 .f32)
    (g0 u0 g1 u1 g2 u2 g3 u3 g4 u4 g5 u5 g6 u6 g7 u7 : Vec Ideal S1x1024x256 .bf16) (wd : Vec Ideal S1x2048x1024 .bf16) :
    stepOf i x cb acc g0 u0 g1 u1 g2 u2 g3 u3 g4 u4 g5 u5 g6 u6 g7 u7 wd
      = addedBlock acc (eight (expertCols x (weightCol cb (numOf (i 1).val 0)) g0 u0) (expertCols x (weightCol cb (numOf (i 1).val 1)) g1 u1)
          (expertCols x (weightCol cb (numOf (i 1).val 2)) g2 u2) (expertCols x (weightCol cb (numOf (i 1).val 3)) g3 u3)
          (expertCols x (weightCol cb (numOf (i 1).val 4)) g4 u4) (expertCols x (weightCol cb (numOf (i 1).val 5)) g5 u5)
          (expertCols x (weightCol cb (numOf (i 1).val 6)) g6 u6) (expertCols x (weightCol cb (numOf (i 1).val 7)) g7 u7)) wd := rfl

/-- What a group adds to a token at one column. -/
def groupRow (x : Fin 1024 → EReal) (cb : Fin 8 → EReal) (wg wu : Fin 8 → Fin 1024 → Fin 256 → EReal) (wd : Fin 8 → Fin 256 → Fin 1024 → EReal) (k : Fin 1024) : EReal :=
  ∑ e : Fin 8, ∑ f : Fin 256, hid x (wg e) (wu e) f * cb e * wd e f k

theorem stepBlock_at (i : grid0.Coords) (hi : (i 1).val < 4) (x : Vec Ideal S512x1024 .bf16) (cb : Vec Ideal S512x128 .f32) (wg wu : Vec Ideal S8x1024x256 .bf16)
    (wd : Vec Ideal S1x2048x1024 .bf16) (acc : Vec Ideal S512x1024 .f32) (r : Fin 512) (k : Fin 1024) :
    stepBlock i x cb wg wu wd acc (ix2 r k)
      = acc (ix2 r k) + groupRow (fun l => x (ix2 r l)) (fun e => cb (ix2 r ⟨8 * (i 1).val + e.val, by omega⟩)) (fun e l f => wg (ix3 e l f)) (fun e l f => wu (ix3 e l f))
          (fun e f k => wd (ix3 0 (colOf e f) k)) k := by
  unfold stepBlock
  rw [stepOf_eq, addedBlock_at, sum_cols]
  unfold groupRow
  refine congrArg _ (Finset.sum_congr rfl fun e _ => Finset.sum_congr rfl fun f _ => ?_)
  refine congrArg (fun q : EReal => q * wd (ix3 0 (colOf e f) k)) ?_
  rw [eight_at _ _ _ _ _ _ _ _ r e f (colOf e f) rfl]
  have hw : ∀ (w : Vec Ideal S8x1024x256 .bf16) (e : Fin 8) (h) (k : Fin 1024) (f : Fin 256), expert e.val h w (ix3 0 k f) = w (ix3 e k f) := fun w e h k f => by
    show w _ = w _
    congr 1
    funext a
    apply Fin.ext
    match a with
    | ⟨0, _⟩ => show e.val + 1 * 0 = e.val; omega
    | ⟨1, _⟩ => show 0 + 1 * k.val = k.val; omega
    | ⟨2, _⟩ => show 0 + 1 * f.val = f.val; omega
  have key : ∀ (h), expertCols x (weightCol cb (numOf (i 1).val e.val)) (expert e.val h wg) (expert e.val h wu) (ix2 r f)
        = hid (fun l => x (ix2 r l)) (fun l f => wg (ix3 e l f)) (fun l f => wu (ix3 e l f)) f * cb (ix2 r ⟨8 * (i 1).val + e.val, by omega⟩) := fun h => by
    rw [expertCols_at, weightCol_at cb _ r ⟨8 * (i 1).val + e.val, by omega⟩ (numOf_val hi e.isLt),
      show (fun k f => expert e.val h wg (ix3 0 k f)) = fun k f => wg (ix3 e k f) from funext fun k => funext fun f => hw wg e h k f,
      show (fun k f => expert e.val h wu (ix3 0 k f)) = fun k f => wu (ix3 e k f) from funext fun k => funext fun f => hw wu e h k f]
  fin_cases e
  · exact key inb_S8x1024x256_S1x1024x256_0_0_0
  · exact key inb_S8x1024x256_S1x1024x256_1_0_0
  · exact key inb_S8x1024x256_S1x1024x256_2_0_0
  · exact key inb_S8x1024x256_S1x1024x256_3_0_0
  · exact key inb_S8x1024x256_S1x1024x256_4_0_0
  · exact key inb_S8x1024x256_S1x1024x256_5_0_0
  · exact key inb_S8x1024x256_S1x1024x256_6_0_0
  · exact key inb_S8x1024x256_S1x1024x256_7_0_0

theorem zeros_at (r : Fin 512) (k : Fin 1024) : (zeros : Vec Ideal S512x1024 .f32) (ix2 r k) = 0 := by
  pointwise [k0_pay3]
  try exact Ideal.ofBits_zero_f32

/-! ## The normalisation -/

/-- Rows normalised and scaled. -/
def normBlock (v6 : FVec Ideal S512x1024 .f32) (v7 : Vec Ideal S1x1024 .f32) : FVec Ideal S512x1024 .f32 :=
  mulf (mulf v6 (broadcastTo S512x1024 (rsqrt (addf (divf (shapeCast S512x1 (multiReduction .add [1] S512 (mulf v6 v6) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 (shapeCast S1x1024 v7 shapeCasts_S1x1024_S1x1024) broadcasts_S1x1024_S512x1024)

theorem normBlock_at (v6 : FVec Ideal S512x1024 .f32) (v7 : Vec Ideal S1x1024 .f32) (r : Fin 512) (k : Fin 1024) :
    normBlock v6 v7 (ix2 r k) = normed (fun l => v6 (ix2 r l)) (v7 (ix2 0 k)) k := by
  unfold normed
  pointwise [normBlock]
  try rfl

theorem out_at (x1 acc : Vec Ideal S512x1024 .f32) (g : Vec Ideal S1x1024 .f32) (r : Fin 512) (k : Fin 1024) :
    k0_pay2 x1 acc g (ix2 r k) = normed (fun l => x1 (ix2 r l) + acc (ix2 r l)) (g (ix2 0 k)) k := by
  rw [show k0_pay2 x1 acc g = normBlock (addf x1 acc) g from rfl, normBlock_at]
  rfl

end Cert.Groups

end
-- ==== Proof.Groups.RefRows.lean ====
/- The third reference's result at one element, over the extended reals. -/
module

public import proofs.«01_k».proof.Proof.Gen.Reference3Ideal.Run
public import proofs.«01_k».proof.Proof.Experts.Rows
public import Idealize.ShloMosaic.Lib.Affine

@[expose] public section

noncomputable section

namespace Cert.Groups.Ref

open Cert.Reference3Ideal Cert.Reference3Ideal.Gen
open Idealize.ShloMosaic Idealize.ShloMosaic.TcCoe
open Cert.Gather (normed)
open Cert.Experts (dotRow gated hid)
open scoped BigOperators

/-! ## The experts -/

/-- A projection of every token by every expert. -/
def proj (w : Vec Ideal S32x1024x256 .f32) (x : FVec Ideal S512x1024 .f32) : FVec Ideal S32x512x256 .f32 :=
  transpose S32x512x256 [0, 2, 1] (Host.dotGeneral (φ₁ := .f32) dot_S32x1024x256_S512x1024_S32x256x512_1_1_02_0_n_n none w x) transposes_S32x256x512_S32x512x256_0_2_1

theorem proj_at (w : Vec Ideal S32x1024x256 .f32) (x : FVec Ideal S512x1024 .f32) (q : Fin 32) (n : Fin 512) (f : Fin 256) :
    proj w x (ix3 q n f) = dotRow (fun k => x (ix2 n k)) (fun k => w (ix3 q k f)) := by
  unfold dotRow
  pointwise [proj]
  try exact Finset.sum_congr rfl fun k _ => mul_comm _ _

/-- The gated products. -/
def gate (g u : FVec Ideal S32x512x256 .f32) : FVec Ideal S32x512x256 .f32 :=
  mulf (mulf g (Host.divf (broadcastInDim S32x512x256 ![] bcast_S_S32x512x256 (constant S_ .f32 0x3F800000#32))
    (addf (broadcastInDim S32x512x256 ![] bcast_S_S32x512x256 (constant S_ .f32 0x3F800000#32)) (Host.exp (Host.negf g))))) u

theorem gate_at (g u : FVec Ideal S32x512x256 .f32) (q : Fin 32) (n : Fin 512) (f : Fin 256) :
    gate g u (ix3 q n f) = gated (g (ix3 q n f)) (u (ix3 q n f)) := by
  unfold gated
  pointwise [gate]
  rfl

/-- Each expert's output for each token, weighted, summed. -/
def mixed (cw : FVec Ideal S512x32 .f32) (h : FVec Ideal S32x512x256 .f32) (wd : Vec Ideal S32x256x1024 .f32) : FVec Ideal S512x1024 .f32 :=
  Host.reduceAdd (mulf (broadcastInDim S32x512x1024 ![0, 1, 2] bcast_S32x512x1_S32x512x1024_0_1_2
      (broadcastInDim S32x512x1 ![0, 1] bcast_S32x512_S32x512x1_0_1 (transpose S32x512 [1, 0] cw transposes_S512x32_S32x512_1_0)))
    (Host.dotGeneral (φ₂ := .f32) dot_S32x512x256_S32x256x1024_S32x512x1024_2_1_1_2_0_0 none h wd)) (constant S_ .f32 0x00000000#32)
    reducesTo_S32x512x1024_S512x1024_d0 h_S_

theorem mixed_at (cw : FVec Ideal S512x32 .f32) (h : FVec Ideal S32x512x256 .f32) (wd : Vec Ideal S32x256x1024 .f32) (n : Fin 512) (k : Fin 1024) :
    mixed cw h wd (ix2 n k) = ∑ q : Fin 32, cw (ix2 n q) * ∑ f : Fin 256, h (ix3 q n f) * wd (ix3 q f k) := by
  pointwise [mixed]
  done

/-- The reference's normalisation. -/
def norm (x : FVec Ideal S512x1024 .f32) (g : Vec Ideal S1024 .f32) : FVec Ideal S512x1024 .f32 :=
  mulf (mulf x (broadcastInDim S512x1024 ![0, 1] bcast_S512x1_S512x1024_0_1 (Host.rsqrt (addf (Host.divf
    (broadcastInDim S512x1 ![0] bcast_S512_S512x1_0 (Host.reduceAdd (mulf x x) (constant S_ .f32 0x00000000#32) reducesTo_S512x1024_S512_d1 h_S_))
    (broadcastInDim S512x1 ![] bcast_S_S512x1 (constant S_ .f32 0x44800000#32))) (broadcastInDim S512x1 ![] bcast_S_S512x1 (constant S_ .f32 0x358637BD#32))))))
    (broadcastInDim S512x1024 ![0, 1] bcast_S1x1024_S512x1024_0_1 (broadcastInDim S1x1024 ![1] bcast_S1024_S1x1024_1 g))

theorem norm_at (x : FVec Ideal S512x1024 .f32) (g : Vec Ideal S1024 .f32) (n : Fin 512) (k : Fin 1024) :
    norm x g (ix2 n k) = normed (fun l => x (ix2 n l)) (g (ix1 k)) k := by
  unfold normed
  pointwise [norm]
  try rfl

/-- The weights of the 32 experts. -/
def weights (cb : Vec Ideal S512x128 .f32) : FVec Ideal S512x32 .f32 := extractStridedSlice S512x32 ![0, 0] cb slices_S512x128_S512x32_0_0

theorem weights_at (cb : Vec Ideal S512x128 .f32) (n : Fin 512) (q : Fin 32) : weights cb (ix2 n q) = cb (ix2 n ⟨q.val, by omega⟩) := by
  pointwise [weights]
  try rfl

/-- The reference of its arguments. -/
def result (x : Vec Ideal S512x1024 .bf16) (cb : Vec Ideal S512x128 .f32) (x1 : Vec Ideal S512x1024 .f32) (wg wu : Vec Ideal S32x1024x256 .f32)
    (wd : Vec Ideal S32x256x1024 .f32) (g : Vec Ideal S1024 .f32) : FVec Ideal S512x1024 .f32 :=
  norm (addf x1 (mixed (weights cb) (gate (proj wg (extf .f32 x bitsLt_bf16_f32)) (proj wu (extf .f32 x bitsLt_bf16_f32))) wd)) g

theorem result_at (x : Vec Ideal S512x1024 .bf16) (cb : Vec Ideal S512x128 .f32) (x1 : Vec Ideal S512x1024 .f32) (wg wu : Vec Ideal S32x1024x256 .f32)
    (wd : Vec Ideal S32x256x1024 .f32) (g : Vec Ideal S1024 .f32) (n : Fin 512) (k : Fin 1024) :
    result x cb x1 wg wu wd g (ix2 n k)
      = normed (fun l => x1 (ix2 n l) + ∑ q : Fin 32, cb (ix2 n ⟨q.val, by omega⟩) * ∑ f : Fin 256,
          hid (fun k => x (ix2 n k)) (fun k f => wg (ix3 q k f)) (fun k f => wu (ix3 q k f)) f * wd (ix3 q f l)) (g (ix1 k)) k := by
  unfold result
  rw [norm_at]
  refine congrArg (fun y => normed y (g (ix1 k)) k) (funext fun l => ?_)
  show x1 (ix2 n l) + mixed _ _ _ (ix2 n l) = _
  rw [mixed_at]
  refine congrArg _ (Finset.sum_congr rfl fun q _ => ?_)
  rw [weights_at]
  refine congrArg _ (Finset.sum_congr rfl fun f _ => ?_)
  rw [gate_at, proj_at, proj_at]
  rfl

variable (m : (ℓ : Idealize.ShloMosaic.Loc nD τ sig) → Buf (Elt Ideal) ℓ) (c : Dev nD)

set_option maxRecDepth 16384 in
theorem res_eq : Value.res_main_v27 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

end Cert.Groups.Ref

end
-- ==== Proof.Groups.Value.lean ====
/- What the third call leaves of its result, over the extended reals: it is the reference's. -/
module

public import proofs.«01_k».proof.Proof.Groups.Rows
public import proofs.«01_k».proof.Proof.Groups.RefRows

@[expose] public section

set_option maxRecDepth 16384

noncomputable section

namespace Cert.Groups

open Cert.Kernel3Ideal Cert.Kernel3Ideal.Gen
open Idealize.ShloMosaic Idealize.ShloMosaic.TcCoe Idealize.ShloMosaic.Tactic Idealize.SL.Sem
open Idealize.ShloMosaic.Pipeline (Dat Cfg Window)
open Cert.Gather (normed)
open Cert.Experts (hid expertOf colOf sum_experts mul_sum_of_nonneg)
open scoped BigOperators

variable (m : (ℓ : Loc nD τ sig) → Buf (Elt Ideal) ℓ)

/-! ## The index maps -/

theorem co : ∀ t : Fin grid0.N, ((grid0.coords t) 1).val = t.val := by decide +kernel
theorem idx0 : ∀ t : Fin grid0.N, cc0_transform_0 (grid0.coords t) = ![0, 0] := by decide +kernel
theorem idx1 : ∀ t : Fin grid0.N, cc0_transform_1 (grid0.coords t) = ![0, 0] := by decide +kernel
theorem idx2 : ∀ t : Fin grid0.N, cc0_transform_2 (grid0.coords t) = ![0, 0] := by decide +kernel
theorem idx6 : ∀ t : Fin grid0.N, cc0_transform_6 (grid0.coords t) = ![0, 0] := by decide +kernel
theorem idx7 : ∀ t : Fin grid0.N, cc0_transform_7 (grid0.coords t) = ![0, 0] := by decide +kernel
theorem idx3 : ∀ t : Fin grid0.N, cc0_transform_3 (grid0.coords t) = ![t.val, 0, 0] := by decide +kernel
theorem idx4 : ∀ t : Fin grid0.N, cc0_transform_4 (grid0.coords t) = ![t.val, 0, 0] := by decide +kernel
theorem idx5 : ∀ t : Fin grid0.N, cc0_transform_5 (grid0.coords t) = ![t.val, 0, 0] := by decide +kernel

/-! ## The arguments and the blocks, at their shapes -/

abbrev xA (c : Dev nD) : Vec Ideal S512x1024 .bf16 := m ((c : Thread nD τ).loc main_arg0)
abbrev cbA (c : Dev nD) : Vec Ideal S512x128 .f32 := m ((c : Thread nD τ).loc main_arg1)
abbrev x1A (c : Dev nD) : Vec Ideal S512x1024 .f32 := m ((c : Thread nD τ).loc main_arg2)
abbrev wgA (c : Dev nD) : Vec Ideal S32x1024x256 .f32 := m ((c : Thread nD τ).loc main_arg3)
abbrev wuA (c : Dev nD) : Vec Ideal S32x1024x256 .f32 := m ((c : Thread nD τ).loc main_arg4)
abbrev wdA (c : Dev nD) : Vec Ideal S32x256x1024 .f32 := m ((c : Thread nD τ).loc main_arg5)
abbrev gA (c : Dev nD) : Vec Ideal S1024 .f32 := m ((c : Thread nD τ).loc main_arg6)

abbrev xB (c : Dev nD) (t : Fin cfg0.N) : Vec Ideal S512x1024 .bf16 := iblk m c 0 t
abbrev cbB (c : Dev nD) (t : Fin cfg0.N) : Vec Ideal S512x128 .f32 := iblk m c 1 t
abbrev x1B (c : Dev nD) (t : Fin cfg0.N) : Vec Ideal S512x1024 .f32 := iblk m c 2 t
abbrev wgB (c : Dev nD) (t : Fin cfg0.N) : Vec Ideal S8x1024x256 .bf16 := iblk m c 3 t
abbrev wuB (c : Dev nD) (t : Fin cfg0.N) : Vec Ideal S8x1024x256 .bf16 := iblk m c 4 t
abbrev wdB (c : Dev nD) (t : Fin cfg0.N) : Vec Ideal S1x2048x1024 .bf16 := iblk m c 5 t
abbrev gB (c : Dev nD) (t : Fin cfg0.N) : Vec Ideal S1x1024 .f32 := iblk m c 6 t

theorem V_wg (c : Dev nD) : V m c main_v0 = (truncf .bf16 (wgA m c) bitsLt_bf16_f32 : FVec Ideal S32x1024x256 .bf16) := by
  unfold V; after_results_simp <;> rfl
theorem V_wu (c : Dev nD) : V m c main_v1 = (truncf .bf16 (wuA m c) bitsLt_bf16_f32 : FVec Ideal S32x1024x256 .bf16) := by
  unfold V; after_results_simp <;> rfl
theorem V_wd (c : Dev nD) : V m c main_v3
    = (shapeCast S4x2048x1024 (truncf .bf16 (wdA m c) bitsLt_bf16_f32 : FVec Ideal S32x256x1024 .bf16) shapeCasts_S32x256x1024_S4x2048x1024 : FVec Ideal S4x2048x1024 .bf16) := by
  unfold V; after_results_simp <;> rfl
theorem V_scale (c : Dev nD) : V m c main_v4 = (broadcastInDim S1x1024 ![1] bcast_S1024_S1x1024_1 (gA m c) : FVec Ideal S1x1024 .f32) := by
  unfold V; after_results_simp <;> rfl

/-- The group a point is. -/
abbrev groupOf (t : Fin cfg0.N) : Fin 4 := ⟨t.val, lt_of_lt_of_eq t.isLt N_0⟩

theorem xB_at (c : Dev nD) (t : Fin cfg0.N) (r : Fin 512) (l : Fin 1024) : xB m c t (ix2 r l) = xA m c (ix2 r l) := by
  show V m c main_arg0 _ = _
  rw [V_main_arg0]
  show m ((c : Thread nD τ).loc main_arg0) _ = _
  congr 1
  funext a
  apply Fin.ext
  match a with
  | ⟨0, _⟩ => show cc0_transform_0 (grid0.coords t) 0 * 512 + 1 * r.val = r.val; rw [idx0]; show 0 * 512 + 1 * r.val = r.val; omega
  | ⟨1, _⟩ => show cc0_transform_0 (grid0.coords t) 1 * 1024 + 1 * l.val = l.val; rw [idx0]; show 0 * 1024 + 1 * l.val = l.val; omega

theorem cbB_at (c : Dev nD) (t : Fin cfg0.N) (r : Fin 512) (l : Fin 128) : cbB m c t (ix2 r l) = cbA m c (ix2 r l) := by
  show V m c main_arg1 _ = _
  rw [V_main_arg1]
  show m ((c : Thread nD τ).loc main_arg1) _ = _
  congr 1
  funext a
  apply Fin.ext
  match a with
  | ⟨0, _⟩ => show cc0_transform_1 (grid0.coords t) 0 * 512 + 1 * r.val = r.val; rw [idx1]; show 0 * 512 + 1 * r.val = r.val; omega
  | ⟨1, _⟩ => show cc0_transform_1 (grid0.coords t) 1 * 128 + 1 * l.val = l.val; rw [idx1]; show 0 * 128 + 1 * l.val = l.val; omega

theorem x1B_at (c : Dev nD) (t : Fin cfg0.N) (r : Fin 512) (l : Fin 1024) : x1B m c t (ix2 r l) = x1A m c (ix2 r l) := by
  show V m c main_arg2 _ = _
  rw [V_main_arg2]
  show m ((c : Thread nD τ).loc main_arg2) _ = _
  congr 1
  funext a
  apply Fin.ext
  match a with
  | ⟨0, _⟩ => show cc0_transform_2 (grid0.coords t) 0 * 512 + 1 * r.val = r.val; rw [idx2]; show 0 * 512 + 1 * r.val = r.val; omega
  | ⟨1, _⟩ => show cc0_transform_2 (grid0.coords t) 1 * 1024 + 1 * l.val = l.val; rw [idx2]; show 0 * 1024 + 1 * l.val = l.val; omega

theorem wgB_at (c : Dev nD) (t : Fin cfg0.N) (e : Fin 8) (k : Fin 1024) (f : Fin 256) : wgB m c t (ix3 e k f) = wgA m c (ix3 (expertOf (groupOf t) e) k f) := by
  show V m c main_v0 _ = _
  rw [V_wg]
  show m ((c : Thread nD τ).loc main_arg3) _ = _
  congr 1
  funext a
  apply Fin.ext
  match a with
  | ⟨0, _⟩ => show cc0_transform_3 (grid0.coords t) 0 * 8 + 1 * e.val = 8 * t.val + e.val; rw [idx3]; show t.val * 8 + 1 * e.val = _; omega
  | ⟨1, _⟩ => show cc0_transform_3 (grid0.coords t) 1 * 1024 + 1 * k.val = k.val; rw [idx3]; show 0 * 1024 + 1 * k.val = k.val; omega
  | ⟨2, _⟩ => show cc0_transform_3 (grid0.coords t) 2 * 256 + 1 * f.val = f.val; rw [idx3]; show 0 * 256 + 1 * f.val = f.val; omega

theorem wuB_at (c : Dev nD) (t : Fin cfg0.N) (e : Fin 8) (k : Fin 1024) (f : Fin 256) : wuB m c t (ix3 e k f) = wuA m c (ix3 (expertOf (groupOf t) e) k f) := by
  show V m c main_v1 _ = _
  rw [V_wu]
  show m ((c : Thread nD τ).loc main_arg4) _ = _
  congr 1
  funext a
  apply Fin.ext
  match a with
  | ⟨0, _⟩ => show cc0_transform_4 (grid0.coords t) 0 * 8 + 1 * e.val = 8 * t.val + e.val; rw [idx4]; show t.val * 8 + 1 * e.val = _; omega
  | ⟨1, _⟩ => show cc0_transform_4 (grid0.coords t) 1 * 1024 + 1 * k.val = k.val; rw [idx4]; show 0 * 1024 + 1 * k.val = k.val; omega
  | ⟨2, _⟩ => show cc0_transform_4 (grid0.coords t) 2 * 256 + 1 * f.val = f.val; rw [idx4]; show 0 * 256 + 1 * f.val = f.val; omega

/-- The last projections, the experts of a group side by side. -/
theorem stacked_at (w : FVec Ideal S32x256x1024 .bf16) (g : Fin 4) (e : Fin 8) (f : Fin 256) (k : Fin 1024) :
    shapeCast S4x2048x1024 w shapeCasts_S32x256x1024_S4x2048x1024 (ix3 g (colOf e f) k) = w (ix3 (expertOf g e) f k) := by
  unfold colOf expertOf
  pointwise []
  refine congrArg (fun q => w (ix3 q f k)) (Fin.ext ?_)
  show g.val * 8 + (256 * e.val + f.val) / 256 = 8 * g.val + e.val
  omega

theorem wdB_at (c : Dev nD) (t : Fin cfg0.N) (e : Fin 8) (f : Fin 256) (k : Fin 1024) :
    wdB m c t (ix3 0 (colOf e f) k) = wdA m c (ix3 (expertOf (groupOf t) e) f k) := by
  refine Eq.trans ?_ (stacked_at (truncf .bf16 (wdA m c) bitsLt_bf16_f32) (groupOf t) e f k)
  show V m c main_v3 _ = _
  rw [V_wd]
  congr 1
  funext a
  apply Fin.ext
  match a with
  | ⟨0, _⟩ => show cc0_transform_5 (grid0.coords t) 0 * 1 + 1 * 0 = t.val; rw [idx5]; show t.val * 1 + 1 * 0 = _; omega
  | ⟨1, _⟩ => show cc0_transform_5 (grid0.coords t) 1 * 2048 + 1 * (colOf e f).val = (colOf e f).val; rw [idx5]; show 0 * 2048 + 1 * (colOf e f).val = _; omega
  | ⟨2, _⟩ => show cc0_transform_5 (grid0.coords t) 2 * 1024 + 1 * k.val = k.val; rw [idx5]; show 0 * 1024 + 1 * k.val = k.val; omega

theorem gB_at (c : Dev nD) (t : Fin cfg0.N) (l : Fin 1024) : gB m c t (ix2 0 l) = gA m c (ix1 l) := by
  show V m c main_v4 _ = _
  rw [V_scale]
  unfold broadcastInDim
  congr 1
  funext a
  apply Fin.ext
  match a with
  | ⟨0, _⟩ => show cc0_transform_6 (grid0.coords t) 1 * 1024 + 1 * l.val = l.val; rw [idx6]; show 0 * 1024 + 1 * l.val = l.val; omega

/-! ## The sums, point by point -/

/-- What group `g` adds to token `r` at column `k`. -/
def added (c : Dev nD) (g : Fin 4) (r : Fin 512) (k : Fin 1024) : EReal :=
  groupRow (fun l => xA m c (ix2 r l)) (fun e => cbA m c (ix2 r ⟨8 * g.val + e.val, by omega⟩)) (fun e l f => wgA m c (ix3 (expertOf g e) l f))
    (fun e l f => wuA m c (ix3 (expertOf g e) l f)) (fun e f k => wdA m c (ix3 (expertOf g e) f k)) k

theorem step_at (c : Dev nD) (t : Fin cfg0.N) (acc : Vec Ideal S512x1024 .f32) (r : Fin 512) (k : Fin 1024) :
    stepBlock (grid0.coords t) (xB m c t) (cbB m c t) (wgB m c t) (wuB m c t) (wdB m c t) acc (ix2 r k) = acc (ix2 r k) + added m c (groupOf t) r k := by
  have ht : t.val < 4 := lt_of_lt_of_eq t.isLt N_0
  have hi : ((grid0.coords t) 1).val = t.val := co t
  rw [stepBlock_at (grid0.coords t) (hi.symm ▸ ht)]
  refine congrArg _ ?_
  unfold added
  rw [show (fun l => xB m c t (ix2 r l)) = fun l => xA m c (ix2 r l) from funext fun l => xB_at m c t r l,
    show (fun e : Fin 8 => cbB m c t (ix2 r ⟨8 * ((grid0.coords t) 1).val + e.val, by omega⟩)) = fun e => cbA m c (ix2 r ⟨8 * (groupOf t).val + e.val, by omega⟩) from
      funext fun e => (cbB_at m c t r _).trans (congrArg (fun q => cbA m c (ix2 r q)) (Fin.ext (by show 8 * ((grid0.coords t) 1).val + e.val = 8 * t.val + e.val; rw [hi]))),
    show (fun e l f => wgB m c t (ix3 e l f)) = fun e l f => wgA m c (ix3 (expertOf (groupOf t) e) l f) from funext fun e => funext fun l => funext fun f => wgB_at m c t e l f,
    show (fun e l f => wuB m c t (ix3 e l f)) = fun e l f => wuA m c (ix3 (expertOf (groupOf t) e) l f) from funext fun e => funext fun l => funext fun f => wuB_at m c t e l f,
    show (fun e f k => wdB m c t (ix3 0 (colOf e f) k)) = fun e f k => wdA m c (ix3 (expertOf (groupOf t) e) f k) from
      funext fun e => funext fun f => funext fun k => wdB_at m c t e f k]

/-- The sums after a middle point, from those after the point before. -/
theorem sums_mid (c : Dev nD) (t : Fin cfg0.N) (h0 : ¬t.val % 4 = 0) (h1 : ¬t.val % 4 = 3) (r : Fin 512) (k : Fin 1024) :
    (outsAt0 m c t.val t.isLt).2 (ix2 r k) = (outsAt0 m c (t.val - 1) (Nat.lt_of_le_of_lt (Nat.sub_le _ _) t.isLt)).2 (ix2 r k) + added m c (groupOf t) r k := by
  rw [outsAt0_B m c t h0 h1]
  dsimp only
  rw [sums_B]
  exact step_at m c t _ r k

/-- The sums after the first point. -/
theorem sums0 (c : Dev nD) (r : Fin 512) (k : Fin 1024) : (outsAt0 m c 0 t0_0.isLt).2 (ix2 r k) = added m c 0 r k := by
  have e := congrArg (fun q => q.2 (ix2 r k)) (outsAt0_A m c t0_0 rfl (by decide))
  refine Eq.trans e ?_
  dsimp only
  rw [sums_A]
  refine (step_at m c t0_0 _ r k).trans ?_
  rw [zeros_at, zero_add]
  rfl

theorem sums2 (c : Dev nD) (r : Fin 512) (k : Fin 1024) : (outsAt0 m c 2 t0_2.isLt).2 (ix2 r k) = added m c 0 r k + added m c 1 r k + added m c 2 r k :=
  (sums_mid m c t0_2 (by decide) (by decide) r k).trans (congrArg (· + added m c 2 r k)
    ((sums_mid m c t0_1 (by decide) (by decide) r k).trans (congrArg (· + added m c 1 r k) (sums0 m c r k))))

/-! ## The result -/

/-- One element of the result: the token's row with all its experts' outputs added, normalised and scaled. -/
def outAt (c : Dev nD) (n : Fin 512) (k : Fin 1024) : EReal :=
  normed (fun l => x1A m c (ix2 n l) + ∑ g, added m c g n l) (gA m c (ix1 k)) k

def outA (c : Dev nD) : Vec Ideal S512x1024 .f32 := fun i => outAt m c (i 0) (i 1)

theorem left_at (c : Dev nD) (r : Fin 512) (k : Fin 1024) : (outsAt0 m c 3 t0_3.isLt).1 (ix2 r k) = outAt m c r k := by
  have e := congrArg (fun q => q.1 (ix2 r k)) (outsAt0_C m c t0_3 (by decide) rfl)
  refine Eq.trans e ?_
  dsimp only
  rw [out_C]
  refine (out_at (x1B m c t0_3) _ (gB m c t0_3) r k).trans ?_
  unfold outAt
  refine congrArg₂ (fun f g => normed f g k) (funext fun l => ?_) (gB_at m c t0_3 k)
  refine congrArg₂ (· + ·) (x1B_at m c t0_3 r l) ?_
  refine (step_at m c t0_3 _ r l).trans ?_
  rw [Fin.sum_univ_four]
  exact congrArg (· + added m c 3 r l) (sums2 m c r l)

theorem flushed_eq (c : Dev nD) (t : Fin cfg0.N) (hf : (cfg0.win 7).flush t = true) :
    (dats m 0 c).flushed 7 t = ((cfg0.win 7).blk t).view.read (Elt Ideal) (outA m c) := by
  have h3 : t.val = 3 := by have h := (flush0_7 t).mp hf; have hN : t.val < 4 := lt_of_lt_of_eq t.isLt N_0; omega
  obtain rfl : t = t0_3 := Fin.ext h3
  refine funext fun j : S512x1024.Idx => ?_
  show (dats m 0 c).after 7 t0_3 j = outA m c _
  rw [after0_7]
  refine (congrArg (outsAt0 m c 3 t0_3.isLt).1 (eq_ix2 j)).trans ((left_at m c (j 0) (j 1)).trans ?_)
  show outA m c (ix2 (j 0) (j 1)) = outA m c _
  refine congrArg (outA m c) ?_
  funext a
  apply Fin.ext
  match a with
  | ⟨0, _⟩ => show (j 0).val = cc0_transform_7 (grid0.coords t0_3) 0 * 512 + 1 * (j 0).val; rw [idx7]; show _ = 0 * 512 + 1 * (j 0).val; omega
  | ⟨1, _⟩ => show (j 1).val = cc0_transform_7 (grid0.coords t0_3) 1 * 1024 + 1 * (j 1).val; rw [idx7]; show _ = 0 * 1024 + 1 * (j 1).val; omega

theorem final (c : Dev nD) : (dats m 0 c).arrAt 7 cfg0.N = outA m c := by
  refine (dats m 0 c).arrAt_eq_of_cover 7 (outA m c) (flushed_eq m c) fun i : S512x1024.Idx => ⟨t0_3, (flush0_7 t0_3).mpr rfl, ?_⟩
  have h0 : (i 0 : Nat) < 512 := (i 0).isLt
  have h1 : (i 1 : Nat) < 1024 := (i 1).isLt
  have hm : i ∈ ((cfg0.win 7).rect t0_3).set := by
    refine Rect.mem_set_unit.2 fun a => ?_
    match a with
    | ⟨0, _⟩ =>
      show cc0_transform_7 (grid0.coords t0_3) 0 * 512 ≤ (i 0 : Nat) ∧ (i 0 : Nat) < cc0_transform_7 (grid0.coords t0_3) 0 * 512 + 512
      rw [idx7]
      show 0 * 512 ≤ (i 0 : Nat) ∧ (i 0 : Nat) < 0 * 512 + 512
      omega
    | ⟨1, _⟩ =>
      show cc0_transform_7 (grid0.coords t0_3) 1 * 1024 ≤ (i 1 : Nat) ∧ (i 1 : Nat) < cc0_transform_7 (grid0.coords t0_3) 1 * 1024 + 1024
      rw [idx7]
      show 0 * 1024 ≤ (i 1 : Nat) ∧ (i 1 : Nat) < 0 * 1024 + 1024
      omega
  exact (View.set_slice_whole main_v5 ((cfg0.win 7).rect t0_3)).symm ▸ hm

/-- The call's run: its result and its arguments. -/
theorem run_result (ρ : Dev nD → PrngReg) : θ_run defs (onTc (τ := τ) (main (F := Ideal))) ⟨m, fun _ => 0, ρ⟩ (fun r => ∀ c : Dev nD,
      r.2.mem ((c.tc : Thread nD τ).loc main_v5) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (unchanged m ρ) (run_main m ρ)
  exact (θ_run defs _ _).mono (fun _ h c => ⟨((h.2 c).1 7).trans (final m c), h.1 c⟩) h

/-! ## The reference -/

/-- A token's weight for the expert numbered `q`. -/
abbrev weight (c : Dev nD) (n : Fin 512) (q : Fin 32) : EReal := cbA m c (ix2 n ⟨q.val, by omega⟩)

theorem added_eq (c : Dev nD) (h0 : ∀ n q, 0 ≤ weight m c n q) (h1 : ∀ n q, weight m c n q ≠ ⊤) (n : Fin 512) (k : Fin 1024) :
    ∑ g, added m c g n k = ∑ q : Fin 32, weight m c n q * ∑ f : Fin 256,
      hid (fun l => xA m c (ix2 n l)) (fun l f => wgA m c (ix3 q l f)) (fun l f => wuA m c (ix3 q l f)) f * wdA m c (ix3 q f k) := by
  rw [sum_experts]
  refine Finset.sum_congr rfl fun g _ => ?_
  unfold added groupRow
  refine Finset.sum_congr rfl fun e _ => ?_
  rw [mul_sum_of_nonneg _ _ (h0 n _) (h1 n _)]
  refine Finset.sum_congr rfl fun f _ => ?_
  show _ * weight m c n (expertOf g e) * _ = _
  generalize weight m c n (expertOf g e) = a
  rw [mul_comm _ a, mul_assoc]

/-- The call's result is the reference's. -/
theorem out_eq_ref (c : Dev nD) (h0 : ∀ n q, 0 ≤ weight m c n q) (h1 : ∀ n q, weight m c n q ≠ ⊤) :
    outA m c = Ref.result (xA m c) (cbA m c) (x1A m c) (wgA m c) (wuA m c) (wdA m c) (gA m c) := by
  refine funext fun i : S512x1024.Idx => ?_
  rw [eq_ix2 i]
  refine Eq.trans ?_ (Ref.result_at (xA m c) (cbA m c) (x1A m c) (wgA m c) (wuA m c) (wdA m c) (gA m c) (i 0) (i 1)).symm
  show outAt m c (i 0) (i 1) = _
  unfold outAt
  exact congrArg (fun y => normed y (gA m c (ix1 (i 1))) (i 1)) (funext fun l => congrArg _ (added_eq m c h0 h1 (i 0) l))

end Cert.Groups

end
-- ==== Proof.Mixer.RefRows.lean ====
/- The fourth reference's results at one element, over the extended reals. -/
module

public import proofs.«01_k».proof.Proof.Gen.Reference4Ideal.Run
public import proofs.«01_k».proof.Proof.Gather.Rows
public import Idealize.ShloMosaic.Lib.Affine

@[expose] public section

noncomputable section

namespace Cert.Mixer

open Idealize.ShloMosaic Idealize.ShloMosaic.TcCoe
open Cert.Gather (normed)
open scoped BigOperators

/-- A token's normalised row, scaled, times one column of the projection. -/
def mixRow (x g w : Fin 1024 → EReal) : EReal := ∑ k : Fin 1024, normed x (g k) k * w k

namespace Ref

open Cert.Reference4Ideal Cert.Reference4Ideal.Gen

/-- The reference's normalisation. -/
def norm (x : Vec Ideal S8x64x1024 .f32) (g : Vec Ideal S1024 .f32) : FVec Ideal S8x64x1024 .f32 :=
  mulf (mulf x (broadcastInDim S8x64x1024 ![0, 1, 2] bcast_S8x64x1_S8x64x1024_0_1_2 (Host.rsqrt (addf (Host.divf
    (broadcastInDim S8x64x1 ![0, 1] bcast_S8x64_S8x64x1_0_1 (Host.reduceAdd (mulf x x) (constant S_ .f32 0x00000000#32) reducesTo_S8x64x1024_S8x64_d2 h_S_))
    (broadcastInDim S8x64x1 ![] bcast_S_S8x64x1 (constant S_ .f32 0x44800000#32))) (broadcastInDim S8x64x1 ![] bcast_S_S8x64x1 (constant S_ .f32 0x358637BD#32))))))
    (broadcastInDim S8x64x1024 ![0, 1, 2] bcast_S1x1x1024_S8x64x1024_0_1_2 (broadcastInDim S1x1x1024 ![2] bcast_S1024_S1x1x1024_2 g))

theorem norm_at (x : Vec Ideal S8x64x1024 .f32) (g : Vec Ideal S1024 .f32) (s : Fin 8) (t : Fin 64) (k : Fin 1024) :
    norm x g (ix3 s t k) = normed (fun l => x (ix3 s t l)) (g (ix1 k)) k := by
  unfold normed
  pointwise [norm]
  try rfl

/-- The combined projection. -/
def proj (x : Vec Ideal S8x64x1024 .f32) (g : Vec Ideal S1024 .f32) (w : Vec Ideal S1024x5632 .f32) : FVec Ideal S8x64x5632 .f32 :=
  Host.dotGeneral (φ₁ := .f32) (φ₂ := .f32) dot_S8x64x1024_S1024x5632_S8x64x5632_2_0_01_1_n_n none (norm x g) w

theorem proj_at (x : Vec Ideal S8x64x1024 .f32) (g : Vec Ideal S1024 .f32) (w : Vec Ideal S1024x5632 .f32) (s : Fin 8) (t : Fin 64) (j : Fin 5632) :
    proj x g w (ix3 s t j) = mixRow (fun l => x (ix3 s t l)) (fun l => g (ix1 l)) (fun l => w (ix2 l j)) := by
  have e : proj x g w (ix3 s t j) = ∑ k : Fin 1024, norm x g (ix3 s t k) * w (ix2 k j) := by
    unfold proj
    generalize norm x g = y
    pointwise []
    try rfl
  rw [e]
  unfold mixRow
  exact Finset.sum_congr rfl fun k _ => by rw [norm_at]

/-- The columns of the keys, or of the values. -/
def keys (p : FVec Ideal S8x64x5632 .f32) : FVec Ideal S8x64x256 .f32 := extractStridedSlice S8x64x256 ![0, 0, 3072] p slices_S8x64x5632_S8x64x256_0_0_3072
def values (p : FVec Ideal S8x64x5632 .f32) : FVec Ideal S8x64x256 .f32 := extractStridedSlice S8x64x256 ![0, 0, 3328] p slices_S8x64x5632_S8x64x256_0_0_3328

theorem keys_at (p : FVec Ideal S8x64x5632 .f32) (s : Fin 8) (t : Fin 64) (j : Fin 256) : keys p (ix3 s t j) = p (ix3 s t ⟨3072 + j.val, by omega⟩) := by
  pointwise [keys]
  try rfl
theorem values_at (p : FVec Ideal S8x64x5632 .f32) (s : Fin 8) (t : Fin 64) (j : Fin 256) : values p (ix3 s t j) = p (ix3 s t ⟨3328 + j.val, by omega⟩) := by
  pointwise [values]
  try rfl

/-- The newest 128 rows of a cache followed by the new ones. -/
def newest (old : Vec Ideal S8x128x4x64 .f32) (new : FVec Ideal S8x64x256 .f32) : FVec Ideal S8x128x4x64 .f32 :=
  extractStridedSlice S8x128x4x64 ![0, 64, 0, 0] (concatenate S8x192x4x64 1 [⟨S8x128x4x64, old⟩,
    ⟨S8x64x4x64, shapeCast S8x64x4x64 new shapeCasts_S8x64x256_S8x64x4x64⟩] concatenates_S8x128x4x64_S8x64x4x64_S8x192x4x64_d1) slices_S8x192x4x64_S8x128x4x64_0_64_0_0

/-- The last three rows of the convolution's inputs. -/
def lastRows (old : Vec Ideal S8x3x1024 .f32) (p : FVec Ideal S8x64x5632 .f32) : FVec Ideal S8x3x1024 .f32 :=
  extractStridedSlice S8x3x1024 ![0, 64, 0] (concatenate S8x67x1024 1 [⟨S8x3x1024, old⟩,
    ⟨S8x64x1024, extractStridedSlice S8x64x1024 ![0, 0, 0] p slices_S8x64x5632_S8x64x1024_0_0_0⟩] concatenates_S8x3x1024_S8x64x1024_S8x67x1024_d1) slices_S8x67x1024_S8x3x1024_0_64_0

theorem lastRows_at (old : Vec Ideal S8x3x1024 .f32) (p : FVec Ideal S8x64x5632 .f32) (s : Fin 8) (j : Fin 3) (k : Fin 1024) :
    lastRows old p (ix3 s j k) = p (ix3 s ⟨61 + j.val, by omega⟩ ⟨k.val, by omega⟩) := by
  pointwise [lastRows]
  rw [dif_neg (by omega)]
  exact congrArg (fun q => p (ix3 s q _)) (Fin.ext (by show 64 + j.val - 3 = 61 + j.val; omega))

/-- Dropping the oldest rows first leaves the same rows. -/
theorem newest_eq (old : Vec Ideal S8x128x4x64 .f32) (new : FVec Ideal S8x64x256 .f32) (h1 : S8x128x4x64.Slices ![0, 64, 0, 0] S8x64x4x64)
    (h2 : Shape.Concatenates [S8x64x4x64, S8x64x4x64] S8x128x4x64 1) :
    concatenate S8x128x4x64 1 [⟨S8x64x4x64, extractStridedSlice S8x64x4x64 ![0, 64, 0, 0] old h1⟩,
      ⟨S8x64x4x64, shapeCast S8x64x4x64 new shapeCasts_S8x64x256_S8x64x4x64⟩] h2 = newest old new := by
  unfold newest
  generalize shapeCast S8x64x4x64 new shapeCasts_S8x64x256_S8x64x4x64 = y
  refine funext fun i : S8x128x4x64.Idx => ?_
  rw [eq_ix4 i]
  generalize i 0 = s
  generalize i 1 = t
  generalize i 2 = a
  generalize i 3 = b
  pointwise []
  by_cases h : t.val < 64
  · rw [dif_pos h, dif_pos (by omega)]
  · rw [dif_neg h, dif_neg (by omega)]
    exact congrArg (fun q => y (ix4 s q a b)) (Fin.ext (by show t.val - 64 = 64 + t.val - 128; omega))

/-- The results of the arguments. -/
def conv (x : Vec Ideal S8x64x1024 .f32) (old : Vec Ideal S8x3x1024 .f32) (g : Vec Ideal S1024 .f32) (w : Vec Ideal S1024x5632 .f32) : FVec Ideal S8x3x1024 .f32 :=
  lastRows old (proj x g w)

/-- The reference's run: its results and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = conv (m ((c.tc : Thread nD τ).loc main_arg0)) (m ((c.tc : Thread nD τ).loc main_arg1))
        (m ((c.tc : Thread nD τ).loc main_arg6)) (m ((c.tc : Thread nD τ).loc main_arg7))
      ∧ r.2.mem ((c.tc : Thread nD τ).loc main_v26) = newest (m ((c.tc : Thread nD τ).loc main_arg3))
        (keys (proj (m ((c.tc : Thread nD τ).loc main_arg0)) (m ((c.tc : Thread nD τ).loc main_arg6)) (m ((c.tc : Thread nD τ).loc main_arg7))))
      ∧ r.2.mem ((c.tc : Thread nD τ).loc main_v27) = newest (m ((c.tc : Thread nD τ).loc main_arg4))
        (values (proj (m ((c.tc : Thread nD τ).loc main_arg0)) (m ((c.tc : Thread nD τ).loc main_arg6)) (m ((c.tc : Thread nD τ).loc main_arg7))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c).1, (h c).2.1, (h c).2.2.1, (h c).2.2.2⟩) (Value.run m ρ)

end Ref

end Cert.Mixer

end
-- ==== Proof.Mixer.Rows.lean ====
/- The fourth call's normalised rows, their products and the rows it hands back, over the extended reals. -/
module

public import proofs.«01_k».proof.Proof.Gen.Kernel4Ideal.Skeleton
public import proofs.«01_k».proof.Proof.Mixer.RefRows
public import Idealize.ShloMosaic.Lib.Pipeline.Value
public import Idealize.ShloMosaic.Lib.Pointwise

@[expose] public section

noncomputable section

namespace Cert.Mixer

open Cert.Kernel4Ideal Cert.Kernel4Ideal.Gen
open Idealize.ShloMosaic Idealize.ShloMosaic.TcCoe
open Cert.Gather (normed)
open scoped BigOperators

/-- The row of token `t` of sequence `s`. -/
def rowOf (s : Fin 8) (t : Fin 64) : Fin 512 := ⟨64 * s.val + t.val, by omega⟩
/-- The row of the last tokens of sequence `s`. -/
def lastRow (s : Fin 8) (j : Fin 3) : Fin 512 := ⟨64 * s.val + (61 + j.val), by omega⟩

/-! ## The normalised rows and their products -/

/-- The normalised rows, as the body keeps them. -/
def rows (x : Vec Ideal S512x1024 .f32) (g : Vec Ideal S1x1024 .f32) : FVec Ideal S512x1024 .bf16 := k0_pay29 x g

theorem rows_at (x : Vec Ideal S512x1024 .f32) (g : Vec Ideal S1x1024 .f32) (r : Fin 512) (k : Fin 1024) :
    rows x g (ix2 r k) = normed (fun l => x (ix2 r l)) (g (ix2 0 k)) k := by
  unfold normed
  pointwise [rows, k0_pay29, k0_pay28]
  try rfl

/-- A product with 256 columns. -/
theorem keys_prod (y : Vec Ideal S512x1024 .bf16) (w : Vec Ideal S1024x256 .bf16) (r : Fin 512) (j : Fin 256) :
    k0_pay79 y w (ix2 r j) = ∑ k : Fin 1024, y (ix2 r k) * w (ix2 k j) := by
  pointwise [k0_pay79]
  try rfl
theorem values_prod (y : Vec Ideal S512x1024 .bf16) (w : Vec Ideal S1024x256 .bf16) (r : Fin 512) (j : Fin 256) :
    k0_pay80 y w (ix2 r j) = ∑ k : Fin 1024, y (ix2 r k) * w (ix2 k j) := by
  pointwise [k0_pay80]
  try rfl
/-- The product with the first 1024 columns. -/
theorem conv_prod (y : Vec Ideal S512x1024 .bf16) (w : Vec Ideal S1024x1024 .bf16) (r : Fin 512) (j : Fin 1024) :
    k0_pay30 y w (ix2 r j) = ∑ k : Fin 1024, y (ix2 r k) * w (ix2 k j) := by
  pointwise [k0_pay30]
  try rfl

/-! ## The rows handed back -/

/-- The rows, sequence by sequence. -/
def stacked (p : Vec Ideal S512x256 .f32) : Vec Ideal S8x64x256 .f32 := fun i => p (ix2 (rowOf (i 0) (i 1)) (i 2))
/-- The last three rows of each sequence. -/
def lastThree (u : FVec Ideal S512x1024 .f32) : Vec Ideal S8x3x1024 .f32 := fun i => u (ix2 (lastRow (i 0) (i 1)) (i 2))

theorem piece_at (p : Vec Ideal S512x256 .f32) (s : Fin 8) (o : ℕ) (ho : o = 64 * s.val) (h : S512x256.Slices ![o, 0] S64x256)
    (inb : ∀ a, (![s.val, 0, 0] : Fin 3 → ℕ) a + S1x64x256.size a ≤ S8x64x256.size a) (x : S1x64x256.Idx) :
    shapeCast S1x64x256 (extractStridedSlice S64x256 ![o, 0] p h) shapeCasts_S64x256_S1x64x256 x
      = stacked p ((Rect.unit (s := S8x64x256) ![s.val, 0, 0] S1x64x256.size inb).emb x) := by
  subst ho
  obtain ⟨t, j, rfl⟩ : ∃ (t : Fin 64) (j : Fin 256), x = ix3 (0 : Fin 1) t j :=
    ⟨x 1, x 2, (eq_ix3 x).trans (congrArg (fun q : Fin 1 => ix3 q (x 1) (x 2)) (Subsingleton.elim (α := Fin 1) _ _))⟩
  pointwise []
  unfold stacked rowOf
  congr 1
  funext a
  apply Fin.ext
  match a with
  | ⟨0, _⟩ => show 64 * s.val + t.val = 64 * (s.val + 1 * 0) + (0 + 1 * t.val); omega
  | ⟨1, _⟩ => show j.val = 0 + 1 * j.val; omega

theorem last_at (u : FVec Ideal S512x1024 .f32) (s : Fin 8) (o : ℕ) (ho : o = 64 * s.val) (h : S512x1024.Slices ![o, 0] S64x1024)
    (inb : ∀ a, (![s.val, 0, 0] : Fin 3 → ℕ) a + S1x3x1024.size a ≤ S8x3x1024.size a) (x : S1x3x1024.Idx) :
    shapeCast S1x3x1024 (extractStridedSlice S3x1024 ![5, 0] (extractStridedSlice S8x1024 ![56, 0] (extractStridedSlice S64x1024 ![o, 0] u h)
        slices_S64x1024_o56_0_S8x1024) slices_S8x1024_o5_0_S3x1024) shapeCasts_S3x1024_S1x3x1024 x
      = lastThree u ((Rect.unit (s := S8x3x1024) ![s.val, 0, 0] S1x3x1024.size inb).emb x) := by
  subst ho
  obtain ⟨t, j, rfl⟩ : ∃ (t : Fin 3) (j : Fin 1024), x = ix3 (0 : Fin 1) t j :=
    ⟨x 1, x 2, (eq_ix3 x).trans (congrArg (fun q : Fin 1 => ix3 q (x 1) (x 2)) (Subsingleton.elim (α := Fin 1) _ _))⟩
  pointwise []
  unfold lastThree lastRow
  congr 1
  funext a
  apply Fin.ext
  match a with
  | ⟨0, _⟩ => show 64 * s.val + (56 + (5 + t.val)) = 64 * (s.val + 1 * 0) + (61 + (0 + 1 * t.val)); omega
  | ⟨1, _⟩ => show j.val = 0 + 1 * j.val; omega

end Cert.Mixer

end
-- ==== Proof.Mixer.Host.lean ====
/- What the host gives the fourth call, and the products of its blocks: they are the reference's. -/
module

public import proofs.«01_k».proof.Proof.Gen.Kernel4Ideal.Frame.Runs
public import proofs.«01_k».proof.Proof.Mixer.Rows
public import Idealize.ShloMosaic.Lib.StableHlo.RunRead
public import Idealize.ShloMosaic.Lib.WordCmp
public import Idealize.ShloMosaic.Lib.VecWindow

@[expose] public section

set_option maxRecDepth 16384

noncomputable section

namespace Cert.Mixer

open Cert.Kernel4Ideal Cert.Kernel4Ideal.Gen
open Idealize.ShloMosaic Idealize.ShloMosaic.TcCoe Idealize.ShloMosaic.Tactic Idealize.SL.Sem
open Idealize.ShloMosaic.Pipeline (Dat Cfg Window)
open Cert.Gather (normed)
open scoped BigOperators

variable (m : (ℓ : Loc nD τ sig) → Buf (Elt Ideal) ℓ)

/-! ## The arguments and the blocks, at their shapes -/

abbrev xA (c : Dev nD) : Vec Ideal S8x64x1024 .f32 := m ((c : Thread nD τ).loc main_arg0)
abbrev convA (c : Dev nD) : Vec Ideal S8x3x1024 .f32 := m ((c : Thread nD τ).loc main_arg1)
abbrev kA (c : Dev nD) : Vec Ideal S8x128x4x64 .f32 := m ((c : Thread nD τ).loc main_arg3)
abbrev vA (c : Dev nD) : Vec Ideal S8x128x4x64 .f32 := m ((c : Thread nD τ).loc main_arg4)
abbrev gA (c : Dev nD) : Vec Ideal S1024 .f32 := m ((c : Thread nD τ).loc main_arg6)
abbrev wA (c : Dev nD) : Vec Ideal S1024x5632 .f32 := m ((c : Thread nD τ).loc main_arg7)

abbrev xB (c : Dev nD) (t : Fin cfg0.N) : Vec Ideal S512x1024 .f32 := iblk m c 0 t
abbrev gB (c : Dev nD) (t : Fin cfg0.N) : Vec Ideal S1x1024 .f32 := iblk m c 5 t
abbrev wB (c : Dev nD) (t : Fin cfg0.N) : Vec Ideal S1024x5632 .bf16 := iblk m c 6 t

theorem idx0 : ∀ t : Fin grid0.N, cc0_transform_0 (grid0.coords t) = ![0, 0] := by decide +kernel
theorem idx5 : ∀ t : Fin grid0.N, cc0_transform_5 (grid0.coords t) = ![0, 0] := by decide +kernel
theorem idx6 : ∀ t : Fin grid0.N, cc0_transform_6 (grid0.coords t) = ![0, 0] := by decide +kernel

/-! ## What the host prepares -/

theorem V_x (c : Dev nD) : V m c main_v95 = (shapeCast S512x1024 (xA m c) shapeCasts_S8x64x1024_S512x1024 : FVec Ideal S512x1024 .f32) := by
  unfold V; after_reads_simp <;> rfl
theorem V_scale (c : Dev nD) : V m c main_v42 = (broadcastInDim S1x1024 ![1] bcast_S1024_S1x1024_1 (gA m c) : FVec Ideal S1x1024 .f32) := by
  unfold V; after_reads_simp <;> rfl

/-- The factor of each of the projection's columns: one below column 3584, a half from there on. -/
def factors : FVec Ideal S5632 .f32 :=
  select (cmpi .sge (iotaInDim S5632 32 0) (broadcastInDim S5632 ![] bcast_S_S5632 (constantI S_ 32 3584#32)))
    (broadcastInDim S5632 ![] bcast_S_S5632 (constant (F := Ideal) S_ .f32 0x3F000000#32)) (broadcastInDim S5632 ![] bcast_S_S5632 (constant (F := Ideal) S_ .f32 0x3F800000#32))

/-- The projection, its columns multiplied by the factors. -/
def scaled (w : Vec Ideal S1024x5632 .f32) : FVec Ideal S1024x5632 .bf16 :=
  truncf .bf16 (mulf (w : FVec Ideal S1024x5632 .f32) (broadcastInDim S1024x5632 ![0, 1] bcast_S1x5632_S1024x5632_0_1 (broadcastInDim S1x5632 ![1] bcast_S5632_S1x5632_1 factors))) bitsLt_bf16_f32

theorem V_w (c : Dev nD) : V m c main_v43 = scaled (wA m c) := by
  unfold V; after_reads_simp <;> rfl

theorem scaled_at (w : Vec Ideal S1024x5632 .f32) (k : Fin 1024) (j : Fin 5632) (h : j.val < 3584) : scaled w (ix2 k j) = w (ix2 k j) := by
  pointwise [scaled, factors]
  have e : IntOp.cmpi .sge (BitVec.ofNat 32 j.val) 3584#32 = 0#1 :=
    (WordCmp.cmpi_sge_ofNat_eq_zero_iff (w := 32) (a := j.val) (b := 3584) (by omega) (by decide)).mpr (by omega)
  rw [e]
  exact mul_one _

/-- The tokens, one row each. -/
theorem row_at (x : Vec Ideal S8x64x1024 .f32) (s : Fin 8) (t : Fin 64) (l : Fin 1024) :
    shapeCast S512x1024 x shapeCasts_S8x64x1024_S512x1024 (ix2 (rowOf s t) l) = x (ix3 s t l) := by
  unfold rowOf
  pointwise []

theorem xB_at (c : Dev nD) (t : Fin cfg0.N) (s : Fin 8) (n : Fin 64) (l : Fin 1024) : xB m c t (ix2 (rowOf s n) l) = xA m c (ix3 s n l) := by
  refine Eq.trans ?_ (row_at (xA m c) s n l)
  show V m c main_v95 _ = _
  rw [V_x]
  congr 1
  funext a
  apply Fin.ext
  match a with
  | ⟨0, _⟩ => show cc0_transform_0 (grid0.coords t) 0 * 512 + 1 * (rowOf s n).val = (rowOf s n).val; rw [idx0]; show 0 * 512 + 1 * (rowOf s n).val = _; omega
  | ⟨1, _⟩ => show cc0_transform_0 (grid0.coords t) 1 * 1024 + 1 * l.val = l.val; rw [idx0]; show 0 * 1024 + 1 * l.val = l.val; omega

theorem gB_at (c : Dev nD) (t : Fin cfg0.N) (l : Fin 1024) : gB m c t (ix2 0 l) = gA m c (ix1 l) := by
  show V m c main_v42 _ = _
  rw [V_scale]
  unfold broadcastInDim
  congr 1
  funext a
  apply Fin.ext
  match a with
  | ⟨0, _⟩ => show cc0_transform_5 (grid0.coords t) 1 * 1024 + 1 * l.val = l.val; rw [idx5]; show 0 * 1024 + 1 * l.val = l.val; omega

theorem wB_at (c : Dev nD) (t : Fin cfg0.N) (k : Fin 1024) (j : Fin 5632) (h : j.val < 3584) : wB m c t (ix2 k j) = wA m c (ix2 k j) := by
  refine Eq.trans ?_ (scaled_at (wA m c) k j h)
  show V m c main_v43 _ = _
  rw [V_w]
  congr 1
  funext a
  apply Fin.ext
  match a with
  | ⟨0, _⟩ => show cc0_transform_6 (grid0.coords t) 0 * 1024 + 1 * k.val = k.val; rw [idx6]; show 0 * 1024 + 1 * k.val = k.val; omega
  | ⟨1, _⟩ => show cc0_transform_6 (grid0.coords t) 1 * 5632 + 1 * j.val = j.val; rw [idx6]; show 0 * 5632 + 1 * j.val = j.val; omega

/-! ## The products -/

/-- The columns of a block of the projection. -/
abbrev keyCols (w : Vec Ideal S1024x5632 .bf16) : Vec Ideal S1024x256 .bf16 := View.ld w (Rect.unit (s := S1024x5632) ![0, 3072] S1024x256.size inb_S1024x5632_S1024x256_0_3072)
abbrev valueCols (w : Vec Ideal S1024x5632 .bf16) : Vec Ideal S1024x256 .bf16 := View.ld w (Rect.unit (s := S1024x5632) ![0, 3328] S1024x256.size inb_S1024x5632_S1024x256_0_3328)
abbrev convCols (w : Vec Ideal S1024x5632 .bf16) : Vec Ideal S1024x1024 .bf16 := View.ld w (Rect.unit (s := S1024x5632) ![0, 0] S1024x1024.size inb_S1024x5632_S1024x1024_0_0)

theorem keyCols_at (w : Vec Ideal S1024x5632 .bf16) (k : Fin 1024) (j : Fin 256) : keyCols w (ix2 k j) = w (ix2 k ⟨3072 + j.val, by omega⟩) := by
  show w _ = w _
  congr 1
  funext a
  apply Fin.ext
  match a with
  | ⟨0, _⟩ => show 0 + 1 * k.val = k.val; omega
  | ⟨1, _⟩ => show 3072 + 1 * j.val = 3072 + j.val; omega
theorem valueCols_at (w : Vec Ideal S1024x5632 .bf16) (k : Fin 1024) (j : Fin 256) : valueCols w (ix2 k j) = w (ix2 k ⟨3328 + j.val, by omega⟩) := by
  show w _ = w _
  congr 1
  funext a
  apply Fin.ext
  match a with
  | ⟨0, _⟩ => show 0 + 1 * k.val = k.val; omega
  | ⟨1, _⟩ => show 3328 + 1 * j.val = 3328 + j.val; omega
theorem convCols_at (w : Vec Ideal S1024x5632 .bf16) (k : Fin 1024) (j : Fin 1024) : convCols w (ix2 k j) = w (ix2 k ⟨j.val, by omega⟩) := by
  show w _ = w _
  congr 1
  funext a
  apply Fin.ext
  match a with
  | ⟨0, _⟩ => show 0 + 1 * k.val = k.val; omega
  | ⟨1, _⟩ => show 0 + 1 * j.val = j.val; omega

theorem rowB (c : Dev nD) (t : Fin cfg0.N) (s : Fin 8) (n : Fin 64) (k : Fin 1024) :
    rows (xB m c t) (gB m c t) (ix2 (rowOf s n) k) = normed (fun l => xA m c (ix3 s n l)) (gA m c (ix1 k)) k := by
  rw [rows_at, gB_at]
  exact congrArg (fun f => normed f (gA m c (ix1 k)) k) (funext fun l => xB_at m c t s n l)

theorem stacked_keys (c : Dev nD) (t : Fin cfg0.N) :
    stacked (k0_pay79 (rows (xB m c t) (gB m c t)) (keyCols (wB m c t))) = Ref.keys (Ref.proj (xA m c) (gA m c) (wA m c)) := by
  refine funext fun i : S8x64x256.Idx => ?_
  obtain ⟨s, n, j, rfl⟩ : ∃ (s : Fin 8) (n : Fin 64) (j : Fin 256), i = ix3 s n j := ⟨i 0, i 1, i 2, eq_ix3 i⟩
  refine Eq.trans ?_ ((Ref.keys_at (Ref.proj (xA m c) (gA m c) (wA m c)) s n j).trans (Ref.proj_at (xA m c) (gA m c) (wA m c) s n ⟨3072 + j.val, by omega⟩)).symm
  show k0_pay79 _ _ (ix2 (rowOf s n) j) = _
  rw [keys_prod]
  unfold mixRow
  refine Finset.sum_congr rfl fun k _ => ?_
  rw [rowB, keyCols_at, wB_at m c t k _ (by show 3072 + j.val < 3584; omega)]

theorem stacked_values (c : Dev nD) (t : Fin cfg0.N) :
    stacked (k0_pay80 (rows (xB m c t) (gB m c t)) (valueCols (wB m c t))) = Ref.values (Ref.proj (xA m c) (gA m c) (wA m c)) := by
  refine funext fun i : S8x64x256.Idx => ?_
  obtain ⟨s, n, j, rfl⟩ : ∃ (s : Fin 8) (n : Fin 64) (j : Fin 256), i = ix3 s n j := ⟨i 0, i 1, i 2, eq_ix3 i⟩
  refine Eq.trans ?_ ((Ref.values_at (Ref.proj (xA m c) (gA m c) (wA m c)) s n j).trans (Ref.proj_at (xA m c) (gA m c) (wA m c) s n ⟨3328 + j.val, by omega⟩)).symm
  show k0_pay80 _ _ (ix2 (rowOf s n) j) = _
  rw [values_prod]
  unfold mixRow
  refine Finset.sum_congr rfl fun k _ => ?_
  rw [rowB, valueCols_at, wB_at m c t k _ (by show 3328 + j.val < 3584; omega)]

theorem last_conv (c : Dev nD) (t : Fin cfg0.N) :
    lastThree (k0_pay30 (rows (xB m c t) (gB m c t)) (convCols (wB m c t))) = Ref.conv (xA m c) (convA m c) (gA m c) (wA m c) := by
  refine funext fun i : S8x3x1024.Idx => ?_
  obtain ⟨s, n, j, rfl⟩ : ∃ (s : Fin 8) (n : Fin 3) (j : Fin 1024), i = ix3 s n j := ⟨i 0, i 1, i 2, eq_ix3 i⟩
  refine Eq.trans ?_ ((Ref.lastRows_at (convA m c) (Ref.proj (xA m c) (gA m c) (wA m c)) s n j).trans
    (Ref.proj_at (xA m c) (gA m c) (wA m c) s ⟨61 + n.val, by omega⟩ ⟨j.val, by omega⟩)).symm
  show k0_pay30 _ _ (ix2 (rowOf s ⟨61 + n.val, by omega⟩) j) = _
  rw [conv_prod]
  unfold mixRow
  refine Finset.sum_congr rfl fun k _ => ?_
  rw [rowB, convCols_at, wB_at m c t k _ (by show j.val < 3584; omega)]

end Cert.Mixer

end
-- ==== Proof.Mixer.Body.lean ====
/- What the fourth call's body leaves of its rows: the products' rows, sequence by sequence. -/
module

public import proofs.«01_k».proof.Proof.Gen.Kernel4Ideal.Frame
public import proofs.«01_k».proof.Proof.Mixer.Host
public import Idealize.ShloMosaic.Lib.Pipeline.ReadBack

@[expose] public section

set_option maxRecDepth 16384
set_option maxHeartbeats 4000000

noncomputable section

namespace Cert.Mixer

open Cert.Kernel4Ideal Cert.Kernel4Ideal.Gen
open Idealize.ShloMosaic Idealize.ShloMosaic.TcCoe Idealize.ShloMosaic.Tactic Idealize.SL.Sem

variable {c : Dev nD} {i : grid0.Coords} {arg1 : Memref sig .tc .vmem S512x1024 .f32} {harg1 : arg1.IsWhole} {arg2 : Memref sig .tc .vmem S8x8x1024 .f32} {harg2 : arg2.IsWhole} {arg3 : Memref sig .tc .vmem S8x8x1024 .f32} {harg3 : arg3.IsWhole} {arg4 : Memref sig .tc .vmem S8x128x512 .bf16} {harg4 : arg4.IsWhole} {arg5 : Memref sig .tc .vmem S8x128x512 .bf16} {harg5 : arg5.IsWhole} {arg6 : Memref sig .tc .vmem S1x1024 .f32} {harg6 : arg6.IsWhole} {arg7 : Memref sig .tc .vmem S1024x5632 .bf16} {harg7 : arg7.IsWhole} {arg8 : Memref sig .tc .vmem S1x2048 .f32} {harg8 : arg8.IsWhole} {arg9 : Memref sig .tc .vmem S4x1024 .f32} {harg9 : arg9.IsWhole} {arg10 : Memref sig .tc .vmem S1x1024 .f32} {harg10 : arg10.IsWhole} {arg11 : Memref sig .tc .vmem S4x256x512 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S1x1024 .f32} {harg14 : arg14.IsWhole} {arg15 : Memref sig .tc .smem S16 .f32} {harg15 : arg15.IsWhole} {arg16 : Memref sig .tc .vmem S16x256 .f32} {harg16 : arg16.IsWhole} {arg17 : Memref sig .tc .vmem S1024x1024 .bf16} {harg17 : arg17.IsWhole} {arg18 : Memref sig .tc .vmem S1024x1024 .bf16} {harg18 : arg18.IsWhole} {arg19 : Memref sig .tc .vmem S1024x1024 .bf16} {harg19 : arg19.IsWhole} {arg20 : Memref sig .tc .vmem S1x1024 .f32} {harg20 : arg20.IsWhole} {arg21 : Memref sig .tc .vmem S1024x128 .bf16} {harg21 : arg21.IsWhole} {arg22 : Memref sig .tc .vmem S1x128 .f32} {harg22 : arg22.IsWhole} {arg23 : Memref sig .tc .vmem S512x1024 .f32} {harg23 : arg23.IsWhole} {arg24 : Memref sig .tc .vmem S512x1024 .bf16} {harg24 : arg24.IsWhole} {arg25 : Memref sig .tc .vmem S512x128 .f32} {harg25 : arg25.IsWhole} {arg26 : Memref sig .tc .vmem S8x3x1024 .f32} {harg26 : arg26.IsWhole} {arg27 : Memref sig .tc .vmem S8x1024 .f32} {harg27 : arg27.IsWhole} {arg28 : Memref sig .tc .vmem S8x64x256 .f32} {harg28 : arg28.IsWhole} {arg29 : Memref sig .tc .vmem S8x64x256 .f32} {harg29 : arg29.IsWhole} {arg30 : Memref sig .tc .vmem S8x8x1024 .f32} {harg30 : arg30.IsWhole} {arg31 : Memref sig .tc .vmem S8x8x1024 .f32} {harg31 : arg31.IsWhole} {arg32 : Memref sig .tc .vmem S8x192x512 .bf16} {harg32 : arg32.IsWhole} {arg33 : Memref sig .tc .vmem S8x192x1024 .bf16} {harg33 : arg33.IsWhole} {arg34 : Memref sig .tc .vmem S8x512x128 .f32} {harg34 : arg34.IsWhole} {arg35 : Memref sig .tc .vmem S8x512x128 .f32} {harg35 : arg35.IsWhole} {arg36 : Memref sig .tc .vmem S512x1024 .bf16} {harg36 : arg36.IsWhole} {arg37 : Memref sig .tc .vmem S512x1024 .bf16} {harg37 : arg37.IsWhole} {arg38 : Memref sig .tc .vmem S512x3584 .f32} {harg38 : arg38.IsWhole} {arg39 : Memref sig .tc .vmem S512x1024 .bf16} {harg39 : arg39.IsWhole} {arg40 : Memref sig .tc .vmem S4x256x192 .f32} {harg40 : arg40.IsWhole} {hc0 : cond0_0 i} {x0 : Vec Ideal S512x1024 .f32} {x1 : Vec Ideal S8x8x1024 .f32} {x2 : Vec Ideal S8x8x1024 .f32} {x3 : Vec Ideal S8x128x512 .bf16} {x4 : Vec Ideal S8x128x512 .bf16} {x5 : Vec Ideal S1x1024 .f32} {x6 : Vec Ideal S1024x5632 .bf16} {x7 : Vec Ideal S1x2048 .f32} {x8 : Vec Ideal S4x1024 .f32} {x9 : Vec Ideal S1x1024 .f32} {x10 : Vec Ideal S4x256x512 .bf16} {x11 : Vec Ideal S1x1024 .f32} {x12 : Vec Ideal S1x1024 .f32} {x13 : Vec Ideal S1x1024 .f32} {x14 : Vec Ideal S16 .f32} {x15 : Vec Ideal S16x256 .f32} {x16 : Vec Ideal S1024x1024 .bf16} {x17 : Vec Ideal S1024x1024 .bf16} {x18 : Vec Ideal S1024x1024 .bf16} {x19 : Vec Ideal S1x1024 .f32} {x20 : Vec Ideal S1024x128 .bf16} {x21 : Vec Ideal S1x128 .f32}

theorem zero2 : (![0, 0] : Fin 2 → ℕ) = fun _ => 0 := by funext a; fin_cases a <;> rfl

/-- The keys' columns of the products, read back. -/
theorem word_keys : kernelRun0_A.sl.v9593 c arg1 harg1 arg6 harg6 arg7 harg7 arg37 arg38 x0 x5 x6 = k0_pay79 (rows x0 x5) (keyCols x6) := by
  sl_unfold_words
  refine Eq.trans (View.readCov_skip _ _ _ _ _ (by decide)) ((View.readCov_cons_toLoadRect _ _ _ _).trans ?_)
  rw [View.readCov_unit_zero (S := S512x1024) _ zero2]
  simp only [View.readAt_eq_ld, harg1.read_unread, harg6.read_unread, harg7.read_unread, View.ld_unit_zero (S := S512x1024) zero2, View.ld_unit_zero (S := S1x1024) zero2]
  rfl
/-- The values' columns of the products, read back. -/
theorem word_values : kernelRun0_A.sl.v9594 c arg1 harg1 arg6 harg6 arg7 harg7 arg37 arg38 x0 x5 x6 = k0_pay80 (rows x0 x5) (valueCols x6) := by
  sl_unfold_words
  refine (View.readCov_cons_toLoadRect _ _ _ _).trans ?_
  rw [View.readCov_unit_zero (S := S512x1024) _ zero2]
  simp only [View.readAt_eq_ld, harg1.read_unread, harg6.read_unread, harg7.read_unread, View.ld_unit_zero (S := S512x1024) zero2, View.ld_unit_zero (S := S1x1024) zero2]
  rfl

/-- Each store of keys is a block of them. -/
theorem pieces_keys : View.PiecesOf (stacked (k0_pay79 (rows x0 x5) (keyCols x6))) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21).2.2.2.2.2.1 := by
  refine And.intro (fun x => ?_) ?_
  · refine Eq.trans ?_ (piece_at (k0_pay79 (rows x0 x5) (keyCols x6)) 7 448 rfl slices_S512x256_o448_0_S64x256 inb_S8x64x256_S1x64x256_7_0_0 x)
    rw [← word_keys (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay79 (rows x0 x5) (keyCols x6)) 6 384 rfl slices_S512x256_o384_0_S64x256 inb_S8x64x256_S1x64x256_6_0_0 x)
    rw [← word_keys (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay79 (rows x0 x5) (keyCols x6)) 5 320 rfl slices_S512x256_o320_0_S64x256 inb_S8x64x256_S1x64x256_5_0_0 x)
    rw [← word_keys (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay79 (rows x0 x5) (keyCols x6)) 4 256 rfl slices_S512x256_o256_0_S64x256 inb_S8x64x256_S1x64x256_4_0_0 x)
    rw [← word_keys (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay79 (rows x0 x5) (keyCols x6)) 3 192 rfl slices_S512x256_o192_0_S64x256 inb_S8x64x256_S1x64x256_3_0_0 x)
    rw [← word_keys (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay79 (rows x0 x5) (keyCols x6)) 2 128 rfl slices_S512x256_o128_0_S64x256 inb_S8x64x256_S1x64x256_2_0_0 x)
    rw [← word_keys (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay79 (rows x0 x5) (keyCols x6)) 1 64 rfl slices_S512x256_o64_0_S64x256 inb_S8x64x256_S1x64x256_1_0_0 x)
    rw [← word_keys (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay79 (rows x0 x5) (keyCols x6)) 0 0 rfl slices_S512x256_o0_0_S64x256 inb_S8x64x256_S1x64x256_0_0_0 x)
    rw [← word_keys (c := c) (arg1 := arg1) (harg1 := harg1) (arg6 := arg6) (harg6 := harg6) (arg7 := arg7) (harg7 := harg7) (arg37 := arg37) (arg38 := arg38)]
    rfl
  exact trivial

/-- Each store of values is a block of them. -/
theorem pieces_values : View.PiecesOf (stacked (k0_pay80 (rows x0 x5) (valueCols x6))) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21).2.2.2.2.2.2.1 := by
  refine And.intro (fun x => ?_) ?_
  · refine Eq.trans ?_ (piece_at (k0_pay80 (rows x0 x5) (valueCols x6)) 7 448 rfl slices_S512x256_o448_0_S64x256 inb_S8x64x256_S1x64x256_7_0_0 x)
    rw [← word_values (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay80 (rows x0 x5) (valueCols x6)) 6 384 rfl slices_S512x256_o384_0_S64x256 inb_S8x64x256_S1x64x256_6_0_0 x)
    rw [← word_values (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay80 (rows x0 x5) (valueCols x6)) 5 320 rfl slices_S512x256_o320_0_S64x256 inb_S8x64x256_S1x64x256_5_0_0 x)
    rw [← word_values (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay80 (rows x0 x5) (valueCols x6)) 4 256 rfl slices_S512x256_o256_0_S64x256 inb_S8x64x256_S1x64x256_4_0_0 x)
    rw [← word_values (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay80 (rows x0 x5) (valueCols x6)) 3 192 rfl slices_S512x256_o192_0_S64x256 inb_S8x64x256_S1x64x256_3_0_0 x)
    rw [← word_values (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay80 (rows x0 x5) (valueCols x6)) 2 128 rfl slices_S512x256_o128_0_S64x256 inb_S8x64x256_S1x64x256_2_0_0 x)
    rw [← word_values (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay80 (rows x0 x5) (valueCols x6)) 1 64 rfl slices_S512x256_o64_0_S64x256 inb_S8x64x256_S1x64x256_1_0_0 x)
    rw [← word_values (c := c) (arg1 := arg1) (harg1 := harg1) (arg6 := arg6) (harg6 := harg6) (arg7 := arg7) (harg7 := harg7) (arg37 := arg37) (arg38 := arg38)]
    rfl
  refine And.intro (fun x => ?_) ?_
  · refine Eq.trans ?_ (piece_at (k0_pay80 (rows x0 x5) (valueCols x6)) 0 0 rfl slices_S512x256_o0_0_S64x256 inb_S8x64x256_S1x64x256_0_0_0 x)
    rw [← word_values (c := c) (arg1 := arg1) (harg1 := harg1) (arg6 := arg6) (harg6 := harg6) (arg7 := arg7) (harg7 := harg7) (arg37 := arg37) (arg38 := arg38)]
    rfl
  exact trivial

/-- Each store of last rows is a block of them. -/
theorem pieces_conv : View.PiecesOf (lastThree (k0_pay30 (rows x0 x5) (convCols x6))) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21).2.2.2.1 := by
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 7 448 rfl slices_S512x1024_o448_0_S64x1024 inb_S8x3x1024_S1x3x1024_7_0_0 x
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 6 384 rfl slices_S512x1024_o384_0_S64x1024 inb_S8x3x1024_S1x3x1024_6_0_0 x
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 5 320 rfl slices_S512x1024_o320_0_S64x1024 inb_S8x3x1024_S1x3x1024_5_0_0 x
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 4 256 rfl slices_S512x1024_o256_0_S64x1024 inb_S8x3x1024_S1x3x1024_4_0_0 x
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 3 192 rfl slices_S512x1024_o192_0_S64x1024 inb_S8x3x1024_S1x3x1024_3_0_0 x
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 2 128 rfl slices_S512x1024_o128_0_S64x1024 inb_S8x3x1024_S1x3x1024_2_0_0 x
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 1 64 rfl slices_S512x1024_o64_0_S64x1024 inb_S8x3x1024_S1x3x1024_1_0_0 x
  refine And.intro (fun x => ?_) ?_
  · dsimp only
    sl_unfold_words
    rw [View.readCov_unit_zero (S := S512x1024) _ zero2]
    simp only [View.readAt_eq_ld, harg1.read_unread, harg6.read_unread, harg7.read_unread, View.ld_unit_zero (S := S512x1024) zero2, View.ld_unit_zero (S := S1x1024) zero2]
    exact last_at (k0_pay30 (rows x0 x5) (convCols x6)) 0 0 rfl slices_S512x1024_o0_0_S64x1024 inb_S8x3x1024_S1x3x1024_0_0_0 x
  exact trivial

theorem conv_A : out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21
    = lastThree (k0_pay30 (rows x0 x5) (convCols x6)) := by
  unfold out0_A_25
  rw [View.read_writes_eq_canon _ _ _ (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21)]
  exact funext fun y => View.canon_apply_of_pieces _ _ (View.PiecesOf.mem pieces_conv) y (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 y)

theorem keys_A : out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21
    = stacked (k0_pay79 (rows x0 x5) (keyCols x6)) := by
  unfold out0_A_27
  rw [View.read_writes_eq_canon _ _ _ (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21)]
  exact funext fun y => View.canon_apply_of_pieces _ _ (View.PiecesOf.mem pieces_keys) y (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 y)

theorem values_A : out0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21
    = stacked (k0_pay80 (rows x0 x5) (valueCols x6)) := by
  unfold out0_A_28
  rw [View.read_writes_eq_canon _ _ _ (cover0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21)]
  exact funext fun y => View.canon_apply_of_pieces _ _ (View.PiecesOf.mem pieces_values) y (cover0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 x0 x1 x2 x3 x4 x5 x6 x7 x8 x9 x10 x11 x12 x13 x14 x15 x16 x17 x18 x19 x20 x21 y)

end Cert.Mixer

end
-- ==== Proof.Mixer.Tail.lean ====
/- What the host makes of the fourth call's arrays: the newest rows of the caches. -/
module

public import proofs.«01_k».proof.Proof.Mixer.Host

@[expose] public section

set_option maxRecDepth 16384

noncomputable section

namespace Cert.Mixer

open Cert.Kernel4Ideal Cert.Kernel4Ideal.Gen
open Idealize.ShloMosaic Idealize.ShloMosaic.TcCoe Idealize.ShloMosaic.Tactic Idealize.SL.Sem
open Idealize.SL Idealize.SL.RA
open Idealize.ShloMosaic.Pipeline (Dat Cfg Window)

variable (m : (ℓ : Loc nD τ sig) → Buf (Elt Ideal) ℓ)

theorem arrays_inj : Function.Injective (Pipeline.arrRef spec0) := by decide

variable (dats : (p : Fin _) → (c : Dev nD) → Dat τ (Elt Ideal) Unit ℕ (UR sig nD τ) ℕ (cfgs p) c) (c : Dev nD)

/-- The contents the lines after the region start from. -/
abbrev exitV : Valuation τ sig (Elt Ideal) := Pipeline.withArrays spec0 c (V0 m c) fun w => (dats 0 c).arrAt w cfg0.N

theorem exit_k : exitV m dats c (Proc.devRef .tc main_arg3) = kA m c :=
  (Pipeline.withArrays_of_ne _ c (V0 m c) _ main_arg3 (by exact (by decide : ∀ w, Pipeline.arrRef spec0 w ≠ main_arg3))).trans (V_main_arg3 m c)
theorem exit_v : exitV m dats c (Proc.devRef .tc main_arg4) = vA m c :=
  (Pipeline.withArrays_of_ne _ c (V0 m c) _ main_arg4 (by exact (by decide : ∀ w, Pipeline.arrRef spec0 w ≠ main_arg4))).trans (V_main_arg4 m c)
theorem exit_27 : exitV m dats c (Proc.devRef .tc main_v109_5) = (dats 0 c).arrAt 27 cfg0.N :=
  Pipeline.withArrays_arr spec0 arrays_inj c (V0 m c) _ 27
theorem exit_28 : exitV m dats c (Proc.devRef .tc main_v109_6) = (dats 0 c).arrAt 28 cfg0.N :=
  Pipeline.withArrays_arr spec0 arrays_inj c (V0 m c) _ 28

theorem tail_k (X : Vec Ideal S8x64x256 .f32) (h : (dats 0 c).arrAt 27 cfg0.N = X) :
    Pipeline.afterTail₀ cfgs dats 0 (V0 m) [hostOps1] c main_v112 = Ref.newest (kA m c) X := by
  refine Eq.trans ?_ (Ref.newest_eq (kA m c) X slices_S8x128x4x64_S8x64x4x64_0_64_0_0 concatenates_S8x64x4x64_S8x64x4x64_S8x128x4x64_d1)
  rw [← exit_k m dats c, ← h, ← exit_27 m dats c]
  show StableHlo.after [hostOps1].flatten (exitV m dats c) (Proc.devRef .tc main_v112) = _
  generalize exitV m dats c = W
  after_reads_simp <;> rfl

theorem tail_v (X : Vec Ideal S8x64x256 .f32) (h : (dats 0 c).arrAt 28 cfg0.N = X) :
    Pipeline.afterTail₀ cfgs dats 0 (V0 m) [hostOps1] c main_v115 = Ref.newest (vA m c) X := by
  refine Eq.trans ?_ (Ref.newest_eq (vA m c) X slices_S8x128x4x64_S8x64x4x64_0_64_0_0 concatenates_S8x64x4x64_S8x64x4x64_S8x128x4x64_d1)
  rw [← exit_v m dats c, ← h, ← exit_28 m dats c]
  show StableHlo.after [hostOps1].flatten (exitV m dats c) (Proc.devRef .tc main_v115) = _
  generalize exitV m dats c = W
  after_reads_simp <;> rfl

end Cert.Mixer

end
-- ==== Proof.Mixer.Value.lean ====
/- What the fourth call leaves of three of its results, over the extended reals: they are the reference's. -/
module

public import proofs.«01_k».proof.Proof.Mixer.Body
public import proofs.«01_k».proof.Proof.Mixer.Tail

@[expose] public section

set_option maxRecDepth 16384

noncomputable section

namespace Cert.Mixer

open Cert.Kernel4Ideal Cert.Kernel4Ideal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

theorem idx25 : ∀ t : Fin grid0.N, cc0_transform_25 (grid0.coords t) = ![0, 0, 0] := by decide +kernel
theorem idx27 : ∀ t : Fin grid0.N, cc0_transform_27 (grid0.coords t) = ![0, 0, 0] := by decide +kernel
theorem idx28 : ∀ t : Fin grid0.N, cc0_transform_28 (grid0.coords t) = ![0, 0, 0] := by decide +kernel

/-- The projection of the second batch's normalised rows. -/
abbrev projA (c : Dev nD) := Ref.proj (xA m c) (gA m c) (wA m c)
/-- The three arrays the call hands back. -/
abbrev convR (c : Dev nD) : Vec Ideal S8x3x1024 .f32 := Ref.conv (xA m c) (convA m c) (gA m c) (wA m c)
abbrev keysR (c : Dev nD) : Vec Ideal S8x64x256 .f32 := Ref.keys (projA m c)
abbrev valuesR (c : Dev nD) : Vec Ideal S8x64x256 .f32 := Ref.values (projA m c)

theorem left_conv (c : Dev nD) (t : Fin cfg0.N) : (dats m 0 c).after 25 t = convR m c := by
  rw [after0_25]
  unfold outsAt0
  dsimp only
  exact conv_A.trans (last_conv m c t)
theorem left_keys (c : Dev nD) (t : Fin cfg0.N) : (dats m 0 c).after 27 t = keysR m c := by
  rw [after0_27]
  unfold outsAt0
  dsimp only
  exact keys_A.trans (stacked_keys m c t)
theorem left_values (c : Dev nD) (t : Fin cfg0.N) : (dats m 0 c).after 28 t = valuesR m c := by
  rw [after0_28]
  unfold outsAt0
  dsimp only
  exact values_A.trans (stacked_values m c t)

theorem flushed_conv (c : Dev nD) (t : Fin cfg0.N) (_ : (cfg0.win 25).flush t = true) :
    (dats m 0 c).flushed 25 t = ((cfg0.win 25).blk t).view.read (Elt Ideal) (convR m c) := by
  refine funext fun j : S8x3x1024.Idx => ?_
  show (dats m 0 c).after 25 t j = convR m c _
  rw [left_conv]
  refine congrArg (convR m c) ?_
  funext a
  apply Fin.ext
  match a with
  | ⟨0, _⟩ => show (j 0).val = cc0_transform_25 (grid0.coords t) 0 * 8 + 1 * (j 0).val; rw [idx25]; show _ = 0 * 8 + 1 * (j 0).val; omega
  | ⟨1, _⟩ => show (j 1).val = cc0_transform_25 (grid0.coords t) 1 * 3 + 1 * (j 1).val; rw [idx25]; show _ = 0 * 3 + 1 * (j 1).val; omega
  | ⟨2, _⟩ => show (j 2).val = cc0_transform_25 (grid0.coords t) 2 * 1024 + 1 * (j 2).val; rw [idx25]; show _ = 0 * 1024 + 1 * (j 2).val; omega

theorem final_conv (c : Dev nD) : (dats m 0 c).arrAt 25 cfg0.N = convR m c := by
  refine (dats m 0 c).arrAt_eq_of_cover 25 (convR m c) (flushed_conv m c) fun i : S8x3x1024.Idx => ⟨t0_0, flush0_25 t0_0, ?_⟩
  have h0 : (i 0 : Nat) < 8 := (i 0).isLt
  have h1 : (i 1 : Nat) < 3 := (i 1).isLt
  have h2 : (i 2 : Nat) < 1024 := (i 2).isLt
  have hm : i ∈ ((cfg0.win 25).rect t0_0).set := by
    refine Rect.mem_set_unit.2 fun a => ?_
    match a with
    | ⟨0, _⟩ =>
      show cc0_transform_25 (grid0.coords t0_0) 0 * 8 ≤ (i 0 : Nat) ∧ (i 0 : Nat) < cc0_transform_25 (grid0.coords t0_0) 0 * 8 + 8
      rw [idx25]
      show 0 * 8 ≤ (i 0 : Nat) ∧ (i 0 : Nat) < 0 * 8 + 8
      omega
    | ⟨1, _⟩ =>
      show cc0_transform_25 (grid0.coords t0_0) 1 * 3 ≤ (i 1 : Nat) ∧ (i 1 : Nat) < cc0_transform_25 (grid0.coords t0_0) 1 * 3 + 3
      rw [idx25]
      show 0 * 3 ≤ (i 1 : Nat) ∧ (i 1 : Nat) < 0 * 3 + 3
      omega
    | ⟨2, _⟩ =>
      show cc0_transform_25 (grid0.coords t0_0) 2 * 1024 ≤ (i 2 : Nat) ∧ (i 2 : Nat) < cc0_transform_25 (grid0.coords t0_0) 2 * 1024 + 1024
      rw [idx25]
      show 0 * 1024 ≤ (i 2 : Nat) ∧ (i 2 : Nat) < 0 * 1024 + 1024
      omega
  exact (View.set_slice_whole main_v109_3 ((cfg0.win 25).rect t0_0)).symm ▸ hm

theorem flushed_keys (c : Dev nD) (t : Fin cfg0.N) (_ : (cfg0.win 27).flush t = true) :
    (dats m 0 c).flushed 27 t = ((cfg0.win 27).blk t).view.read (Elt Ideal) (keysR m c) := by
  refine funext fun j : S8x64x256.Idx => ?_
  show (dats m 0 c).after 27 t j = keysR m c _
  rw [left_keys]
  refine congrArg (keysR m c) ?_
  funext a
  apply Fin.ext
  match a with
  | ⟨0, _⟩ => show (j 0).val = cc0_transform_27 (grid0.coords t) 0 * 8 + 1 * (j 0).val; rw [idx27]; show _ = 0 * 8 + 1 * (j 0).val; omega
  | ⟨1, _⟩ => show (j 1).val = cc0_transform_27 (grid0.coords t) 1 * 64 + 1 * (j 1).val; rw [idx27]; show _ = 0 * 64 + 1 * (j 1).val; omega
  | ⟨2, _⟩ => show (j 2).val = cc0_transform_27 (grid0.coords t) 2 * 256 + 1 * (j 2).val; rw [idx27]; show _ = 0 * 256 + 1 * (j 2).val; omega

theorem final_keys (c : Dev nD) : (dats m 0 c).arrAt 27 cfg0.N = keysR m c := by
  refine (dats m 0 c).arrAt_eq_of_cover 27 (keysR m c) (flushed_keys m c) fun i : S8x64x256.Idx => ⟨t0_0, flush0_27 t0_0, ?_⟩
  have h0 : (i 0 : Nat) < 8 := (i 0).isLt
  have h1 : (i 1 : Nat) < 64 := (i 1).isLt
  have h2 : (i 2 : Nat) < 256 := (i 2).isLt
  have hm : i ∈ ((cfg0.win 27).rect t0_0).set := by
    refine Rect.mem_set_unit.2 fun a => ?_
    match a with
    | ⟨0, _⟩ =>
      show cc0_transform_27 (grid0.coords t0_0) 0 * 8 ≤ (i 0 : Nat) ∧ (i 0 : Nat) < cc0_transform_27 (grid0.coords t0_0) 0 * 8 + 8
      rw [idx27]
      show 0 * 8 ≤ (i 0 : Nat) ∧ (i 0 : Nat) < 0 * 8 + 8
      omega
    | ⟨1, _⟩ =>
      show cc0_transform_27 (grid0.coords t0_0) 1 * 64 ≤ (i 1 : Nat) ∧ (i 1 : Nat) < cc0_transform_27 (grid0.coords t0_0) 1 * 64 + 64
      rw [idx27]
      show 0 * 64 ≤ (i 1 : Nat) ∧ (i 1 : Nat) < 0 * 64 + 64
      omega
    | ⟨2, _⟩ =>
      show cc0_transform_27 (grid0.coords t0_0) 2 * 256 ≤ (i 2 : Nat) ∧ (i 2 : Nat) < cc0_transform_27 (grid0.coords t0_0) 2 * 256 + 256
      rw [idx27]
      show 0 * 256 ≤ (i 2 : Nat) ∧ (i 2 : Nat) < 0 * 256 + 256
      omega
  exact (View.set_slice_whole main_v109_5 ((cfg0.win 27).rect t0_0)).symm ▸ hm

theorem flushed_values (c : Dev nD) (t : Fin cfg0.N) (_ : (cfg0.win 28).flush t = true) :
    (dats m 0 c).flushed 28 t = ((cfg0.win 28).blk t).view.read (Elt Ideal) (valuesR m c) := by
  refine funext fun j : S8x64x256.Idx => ?_
  show (dats m 0 c).after 28 t j = valuesR m c _
  rw [left_values]
  refine congrArg (valuesR m c) ?_
  funext a
  apply Fin.ext
  match a with
  | ⟨0, _⟩ => show (j 0).val = cc0_transform_28 (grid0.coords t) 0 * 8 + 1 * (j 0).val; rw [idx28]; show _ = 0 * 8 + 1 * (j 0).val; omega
  | ⟨1, _⟩ => show (j 1).val = cc0_transform_28 (grid0.coords t) 1 * 64 + 1 * (j 1).val; rw [idx28]; show _ = 0 * 64 + 1 * (j 1).val; omega
  | ⟨2, _⟩ => show (j 2).val = cc0_transform_28 (grid0.coords t) 2 * 256 + 1 * (j 2).val; rw [idx28]; show _ = 0 * 256 + 1 * (j 2).val; omega

theorem final_values (c : Dev nD) : (dats m 0 c).arrAt 28 cfg0.N = valuesR m c := by
  refine (dats m 0 c).arrAt_eq_of_cover 28 (valuesR m c) (flushed_values m c) fun i : S8x64x256.Idx => ⟨t0_0, flush0_28 t0_0, ?_⟩
  have h0 : (i 0 : Nat) < 8 := (i 0).isLt
  have h1 : (i 1 : Nat) < 64 := (i 1).isLt
  have h2 : (i 2 : Nat) < 256 := (i 2).isLt
  have hm : i ∈ ((cfg0.win 28).rect t0_0).set := by
    refine Rect.mem_set_unit.2 fun a => ?_
    match a with
    | ⟨0, _⟩ =>
      show cc0_transform_28 (grid0.coords t0_0) 0 * 8 ≤ (i 0 : Nat) ∧ (i 0 : Nat) < cc0_transform_28 (grid0.coords t0_0) 0 * 8 + 8
      rw [idx28]
      show 0 * 8 ≤ (i 0 : Nat) ∧ (i 0 : Nat) < 0 * 8 + 8
      omega
    | ⟨1, _⟩ =>
      show cc0_transform_28 (grid0.coords t0_0) 1 * 64 ≤ (i 1 : Nat) ∧ (i 1 : Nat) < cc0_transform_28 (grid0.coords t0_0) 1 * 64 + 64
      rw [idx28]
      show 0 * 64 ≤ (i 1 : Nat) ∧ (i 1 : Nat) < 0 * 64 + 64
      omega
    | ⟨2, _⟩ =>
      show cc0_transform_28 (grid0.coords t0_0) 2 * 256 ≤ (i 2 : Nat) ∧ (i 2 : Nat) < cc0_transform_28 (grid0.coords t0_0) 2 * 256 + 256
      rw [idx28]
      show 0 * 256 ≤ (i 2 : Nat) ∧ (i 2 : Nat) < 0 * 256 + 256
      omega
  exact (View.set_slice_whole main_v109_6 ((cfg0.win 28).rect t0_0)).symm ▸ hm

/-- The call's run: three of its results and its arguments. -/
theorem run_result (ρ : Dev nD → PrngReg) : θ_run defs (onTc (τ := τ) (main (F := Ideal))) ⟨m, fun _ => 0, ρ⟩ (fun r => ∀ c : Dev nD,
      r.2.mem ((c.tc : Thread nD τ).loc main_v109_3) = convR m c
      ∧ r.2.mem ((c.tc : Thread nD τ).loc main_v112) = Ref.newest (kA m c) (keysR m c)
      ∧ r.2.mem ((c.tc : Thread nD τ).loc main_v115) = Ref.newest (vA m c) (valuesR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) := by
  have h := θ_run_and (unchanged m ρ) (run_main m ρ)
  exact (θ_run defs _ _).mono (fun _ h c => ⟨((h.2 c).1 25).trans (final_conv m c),
    ((h.2 c).2 main_v112 (Pipeline.mem_restRefs_of main_v112 (by decide) (by decide))).trans (tail_k m (dats m) c (keysR m c) (final_keys m c)),
    ((h.2 c).2 main_v115 (Pipeline.mem_restRefs_of main_v115 (by decide) (by decide))).trans (tail_v m (dats m) c (valuesR m c) (final_values m c)), h.1 c⟩) h

end Cert.Mixer

end
-- ==== Proof.Experts.Run.lean ====
/- The run of the two calls one after the other, for any floats: from any memory whose positions name slots and whose table
   names groups, the program ends with its arguments unchanged, its result holding what the second call's points left in it,
   and every counter at zero. -/
module

public import proofs.«01_k».proof.Proof.Experts.Body
public import Idealize.ShloMosaic.Lib.Claim
public import Idealize.ShloMosaic.Lib.Pipeline.RegionArraysTS

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tables, which no item writes -/

/-- The table of groups and the table of positions, as launched. -/
def tbl0 : pre0.Contents (Elt F) := fun j => V0 m (0 : Dev nD) (pre0.ref j)
def tbl1 : pre1.Contents (Elt F) := fun j => V0 m (0 : Dev nD) (pre1.ref j)

/-- What the first call asks of its table: each weight block it names is inside its array. -/
abbrev Ok : Prop := ok0 (F := F) (tbl0 m)
/-- Every position names a slot. -/
def InRange : Prop := ∀ j : S16384.Idx, (tbl1 m 0 j : BitVec 32).toNat < 18432

abbrev adm0 (hO : Ok m) : (pcfg0 (F := F)).Adm := ⟨tbl0 m, hO⟩
abbrev adm1 : (pcfg1 (F := F)).Adm := ⟨tbl1 m, trivial⟩
abbrev adms (hO : Ok m) : (p : Fin 2) → (pcfgs (F := F) p).Adm := fun
  | 0 => adm0 m hO
  | 1 => adm1 m
  | ⟨_ + 2, h⟩ => absurd h (Nat.not_lt.2 (Nat.le_add_left _ _))
abbrev cfgA (hO : Ok m) : Pipeline.Cfg sig Λ₀ := cfg0 (adm0 m hO)
abbrev cfgB : Pipeline.Cfg sig Λ₀ := cfg1 (adm1 (F := F) m)

/-! ## The first call -/

/-- Window `w`'s block at point `t` of call 0, read off its array as that call finds it. -/
def iblk0 (hO : Ok m) (c : Dev nD) (w : Fin (cfgA m hO).W) (t : Fin (cfgA m hO).N) :
    (((cfgA m hO).win w).xblock ((cfgA m hO).grid.coords t)).Idx → Elt F ((cfgA m hO).win w).elt :=
  (((cfgA m hO).win w).blk t).view.read (Elt F) (V1 m c (Pipeline.arrRef spec0 w))

/-- What the body leaves at point `t` of its output. -/
def left0 (hO : Ok m) (c : Dev nD) (t : Fin (cfgA m hO).N) : Vec F S512x2x512 .bf16 :=
  expertsBlock (iblk0 m hO c 0 t) (iblk0 m hO c 1 t) (iblk0 m hO c 2 t) (iblk0 m hO c 3 t) (iblk0 m hO c 4 t)

def dat0 (hO : Ok m) (c : Dev nD) : Dat τ (Elt F) Unit ℕ (UR sig nD τ) ℕ (cfgA m hO) c where
  A w := V1 m c (Pipeline.arrRef spec0 w)
  after w t := match w with
    | ⟨0, _⟩ => iblk0 m hO c 0 t
    | ⟨1, _⟩ => iblk0 m hO c 1 t
    | ⟨2, _⟩ => iblk0 m hO c 2 t
    | ⟨3, _⟩ => iblk0 m hO c 3 t
    | ⟨4, _⟩ => iblk0 m hO c 4 t
    | ⟨5, _⟩ => left0 m hO c t
  Φ _ := iprop((Pipeline.scopedRest spec0 c ∗ emp) ∗ Pipeline.prefHeld pre0 c (fun _ => fullShare) (tbl0 m))
  q _ := fullShare
  owed _ := 0

theorem A0_eq (hO : Ok m) (c : Dev nD) (w : Fin (cfgA m hO).W) : (dat0 m hO c).A w = V1 m c (Pipeline.arrRef spec0 w) := by
  dsimp only [dat0]
theorem after0_0 (hO : Ok m) (c : Dev nD) (t : Fin (cfgA m hO).N) : (dat0 m hO c).after 0 t = iblk0 m hO c 0 t := by dsimp only [dat0]; try rfl
theorem after0_1 (hO : Ok m) (c : Dev nD) (t : Fin (cfgA m hO).N) : (dat0 m hO c).after 1 t = iblk0 m hO c 1 t := by dsimp only [dat0]; try rfl
theorem after0_2 (hO : Ok m) (c : Dev nD) (t : Fin (cfgA m hO).N) : (dat0 m hO c).after 2 t = iblk0 m hO c 2 t := by dsimp only [dat0]; try rfl
theorem after0_3 (hO : Ok m) (c : Dev nD) (t : Fin (cfgA m hO).N) : (dat0 m hO c).after 3 t = iblk0 m hO c 3 t := by dsimp only [dat0]; try rfl
theorem after0_4 (hO : Ok m) (c : Dev nD) (t : Fin (cfgA m hO).N) : (dat0 m hO c).after 4 t = iblk0 m hO c 4 t := by dsimp only [dat0]; try rfl
theorem after0_5 (hO : Ok m) (c : Dev nD) (t : Fin (cfgA m hO).N) : (dat0 m hO c).after 5 t = left0 m hO c t := by dsimp only [dat0]; try rfl
theorem before0_0 (hO : Ok m) (c : Dev nD) (t : Fin (cfgA m hO).N) (d) : (dat0 m hO c).before 0 t d = iblk0 m hO c 0 t :=
  ((dat0 m hO c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (hO : Ok m) (c : Dev nD) (t : Fin (cfgA m hO).N) (d) : (dat0 m hO c).before 1 t d = iblk0 m hO c 1 t :=
  ((dat0 m hO c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)
theorem before0_2 (hO : Ok m) (c : Dev nD) (t : Fin (cfgA m hO).N) (d) : (dat0 m hO c).before 2 t d = iblk0 m hO c 2 t :=
  ((dat0 m hO c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)
theorem before0_3 (hO : Ok m) (c : Dev nD) (t : Fin (cfgA m hO).N) (d) : (dat0 m hO c).before 3 t d = iblk0 m hO c 3 t :=
  ((dat0 m hO c).before_in_eq_fetched 3 rfl (fun _ => rfl) (fun _ _ _ => rfl)
    (fun t => by rw [after0_3]; unfold Dat.blockOf iblk0; rw [A0_eq]; try rfl) t d).trans
    (by unfold Dat.fetched Dat.blockOf iblk0; rw [A0_eq]; try rfl)
theorem before0_4 (hO : Ok m) (c : Dev nD) (t : Fin (cfgA m hO).N) (d) : (dat0 m hO c).before 4 t d = iblk0 m hO c 4 t :=
  ((dat0 m hO c).before_in_eq_fetched 4 rfl (fun _ => rfl) (fun _ _ _ => rfl)
    (fun t => by rw [after0_4]; unfold Dat.blockOf iblk0; rw [A0_eq]; try rfl) t d).trans
    (by unfold Dat.fetched Dat.blockOf iblk0; rw [A0_eq]; try rfl)

abbrev ms0_0 (hO : Ok m) (t : Fin (cfgA m hO).N) : Memref sig .tc .vmem S512x512 .i32 := spec0_0.stage (((cfgA m hO)).slots t 0)
abbrev hs0_0 (hO : Ok m) (t : Fin (cfgA m hO).N) : (ms0_0 m hO t).IsWhole := hstage0_0 (((cfgA m hO).slots t 0).cast nbuf0_0)
abbrev ms0_1 (hO : Ok m) (t : Fin (cfgA m hO).N) : Memref sig .tc .vmem S512x128 .f32 := spec0_1.stage (((cfgA m hO)).slots t 1)
abbrev hs0_1 (hO : Ok m) (t : Fin (cfgA m hO).N) : (ms0_1 m hO t).IsWhole := hstage0_1 (((cfgA m hO).slots t 1).cast nbuf0_1)
abbrev ms0_2 (hO : Ok m) (t : Fin (cfgA m hO).N) : Memref sig .tc .vmem S8x1024x256 .bf16 := spec0_2.stage (((cfgA m hO)).slots t 2)
abbrev hs0_2 (hO : Ok m) (t : Fin (cfgA m hO).N) : (ms0_2 m hO t).IsWhole := hstage0_2 (((cfgA m hO).slots t 2).cast nbuf0_2)
abbrev ms0_3 (hO : Ok m) (t : Fin (cfgA m hO).N) : Memref sig .tc .vmem S8x1024x256 .bf16 := spec0_3.stage (((cfgA m hO)).slots t 3)
abbrev hs0_3 (hO : Ok m) (t : Fin (cfgA m hO).N) : (ms0_3 m hO t).IsWhole := hstage0_3 (((cfgA m hO).slots t 3).cast nbuf0_3)
abbrev ms0_4 (hO : Ok m) (t : Fin (cfgA m hO).N) : Memref sig .tc .vmem S1x2048x1024 .bf16 := spec0_4.stage (((cfgA m hO)).slots t 4)
abbrev hs0_4 (hO : Ok m) (t : Fin (cfgA m hO).N) : (ms0_4 m hO t).IsWhole := hstage0_4 (((cfgA m hO).slots t 4).cast nbuf0_4)
abbrev ms0_5 (hO : Ok m) (t : Fin (cfgA m hO).N) : Memref sig .tc .vmem S512x2x512 .bf16 := spec0_5.stage (((cfgA m hO)).slots t 5)
abbrev hs0_5 (hO : Ok m) (t : Fin (cfgA m hO).N) : (ms0_5 m hO t).IsWhole := hstage0_5 (((cfgA m hO).slots t 5).cast nbuf0_5)

abbrev bodyAt0 (hO : Ok m) (t : Fin (cfgA m hO).N) : Prog (TpuEff nD τ sig (Elt F) Λ₀ .tc) PUnit :=
  cc0_moe_sorted (grid0.coords t) tgM htgM (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t)

def bodyPre0 (hO : Ok m) (c : Dev nD) (t : Fin (cfgA m hO).N) : sProp 𝕄 :=
  iprop((dat0 m hO c).Φ t.castSucc ∗ (dat0 m hO c).owesAt () t.castSucc
    ∗ (∃ d, owns (c : Thread nD τ) (ms0_0 m hO t) fullShare ((dat0 m hO c).before 0 t d))
    ∗ (∃ d, owns (c : Thread nD τ) (ms0_1 m hO t) fullShare ((dat0 m hO c).before 1 t d))
    ∗ (∃ d, owns (c : Thread nD τ) (ms0_2 m hO t) fullShare ((dat0 m hO c).before 2 t d))
    ∗ (∃ d, owns (c : Thread nD τ) (ms0_3 m hO t) fullShare ((dat0 m hO c).before 3 t d))
    ∗ (∃ d, owns (c : Thread nD τ) (ms0_4 m hO t) fullShare ((dat0 m hO c).before 4 t d))
    ∗ (∃ d, owns (c : Thread nD τ) (ms0_5 m hO t) fullShare ((dat0 m hO c).before 5 t d)))

def bodyPost0 (hO : Ok m) (c : Dev nD) (t : Fin (cfgA m hO).N) : sProp 𝕄 :=
  iprop((dat0 m hO c).Φ t.succ ∗ (dat0 m hO c).owesAt () t.succ
    ∗ owns (c : Thread nD τ) (ms0_0 m hO t) fullShare ((dat0 m hO c).after 0 t)
    ∗ owns (c : Thread nD τ) (ms0_1 m hO t) fullShare ((dat0 m hO c).after 1 t)
    ∗ owns (c : Thread nD τ) (ms0_2 m hO t) fullShare ((dat0 m hO c).after 2 t)
    ∗ owns (c : Thread nD τ) (ms0_3 m hO t) fullShare ((dat0 m hO c).after 3 t)
    ∗ owns (c : Thread nD τ) (ms0_4 m hO t) fullShare ((dat0 m hO c).after 4 t)
    ∗ owns (c : Thread nD τ) (ms0_5 m hO t) fullShare ((dat0 m hO c).after 5 t))

theorem sound0 (hO : Ok m) (c : Dev nD) (t : Fin (cfgA m hO).N) :
    bodyPre0 m hO c t ⊢ wp frame (wpE (defs₀ (F := F)) Variants.none c none) Set.univ (bodyAt0 m hO t) (fun _ => bodyPost0 m hO c t) := by
  unfold bodyPre0 bodyPost0 bodyAt0
  simp only [before0_0, before0_1, before0_2, before0_3, before0_4]
  rw [show (dat0 m hO c).Φ t.succ = (dat0 m hO c).Φ t.castSucc from rfl,
    show (dat0 m hO c).owesAt () t.succ = (dat0 m hO c).owesAt () t.castSucc from rfl, after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (experts_run c (grid0.coords t) _ _ _ _ _ _ _ _ _ _ _ _ (iblk0 m hO c 0 t) (iblk0 m hO c 1 t) (iblk0 m hO c 2 t) (iblk0 m hO c 3 t) (iblk0 m hO c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs0_row (hO : Ok m) (t : Fin (cfgA m hO).N) :
    defs₀ (F := F) .tc (cfgA m hO).body ((cfgA m hO).bodyArgs t ((cfgA m hO).slots t)) = bodyAt0 m hO t := by
  unfold defs₀; rw [Defs.onTc_tc]

theorem obligation0 (hO : Ok m) (c : Dev nD) : BodyObligation (dat0 (F := F) m hO c) (defs₀ (F := F)) Variants.none () Set.univ := fun t => by
  rw [bigSep_W0, bigSep_W0, defs0_row m hO]
  exact triple_restated (sound0 m hO c t) rfl .rfl fun _ => .rfl

/-! ## The second call -/

theorem table1_eq (c : Dev nD) : (Pipeline.prefHeld pre1 c (fun _ => fullShare) (tbl1 m) : sProp 𝕄) = iprop(tbPt c tbM (tbl1 m 0)) := by
  unfold Pipeline.prefHeld
  rw [show (Finset.univ : Finset (Fin 1)) = {(0 : Fin 1)} from by decide, bigSep_singleton]
  rfl

/-- Window `w`'s block at point `t` of call 1, read off its array as that call finds it. -/
def iblk1 (o : Outs (F := F)) (c : Dev nD) (w : Fin (cfgB m).W) (t : Fin (cfgB m).N) :
    (((cfgB m).win w).xblock ((cfgB m).grid.coords t)).Idx → Elt F ((cfgB m).win w).elt :=
  (((cfgB m).win w).blk t).view.read (Elt F) (V3 m o c (Pipeline.arrRef spec1 w))

/-- What the body leaves at point `t` of its output. -/
def left1 (o : Outs (F := F)) (c : Dev nD) (t : Fin (cfgB m).N) : Vec F S1024x1024 .f32 :=
  outBlock (tbl1 m 0) (iblk1 m o c 0 t) (iblk1 m o c 1 t) (iblk1 m o c 2 t) (grid1.coords t)

def dat1 (o : Outs (F := F)) (c : Dev nD) : Dat τ (Elt F) Unit ℕ (UR sig nD τ) ℕ (cfgB m) c where
  A w := V3 m o c (Pipeline.arrRef spec1 w)
  after w t := match w with
    | ⟨0, _⟩ => iblk1 m o c 0 t
    | ⟨1, _⟩ => iblk1 m o c 1 t
    | ⟨2, _⟩ => iblk1 m o c 2 t
    | ⟨3, _⟩ => left1 m o c t
  Φ _ := iprop((Pipeline.scopedRest spec1 c ∗ emp) ∗ Pipeline.prefHeld pre1 c (fun _ => fullShare) (tbl1 m))
  q _ := fullShare
  owed _ := 0

theorem A1_eq (o : Outs (F := F)) (c : Dev nD) (w : Fin (cfgB m).W) : (dat1 m o c).A w = V3 m o c (Pipeline.arrRef spec1 w) := by
  dsimp only [dat1]
theorem after1_0 (o : Outs (F := F)) (c : Dev nD) (t : Fin (cfgB m).N) : (dat1 m o c).after 0 t = iblk1 m o c 0 t := by dsimp only [dat1]; try rfl
theorem after1_1 (o : Outs (F := F)) (c : Dev nD) (t : Fin (cfgB m).N) : (dat1 m o c).after 1 t = iblk1 m o c 1 t := by dsimp only [dat1]; try rfl
theorem after1_2 (o : Outs (F := F)) (c : Dev nD) (t : Fin (cfgB m).N) : (dat1 m o c).after 2 t = iblk1 m o c 2 t := by dsimp only [dat1]; try rfl
theorem after1_3 (o : Outs (F := F)) (c : Dev nD) (t : Fin (cfgB m).N) : (dat1 m o c).after 3 t = left1 m o c t := by dsimp only [dat1]; try rfl
theorem before1_0 (o : Outs (F := F)) (c : Dev nD) (t : Fin (cfgB m).N) (d) : (dat1 m o c).before 0 t d = iblk1 m o c 0 t :=
  ((dat1 m o c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)
theorem before1_1 (o : Outs (F := F)) (c : Dev nD) (t : Fin (cfgB m).N) (d) : (dat1 m o c).before 1 t d = iblk1 m o c 1 t :=
  ((dat1 m o c).before_in_eq_fetched 1 rfl (fun _ => rfl) (fun _ _ _ => rfl)
    (fun t => by rw [after1_1]; unfold Dat.blockOf iblk1; rw [A1_eq]; try rfl) t d).trans
    (by unfold Dat.fetched Dat.blockOf iblk1; rw [A1_eq]; try rfl)
theorem before1_2 (o : Outs (F := F)) (c : Dev nD) (t : Fin (cfgB m).N) (d) : (dat1 m o c).before 2 t d = iblk1 m o c 2 t :=
  ((dat1 m o c).before_in_eq_fetched 2 rfl (fun _ => rfl) (fun _ _ _ => rfl)
    (fun t => by rw [after1_2]; unfold Dat.blockOf iblk1; rw [A1_eq]; try rfl) t d).trans
    (by unfold Dat.fetched Dat.blockOf iblk1; rw [A1_eq]; try rfl)

abbrev ms1_0 (o : Outs (F := F)) (t : Fin (cfgB m).N) : Memref sig .tc .vmem S18432x2x512 .bf16 := spec1_0.stage (((cfgB m)).slots t 0)
abbrev hs1_0 (o : Outs (F := F)) (t : Fin (cfgB m).N) : (ms1_0 m o t).IsWhole := hstage1_0 (((cfgB m).slots t 0).cast nbuf1_0)
abbrev ms1_1 (o : Outs (F := F)) (t : Fin (cfgB m).N) : Memref sig .tc .vmem S1024x1024 .f32 := spec1_1.stage (((cfgB m)).slots t 1)
abbrev hs1_1 (o : Outs (F := F)) (t : Fin (cfgB m).N) : (ms1_1 m o t).IsWhole := hstage1_1 (((cfgB m).slots t 1).cast nbuf1_1)
abbrev ms1_2 (o : Outs (F := F)) (t : Fin (cfgB m).N) : Memref sig .tc .vmem S1x1024 .f32 := spec1_2.stage (((cfgB m)).slots t 2)
abbrev hs1_2 (o : Outs (F := F)) (t : Fin (cfgB m).N) : (ms1_2 m o t).IsWhole := hstage1_2 (((cfgB m).slots t 2).cast nbuf1_2)
abbrev ms1_3 (o : Outs (F := F)) (t : Fin (cfgB m).N) : Memref sig .tc .vmem S1024x1024 .f32 := spec1_3.stage (((cfgB m)).slots t 3)
abbrev hs1_3 (o : Outs (F := F)) (t : Fin (cfgB m).N) : (ms1_3 m o t).IsWhole := hstage1_3 (((cfgB m).slots t 3).cast nbuf1_3)

abbrev bodyAt1 (o : Outs (F := F)) (t : Fin (cfgB m).N) : Prog (TpuEff nD τ sig (Elt F) Λ₀ .tc) PUnit :=
  cc1_moe_gather_norm (grid1.coords t) tbM htbM (ms1_0 m o t) (hs1_0 m o t) (ms1_1 m o t) (hs1_1 m o t) (ms1_2 m o t) (hs1_2 m o t) (ms1_3 m o t) (hs1_3 m o t) scM hscM

def bodyPre1 (o : Outs (F := F)) (c : Dev nD) (t : Fin (cfgB m).N) : sProp 𝕄 :=
  iprop((dat1 m o c).Φ t.castSucc ∗ (dat1 m o c).owesAt () t.castSucc
    ∗ (∃ d, owns (c : Thread nD τ) (ms1_0 m o t) fullShare ((dat1 m o c).before 0 t d))
    ∗ (∃ d, owns (c : Thread nD τ) (ms1_1 m o t) fullShare ((dat1 m o c).before 1 t d))
    ∗ (∃ d, owns (c : Thread nD τ) (ms1_2 m o t) fullShare ((dat1 m o c).before 2 t d))
    ∗ (∃ d, owns (c : Thread nD τ) (ms1_3 m o t) fullShare ((dat1 m o c).before 3 t d)))

def bodyPost1 (o : Outs (F := F)) (c : Dev nD) (t : Fin (cfgB m).N) : sProp 𝕄 :=
  iprop((dat1 m o c).Φ t.succ ∗ (dat1 m o c).owesAt () t.succ
    ∗ owns (c : Thread nD τ) (ms1_0 m o t) fullShare ((dat1 m o c).after 0 t)
    ∗ owns (c : Thread nD τ) (ms1_1 m o t) fullShare ((dat1 m o c).after 1 t)
    ∗ owns (c : Thread nD τ) (ms1_2 m o t) fullShare ((dat1 m o c).after 2 t)
    ∗ owns (c : Thread nD τ) (ms1_3 m o t) fullShare ((dat1 m o c).after 3 t))

theorem sound1 (o : Outs (F := F)) (hpos : InRange m) (c : Dev nD) (t : Fin (cfgB m).N) :
    bodyPre1 m o c t ⊢ wp frame (wpE (defs₀ (F := F)) Variants.none c none) Set.univ (bodyAt1 m o t) (fun _ => bodyPost1 m o c t) := by
  unfold bodyPre1 bodyPost1 bodyAt1
  simp only [before1_0, before1_1, before1_2]
  rw [show (dat1 m o c).Φ t.succ = (dat1 m o c).Φ t.castSucc from rfl,
    show (dat1 m o c).owesAt () t.succ = (dat1 m o c).owesAt () t.castSucc from rfl, after1_0, after1_1, after1_2, after1_3]
  rw [show (dat1 m o c).Φ t.castSucc = iprop((Pipeline.scopedRest spec1 c ∗ emp) ∗ Pipeline.prefHeld pre1 c (fun _ => fullShare) (tbl1 m)) from rfl,
    table1_eq, scopedRest1_eq]
  iintro ⟨⟨⟨⟨R0, R1, R2, R3, R4, R5, R6, R7, R8, R9, R10, R11, HS⟩, -⟩, HT⟩, Ho, ⟨%d0, H0⟩, ⟨%d1, H1⟩, ⟨%d2, H2⟩, ⟨%d3, H3⟩⟩
  iapply (combine_run c (grid1.coords t) _ _ _ _ _ _ _ _ (iblk1 m o c 0 t) (iblk1 m o c 1 t) (iblk1 m o c 2 t) (tbl1 m 0) hpos _)
  isplitl [H0]; · iexact H0
  isplitl [H1]; · iexact H1
  isplitl [H2]; · iexact H2
  isplitl [H3]; · iexists _; iexact H3
  isplitl [HT]; · iexact HT
  isplitl [HS]; · iexact HS
  iintro ⟨H0, H1, H2, H3, HT, HS⟩
  isplitl [R0 R1 R2 R3 R4 R5 R6 R7 R8 R9 R10 R11 HT HS]
  · isplitr [HT]
    · isplitl
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        iexact HS
      iempintro
    iexact HT
  isplitl [Ho]; · iexact Ho
  isplitl [H0]; · iexact H0
  isplitl [H1]; · iexact H1
  isplitl [H2]; · iexact H2
  iexact H3

theorem defs1_row (o : Outs (F := F)) (t : Fin (cfgB m).N) :
    defs₀ (F := F) .tc (cfgB m).body ((cfgB m).bodyArgs t ((cfgB m).slots t)) = bodyAt1 m o t := by
  unfold defs₀; rw [Defs.onTc_tc]

theorem obligation1 (o : Outs (F := F)) (hpos : InRange m) (c : Dev nD) : BodyObligation (dat1 (F := F) m o c) (defs₀ (F := F)) Variants.none () Set.univ := fun t => by
  rw [bigSep_W1, bigSep_W1, defs1_row m o]
  exact triple_restated (sound1 m o hpos c t) rfl .rfl fun _ => .rfl

/-! ## Both calls -/

/-- What the first call leaves of each buffer. -/
def outsA (hO : Ok m) : Outs (F := F) := fun _ r c => Pipeline.afterRegion (dat0 m hO c) (V1 m c) (Proc.devRef .tc r)
/-- What each call leaves of each buffer. -/
def outs (hO : Ok m) : Outs (F := F) := fun J r c => match J with
  | 2 => Pipeline.afterRegion (dat0 m hO c) (V1 m c) (Proc.devRef .tc r)
  | 4 => Pipeline.afterRegion (dat1 m (outsA m hO) c) (V3 m (outsA m hO) c) (Proc.devRef .tc r)
  | _ => m (c, Proc.devRef .tc r)

abbrev datB (hO : Ok m) (c : Dev nD) : Dat τ (Elt F) Unit ℕ (UR sig nD τ) ℕ (cfgB (F := F) m) c := dat1 m (outsA m hO) c

def pdats (hO : Ok m) : (p : Fin 2) → (c : Dev nD) → Dat τ (Elt F) Unit ℕ (UR sig nD τ) ℕ (Pipeline.pin (pcfgs (F := F)) (adms m hO) p) c := fun
  | 0 => fun c => dat0 m hO c
  | 1 => fun c => datB m hO c
  | ⟨_ + 2, h⟩ => absurd h (Nat.not_lt.2 (Nat.le_add_left _ _))

theorem V3_outs (hO : Ok m) (c : Dev nD) : V3 m (outs m hO) c = V3 m (outsA m hO) c := rfl

/-- Every buffer held is one the core names. -/
theorem held_named {b : DevRef τ sig} (hb : b ∈ Pipeline.ucRefs τ sig) : ∃ r : Ref sig .tc, b = Proc.devRef .tc r := by
  have h := (Finset.mem_filter.mp hb).1
  unfold StableHlo.tcRefs at h
  obtain ⟨r, -, e⟩ := Finset.mem_map.mp h
  exact ⟨r, e.symm⟩

/-- What is held after the first call: every buffer as before it but the packed rows. -/
theorem after0_held (hO : Ok m) (c : Dev nD) : ∀ b ∈ Pipeline.ucRefs τ sig,
    Pipeline.afterRegion (dat0 m hO c) (V1 m c) b = V2 m (outs m hO) c b := by
  intro b hb
  obtain ⟨r, rfl⟩ := held_named hb
  by_cases h : r = main_v4
  · subst h
    exact (Function.update_self (f := V1 m c) (Proc.devRef .tc main_v4) _).symm
  · refine (Pipeline.afterRegion_keeps (dat0 m hO c) (V1 m c) winFacts0.arr_inj (A0_eq m hO c) r fun w hw => ?_).trans
      (V2_of m (outs m hO) c r (by simpa using h)).symm
    match w with
    | ⟨0, _⟩ => rfl
    | ⟨1, _⟩ => rfl
    | ⟨2, _⟩ => rfl
    | ⟨3, _⟩ => rfl
    | ⟨4, _⟩ => rfl
    | ⟨5, _⟩ => exact absurd hw.symm h

/-- What is held after the second call: every buffer as before it but the result. -/
theorem after1_held (hO : Ok m) (c : Dev nD) : ∀ b ∈ Pipeline.ucRefs τ sig,
    Pipeline.afterRegion (datB m hO c) (V3 m (outs m hO) c) b = V4 m (outs m hO) c b := by
  intro b hb
  obtain ⟨r, rfl⟩ := held_named hb
  by_cases h : r = main_v6
  · subst h
    exact (Function.update_self (f := V3 m (outs m hO) c) (Proc.devRef .tc main_v6) _).symm
  · refine (Pipeline.afterRegion_keeps (datB m hO c) (V3 m (outs m hO) c) winFacts1.arr_inj (A1_eq m (outsA m hO) c) r fun w hw => ?_).trans
      (V4_of m (outs m hO) c r (by simpa using h)).symm
    match w with
    | ⟨0, _⟩ => rfl
    | ⟨1, _⟩ => rfl
    | ⟨2, _⟩ => rfl
    | ⟨3, _⟩ => exact absurd hw.symm h

/-- The one level every wait of a core is at. -/
def lev : GSem nD τ sig → Finset Unit := fun g => if g.1.2 = .tc then {()} else ∅

theorem cut (hO : Ok m) (p : Fin 2) : Pipeline.LevelCut (nD := nD) (pcfgs (F := F)) (adms m hO) () lev (fun _ _ => (0 : ℕ)) p (fun _ => (0 : CellTallies nD τ sig Unit)) (fun _ => 0) :=
  ⟨fun c _ _ => by unfold lev; rw [if_pos rfl]; exact Finset.mem_singleton.2 rfl, fun _ _ _ => le_refl _, fun _ _ _ h => absurd h (by simp)⟩

theorem table_0 (hO : Ok m) (c : Dev nD) (k : Fin ((pcfgs (F := F) 0).pre.K)) : ((adms m hO) 0).1 k = V1 m c (Proc.devRef .tc ((pcfgs (F := F) 0).pre.ref k)) := by
  obtain rfl : c = 0 := Subsingleton.elim _ _
  match k with
  | ⟨0, _⟩ => exact (V1_of m 0 main_arg1 (by decide)).symm

theorem table_1 (hO : Ok m) (c : Dev nD) (k : Fin ((pcfgs (F := F) 1).pre.K)) : ((adms m hO) 1).1 k = V3 m (outs m hO) c (Proc.devRef .tc ((pcfgs (F := F) 1).pre.ref k)) := by
  obtain rfl : c = 0 := Subsingleton.elim _ _
  match k with
  | ⟨0, _⟩ => exact ((V3_of m (outs m hO) 0 main_arg0 (by decide)).trans <| (V2_of m (outs m hO) 0 main_arg0 (by decide)).trans (V1_of m 0 main_arg0 (by decide))).symm

/-- The first call between the buffers as it finds them and as it leaves them. -/
def R0 (hO : Ok m) : RegionSeg (pcfgs (F := F)) (adms m hO) (pdats m hO) () defs₀ Variants.none lev (fun _ _ => (0 : ℕ)) 0 :=
  RegionSeg.ofHeldInT (pcfgs (F := F)) (adms m hO) (pdats m hO) () defs₀ Variants.none lev (fun _ _ => (0 : ℕ)) 0 (fun _ => 0) (Pipeline.ucRefs τ sig)
    (fun _ => iprop(emp)) (fun _ => iprop(emp)) launch0 (fun c => (obligation0 m hO c).loose) (fun _ _ => rfl) (fun _ => rfl)
    (fun c => (dat0 m hO c).share_full fun _ => rfl) (fun _ => .rfl) (fun _ => .rfl) (fun _ => 0) (cut m hO 0) (fun _ => iprop(emp)) (V1 m)
    (fun c w => A0_eq m hO c w) (table_0 m hO)

/-- The second in the same way. -/
def R1 (hO : Ok m) (hpos : InRange m) : RegionSeg (pcfgs (F := F)) (adms m hO) (pdats m hO) () defs₀ Variants.none lev (fun _ _ => (0 : ℕ)) 1 :=
  RegionSeg.ofHeldInT (pcfgs (F := F)) (adms m hO) (pdats m hO) () defs₀ Variants.none lev (fun _ _ => (0 : ℕ)) 1 (fun _ => 0) (Pipeline.ucRefs τ sig)
    (fun _ => iprop(emp)) (fun _ => iprop(emp)) launch1 (fun c => (obligation1 m (outsA m hO) hpos c).loose) (fun _ _ => rfl) (fun _ => rfl)
    (fun c => (datB m hO c).share_full fun _ => rfl) (fun _ => .rfl) (fun _ => .rfl) (fun _ => 0) (cut m hO 1) (fun _ => iprop(emp)) (V3 m (outs m hO))
    (fun c w => A1_eq m (outsA m hO) c w) (table_1 m hO)

/-- What rides beside the buffers: that the core owes nothing. -/
def rest (_ : Fin 3) (c : Dev nD) : sProp 𝕄 := iprop((∃ W, owes (c : Thread nD τ) (0 : CellTallies nD τ sig Unit) W) ∗ emp ∗ emp)

theorem rest_owes (j : Fin 3) (c : Dev nD) : (rest j c : sProp 𝕄) ⊢ iprop(∃ W, owes (c : Thread nD τ) (0 : CellTallies nD τ sig Unit) W) := by
  unfold rest
  iintro ⟨H, -⟩
  iexact H

theorem arrs0 : Pipeline.arrRefs (τ := τ) (pcfgs (F := F) 0).spec ⊆ Pipeline.ucRefs τ sig := Pipeline.arrRefs_sub_ucRefs spec0 winFacts0.arr_unscoped
theorem arrs1 : Pipeline.arrRefs (τ := τ) (pcfgs (F := F) 1).spec ⊆ Pipeline.ucRefs τ sig := Pipeline.arrRefs_sub_ucRefs spec1 winFacts1.arr_unscoped
theorem tbls0 : Pipeline.tblRefs (τ := τ) (pcfgs (F := F) 0).pre ⊆ Pipeline.ucRefs τ sig := Pipeline.tblRefs_sub_ucRefs pre0 preFacts0.unscoped
theorem tbls1 : Pipeline.tblRefs (τ := τ) (pcfgs (F := F) 1).pre ⊆ Pipeline.ucRefs τ sig := Pipeline.tblRefs_sub_ucRefs pre1 preFacts1.unscoped

theorem pre_0 (hO : Ok m) (c : Dev nD) : iprop(StableHlo.held (c : Thread nD τ) (Pipeline.ucRefs τ sig) (V1 m c) ∗ rest 0 c) ⊢ (R0 m hO).pre c :=
  RegionSeg.ofHeldInT_pre (pcs := pcfgs (F := F)) (a := adms m hO) (pdats := pdats m hO) (L := lev) (lv := fun _ _ => (0 : ℕ)) (ι := ()) (defs₀ := defs₀) (𝒱₀ := Variants.none) (p := 0) (D := fun _ => 0)
    (X := fun _ => iprop(emp)) (R := fun _ => iprop(emp)) arrs0 tbls0 c
theorem post_0 (hO : Ok m) (c : Dev nD) : (R0 m hO).post c ⊢ iprop(StableHlo.held (c : Thread nD τ) (Pipeline.ucRefs τ sig) (V2 m (outs m hO) c) ∗ rest 1 c) :=
  (RegionSeg.ofHeldInT_post (pcs := pcfgs (F := F)) (a := adms m hO) (pdats := pdats m hO) (L := lev) (lv := fun _ _ => (0 : ℕ)) (ι := ()) (defs₀ := defs₀) (𝒱₀ := Variants.none) (p := 0) (D := fun _ => 0)
    (Y := fun _ => iprop(emp)) (R := fun _ => iprop(emp)) arrs0 tbls0 c).trans
    (sep_mono (Entails.of_eq (StableHlo.held_congr (c.tc : Thread nD τ) (after0_held m hO c))) .rfl)
theorem pre_1 (hO : Ok m) (hpos : InRange m) (c : Dev nD) :
    iprop(StableHlo.held (c : Thread nD τ) (Pipeline.ucRefs τ sig) (V3 m (outs m hO) c) ∗ rest 1 c) ⊢ (R1 m hO hpos).pre c :=
  RegionSeg.ofHeldInT_pre (pcs := pcfgs (F := F)) (a := adms m hO) (pdats := pdats m hO) (L := lev) (lv := fun _ _ => (0 : ℕ)) (ι := ()) (defs₀ := defs₀) (𝒱₀ := Variants.none) (p := 1) (D := fun _ => 0)
    (X := fun _ => iprop(emp)) (R := fun _ => iprop(emp)) arrs1 tbls1 c
theorem post_1 (hO : Ok m) (hpos : InRange m) (c : Dev nD) :
    (R1 m hO hpos).post c ⊢ iprop(StableHlo.held (c : Thread nD τ) (Pipeline.ucRefs τ sig) (V4 m (outs m hO) c) ∗ rest 2 c) :=
  (RegionSeg.ofHeldInT_post (pcs := pcfgs (F := F)) (a := adms m hO) (pdats := pdats m hO) (L := lev) (lv := fun _ _ => (0 : ℕ)) (ι := ()) (defs₀ := defs₀) (𝒱₀ := Variants.none) (p := 1) (D := fun _ => 0)
    (Y := fun _ => iprop(emp)) (R := fun _ => iprop(emp)) arrs1 tbls1 c).trans
    (sep_mono (Entails.of_eq (StableHlo.held_congr (c.tc : Thread nD τ) (after1_held m hO c))) .rfl)

/-- What a core holds at launch, as the first item takes it. -/
theorem start (c : Dev nD) : iprop(unscopedBufs c (fun b => m ((c.tc : Thread nD τ).loc b)) ∗ unscopedSems0 c
      ∗ owes (c.tc : Thread nD τ) (0 : CellTallies nD τ sig Unit) ∅ ∗ Pipeline.launchCred (fun _ => (0 : CellTallies nD τ sig Unit)) c ∗ prngReg c (ρ c) ∗ emp)
    ⊢ (iprop(StableHlo.held (c : Thread nD τ) (Pipeline.ucRefs τ sig) (V0 m c) ∗ rest 0 c) : sProp 𝕄) := by
  rw [← Pipeline.unscopedBufs_held (Ix := Unit) (Name := ℕ) (U := UR sig nD τ) (Lvl := ℕ) c (V0 m c)]
  unfold rest
  iintro ⟨Hb, -, Ho, -⟩
  isplitl [Hb]; · iexact Hb
  isplitl [Ho]; · iexists _; iexact Ho
  isplitl <;> iempintro

set_option backward.isDefEq.respectTransparency.types false in
/-- The arguments end unchanged, the result at what the second call's points left, the counters at zero. -/
theorem run_result (hO : Ok m) (hpos : InRange m) : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0)
    ∧ ∀ c : Dev nD, r.2.mem ((c.tc : Thread nD τ).loc main_v6) = (datB m hO c).arrAt 3 (cfgB (F := F) m).N) := by
  refine Pipeline.θ_run_regions_kit_dev_sems (pcfgs (F := F)) (adms m hO) (pdats m hO) () (cellOf_inj (adms m hO)) emb₁ defs₀ Variants.none lev
    (fun _ _ => (0 : ℕ)) m ρ main
    (segs m (outs m hO) Variants.none lev (fun _ _ => (0 : ℕ)) rest () (adms m hO) (pdats m hO) (R0 m hO) (R1 m hO hpos))
    (fun c Q => by
      rewrite [main_chain c, Pipeline.Seg.run_eq_chain,
        show (segs m (outs m hO) Variants.none lev (fun _ _ => (0 : ℕ)) rest () (adms m hO) (pdats m hO) (R0 m hO) (R1 m hO hpos) c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (fun _ => 0) (fun g h => if_neg h) (fun _ => iprop(emp))
    (initOf (Pipeline.cells (Pipeline.pin (pcfgs (F := F)) (adms m hO)) (cellOf_inj (adms m hO))) (Pipeline.launchToks (Pipeline.pin (pcfgs (F := F)) (adms m hO)) (cellOf_inj (adms m hO))))
    (hu₀ := ?_)
    (T₀ := fun c => iprop(StableHlo.held (c : Thread nD τ) (Pipeline.ucRefs τ sig) (V0 m c) ∗ rest 0 c))
    (Tₙ := fun c => StableHlo.held (c : Thread nD τ) (Pipeline.ucRefs τ sig) (V4 m (outs m hO) c))
    (hch := fun c => ⟨.rfl, pre_0 m hO c, post_0 m hO c, pre_1 m hO hpos c, (post_1 m hO hpos c).trans (sep_mono .rfl (rest_owes 2 c))⟩)
    (hinit := ?_)
    (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
      ∧ s.mem ((c.tc : Thread nD τ).loc main_v6) = (datB m hO c).arrAt 3 (cfgB (F := F) m).N)
    (hfin := fun c s' => ?_) (hQ := fun _ h hz => ⟨⟨fun c => (h c).1, funext fun g => hz g (.inr (regions_no_unscoped g.2))⟩, fun c => (h c).2⟩)
  · iintro H
    imodintro
    isplitl [H]
    · rw [← ownU_emb₁]; iexact H
    · exact Entails.of_eq (bigSep_emp_const _).symm
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (bigSep Finset.univ fun c : Dev nD => iprop(StableHlo.held (c : Thread nD τ) (Pipeline.ucRefs τ sig) (V0 m c) ∗ rest 0 c) : sProp 𝕄) :=
      bigSep_mono fun c _ => start m ρ c
    iintro ⟨H, -⟩
    imodintro
    iapply hsplit $$ H
  · unfold StableHlo.held
    iintro ⟨Hh, HSI⟩
    ihave Hr := (pointsTo_read_all (Pipeline.ucRefs τ sig) (fun b => ((c : Thread nD τ).1, b)) (V4 m (outs m hO) c) s') $$ [Hh HSI]
    · isplitl [Hh] <;> iassumption
    icases Hr with ⟨%h, HSI⟩
    imodintro
    isplitr
    · ipureintro
      refine ⟨⟨(h (Proc.devRef .tc main_arg0) (Finset.mem_filter.mpr ⟨StableHlo.devRef_mem_tcRefs main_arg0, by decide⟩)).trans (V4_main_arg0 m (outs m hO) c),
        (h (Proc.devRef .tc main_arg1) (Finset.mem_filter.mpr ⟨StableHlo.devRef_mem_tcRefs main_arg1, by decide⟩)).trans (V4_main_arg1 m (outs m hO) c),
        (h (Proc.devRef .tc main_arg2) (Finset.mem_filter.mpr ⟨StableHlo.devRef_mem_tcRefs main_arg2, by decide⟩)).trans (V4_main_arg2 m (outs m hO) c),
        (h (Proc.devRef .tc main_arg3) (Finset.mem_filter.mpr ⟨StableHlo.devRef_mem_tcRefs main_arg3, by decide⟩)).trans (V4_main_arg3 m (outs m hO) c),
        (h (Proc.devRef .tc main_arg4) (Finset.mem_filter.mpr ⟨StableHlo.devRef_mem_tcRefs main_arg4, by decide⟩)).trans (V4_main_arg4 m (outs m hO) c),
        (h (Proc.devRef .tc main_arg5) (Finset.mem_filter.mpr ⟨StableHlo.devRef_mem_tcRefs main_arg5, by decide⟩)).trans (V4_main_arg5 m (outs m hO) c),
        (h (Proc.devRef .tc main_arg6) (Finset.mem_filter.mpr ⟨StableHlo.devRef_mem_tcRefs main_arg6, by decide⟩)).trans (V4_main_arg6 m (outs m hO) c),
        (h (Proc.devRef .tc main_arg7) (Finset.mem_filter.mpr ⟨StableHlo.devRef_mem_tcRefs main_arg7, by decide⟩)).trans (V4_main_arg7 m (outs m hO) c),
        (h (Proc.devRef .tc main_arg8) (Finset.mem_filter.mpr ⟨StableHlo.devRef_mem_tcRefs main_arg8, by decide⟩)).trans (V4_main_arg8 m (outs m hO) c)⟩, ?_⟩
      refine (h (Proc.devRef .tc main_v6) (Finset.mem_filter.mpr ⟨StableHlo.devRef_mem_tcRefs main_v6, by decide⟩)).trans ?_
      refine (Function.update_self (f := V3 m (outs m hO) c) (Proc.devRef .tc main_v6) _).trans ?_
      exact Pipeline.afterRegion_arr (datB m hO c) (V3 m (outsA m hO) c) winFacts1.arr_inj 3
    · iexact HSI

end Cert.Experts

end
-- ==== Proof.Experts.Tables.lean ====
/- The first call's table: while its entries are groups, the blocks it names lie inside their arrays. -/
module

public import proofs.«01_k».proof.Proof.Experts.Run

@[expose] public section

noncomputable section

namespace Cert.Experts

open Cert.Kernel2Ideal Cert.Kernel2Ideal.Gen
open Idealize.ShloMosaic Idealize.ShloMosaic.TcCoe

variable {F : FTy → Type} [FloatOps F]

/-- Eight experts' projections, of the group `v` names. -/
theorem experts_block (v : ℕ) (hv : v < 4) (f : Fin 3 → ℕ) (hf : f = ![v, 0, 0]) :
    ∃ h : (∀ a, (f a + 1) * S8x1024x256.size a ≤ S32x1024x256.size a),
      EltTy.bits .bf16 = 32 ∨ (Rect.block (s := S32x1024x256) S8x1024x256.size f h).WholeWords (EltTy.packing .bf16) := by
  subst hf
  refine ⟨fun a => ?_, .inr (.inr ⟨by decide, rfl, rfl, rfl⟩)⟩
  match a with
  | ⟨0, _⟩ => show (v + 1) * 8 ≤ 32; omega
  | ⟨1, _⟩ => show (0 + 1) * 1024 ≤ 1024; omega
  | ⟨2, _⟩ => show (0 + 1) * 256 ≤ 256; omega

/-- A group's stacked last projections. -/
theorem stacked_block (v : ℕ) (hv : v < 4) (f : Fin 3 → ℕ) (hf : f = ![v, 0, 0]) :
    ∃ h : (∀ a, (f a + 1) * S1x2048x1024.size a ≤ S4x2048x1024.size a),
      EltTy.bits .bf16 = 32 ∨ (Rect.block (s := S4x2048x1024) S1x2048x1024.size f h).WholeWords (EltTy.packing .bf16) := by
  subst hf
  refine ⟨fun a => ?_, .inr (.inr ⟨by decide, rfl, rfl, rfl⟩)⟩
  match a with
  | ⟨0, _⟩ => show (v + 1) * 1 ≤ 4; omega
  | ⟨1, _⟩ => show (0 + 1) * 2048 ≤ 2048; omega
  | ⟨2, _⟩ => show (0 + 1) * 1024 ≤ 1024; omega

variable (m : (ℓ : Loc nD τ sig) → Buf (Elt F) ℓ)

theorem groups_eq : tbl0 m 0 = m (((0 : Dev nD) : Thread nD τ).loc main_arg1) := (V1_of m 0 main_arg1 (by decide)).symm.trans (V1_of m 0 main_arg1 (by decide))
theorem positions_eq : tbl1 m 0 = m (((0 : Dev nD) : Thread nD τ).loc main_arg0) := V1_of m 0 main_arg0 (by decide)

/-- A table of groups is one the first call runs at. -/
theorem ok_of (h : ∀ j : S36.Idx, (tbl0 m 0 j : BitVec 32).toNat < 4) : Ok m :=
  ⟨fun i => experts_block _ (h _) _ rfl, fun i => experts_block _ (h _) _ rfl, fun i => stacked_block _ (h _) _ rfl⟩

end Cert.Experts

end
-- ==== Proof.Experts.Value.lean ====
/- What the two calls leave of their results, over the extended reals: the second's is the reference's. -/
module

public import proofs.«01_k».proof.Proof.Experts.Run
public import proofs.«01_k».proof.Proof.Experts.Rows
public import proofs.«01_k».proof.Proof.Experts.Mix

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.ShloMosaic.Pipeline (Dat Cfg Window)
open Cert.Gather (half normed)
open scoped BigOperators

variable (m : (ℓ : Loc nD τ sig) → Buf (Elt Ideal) ℓ)

/-! ## The index maps -/

theorem idx0_0 : ∀ t : Fin grid0.N, cc0_transform_0 (grid0.coords t) = ![t.val, 0] := by decide +kernel
theorem idx0_1 : ∀ t : Fin grid0.N, cc0_transform_1 (grid0.coords t) = ![t.val, 0] := by decide +kernel
theorem idx0_5 : ∀ t : Fin grid0.N, cc0_transform_5 (grid0.coords t) = ![t.val, 0, 0] := by decide +kernel
theorem co0 : ∀ t : Fin grid0.N, ((grid0.coords t) 0).val = t.val := by decide +kernel
theorem idx1_1 : ∀ t : Fin grid1.N, cc1_transform_1 (grid1.coords t) = ![t.val, 0] := by decide +kernel
theorem idx1_3 : ∀ t : Fin grid1.N, cc1_transform_3 (grid1.coords t) = ![t.val, 0] := by decide +kernel
theorem co1 : ∀ t : Fin grid1.N, ((grid1.coords t) 0).val = t.val := by decide +kernel

/-- The table's entry for a tile. -/
abbrev entry (t : Fin 36) : BitVec 32 := tbl0 m 0 (ix1 t)

theorem entry_at (t : Fin grid0.N) (h) (h1) : (tbl0 m).at 0 (Rect.unit (s := S36) ![(Scalar.indexCast (BitVec.ofNat 32 ((grid0.coords t) 0).val)).toNat] S1.size h) h1 = entry m t := by
  unfold entry
  have e : ((grid0.coords t) 0).val = t.val := co0 t
  have ht : t.val < 36 := t.isLt
  show tbl0 m 0 _ = tbl0 m 0 _
  congr 1
  funext a
  apply Fin.ext
  match a with
  | ⟨0, _⟩ =>
    show (Scalar.indexCast (BitVec.ofNat 32 ((grid0.coords t) 0).val)).toNat + 1 * (Shape.Idx.first (s := S1) (h1.symm ▸ Nat.one_pos) 0).val = t.val
    have h0 : (Shape.Idx.first (s := S1) (h1.symm ▸ Nat.one_pos) 0).val < 1 := (Shape.Idx.first (s := S1) (h1.symm ▸ Nat.one_pos) 0).isLt
    have h2 : (Scalar.indexCast (BitVec.ofNat 32 ((grid0.coords t) 0).val)).toNat = t.val := by
      rw [e]
      show (BitVec.ofNat 32 t.val).toNat = t.val
      rw [BitVec.toNat_ofNat]
      omega
    omega

theorem idx0_2 (t : Fin grid0.N) : cc0_transform_2 k0_off1_inb numel1_S1 (tbl0 m) (grid0.coords t) = ![(entry m t).toNat, 0, 0] := by
  unfold cc0_transform_2
  rw [← entry_at m t]
  rfl
theorem idx0_3 (t : Fin grid0.N) : cc0_transform_3 k0_off1_inb numel1_S1 (tbl0 m) (grid0.coords t) = ![(entry m t).toNat, 0, 0] := by
  unfold cc0_transform_3
  rw [← entry_at m t]
  rfl
theorem idx0_4 (t : Fin grid0.N) : cc0_transform_4 k0_off1_inb numel1_S1 (tbl0 m) (grid0.coords t) = ![(entry m t).toNat, 0, 0] := by
  unfold cc0_transform_4
  rw [← entry_at m t]
  rfl

/-- The group of tile `t`. -/
def groupOf (t : Fin 36) : Fin 4 := ⟨(entry m t).toNat % 4, Nat.mod_lt _ (by decide)⟩

/-- Every entry of the table is a group. -/
def Groups : Prop := ∀ t : Fin 36, (entry m t).toNat < 4

theorem groupOf_val (hG : Groups m) (t : Fin 36) : (groupOf m t).val = (entry m t).toNat := Nat.mod_eq_of_lt (hG t)

/-! ## The first call's blocks -/

section First
variable (hO : Ok m)

abbrev xsB (c : Dev nD) (t : Fin (cfgA m hO).N) : Vec Ideal S512x512 .i32 := iblk0 m hO c 0 t
abbrev recB (c : Dev nD) (t : Fin (cfgA m hO).N) : Vec Ideal S512x128 .f32 := iblk0 m hO c 1 t
abbrev wgB (c : Dev nD) (t : Fin (cfgA m hO).N) : Vec Ideal S8x1024x256 .bf16 := iblk0 m hO c 2 t
abbrev wuB (c : Dev nD) (t : Fin (cfgA m hO).N) : Vec Ideal S8x1024x256 .bf16 := iblk0 m hO c 3 t
abbrev wdB (c : Dev nD) (t : Fin (cfgA m hO).N) : Vec Ideal S1x2048x1024 .bf16 := iblk0 m hO c 4 t

/-- The arguments, at their shapes. -/
abbrev posA (c : Dev nD) : Vec Ideal S16384 .i32 := m ((c : Thread nD τ).loc main_arg0)
abbrev xsA (c : Dev nD) : Vec Ideal S18432x512 .i32 := m ((c : Thread nD τ).loc main_arg2)
abbrev recA (c : Dev nD) : Vec Ideal S18432x128 .f32 := m ((c : Thread nD τ).loc main_arg3)
abbrev wgA (c : Dev nD) : Vec Ideal S32x1024x256 .f32 := m ((c : Thread nD τ).loc main_arg4)
abbrev wuA (c : Dev nD) : Vec Ideal S32x1024x256 .f32 := m ((c : Thread nD τ).loc main_arg5)
abbrev wdA (c : Dev nD) : Vec Ideal S32x256x1024 .f32 := m ((c : Thread nD τ).loc main_arg6)
abbrev x1A (c : Dev nD) : Vec Ideal S16384x1024 .f32 := m ((c : Thread nD τ).loc main_arg7)
abbrev gA (c : Dev nD) : Vec Ideal S1024 .f32 := m ((c : Thread nD τ).loc main_arg8)

theorem xsB_at (c : Dev nD) (t : Fin (cfgA m hO).N) (r l : Fin 512) (n : Fin 18432) (hn : n.val = t.val * 512 + r.val) :
    xsB m hO c t (ix2 r l) = xsA m c (ix2 n l) := by
  show V1 m c main_arg2 _ = _
  rw [V1_of m c _ (by decide)]
  show m ((c : Thread nD τ).loc main_arg2) _ = _
  congr 1
  funext a
  apply Fin.ext
  match a with
  | ⟨0, _⟩ => show cc0_transform_0 (grid0.coords t) 0 * 512 + 1 * r.val = n.val; rw [idx0_0]; show t.val * 512 + 1 * r.val = n.val; omega
  | ⟨1, _⟩ => show cc0_transform_0 (grid0.coords t) 1 * 512 + 1 * l.val = l.val; rw [idx0_0]; show 0 * 512 + 1 * l.val = l.val; omega

theorem recB_at (c : Dev nD) (t : Fin (cfgA m hO).N) (r : Fin 512) (l : Fin 128) (n : Fin 18432) (hn : n.val = t.val * 512 + r.val) :
    recB m hO c t (ix2 r l) = recA m c (ix2 n l) := by
  show V1 m c main_arg3 _ = _
  rw [V1_of m c _ (by decide)]
  show m ((c : Thread nD τ).loc main_arg3) _ = _
  congr 1
  funext a
  apply Fin.ext
  match a with
  | ⟨0, _⟩ => show cc0_transform_1 (grid0.coords t) 0 * 512 + 1 * r.val = n.val; rw [idx0_1]; show t.val * 512 + 1 * r.val = n.val; omega
  | ⟨1, _⟩ => show cc0_transform_1 (grid0.coords t) 1 * 128 + 1 * l.val = l.val; rw [idx0_1]; show 0 * 128 + 1 * l.val = l.val; omega

theorem V1_wg (c : Dev nD) : V1 m c main_v0 = (truncf .bf16 (wgA m c) bitsLt_bf16_f32 : FVec Ideal S32x1024x256 .bf16) := by
  unfold V1; after_results_simp <;> rfl
theorem V1_wu (c : Dev nD) : V1 m c main_v1 = (truncf .bf16 (wuA m c) bitsLt_bf16_f32 : FVec Ideal S32x1024x256 .bf16) := by
  unfold V1; after_results_simp <;> rfl
theorem V1_wd (c : Dev nD) : V1 m c main_v3
    = (shapeCast S4x2048x1024 (truncf .bf16 (wdA m c) bitsLt_bf16_f32 : FVec Ideal S32x256x1024 .bf16) shapeCasts_S32x256x1024_S4x2048x1024 : FVec Ideal S4x2048x1024 .bf16) := by
  unfold V1; after_results_simp <;> rfl

theorem wgB_at (hG : Groups m) (c : Dev nD) (t : Fin (cfgA m hO).N) (e : Fin 8) (k : Fin 1024) (f : Fin 256) :
    wgB m hO c t (ix3 e k f) = wgA m c (ix3 (expertOf (groupOf m t) e) k f) := by
  show V1 m c main_v0 _ = _
  rw [V1_wg]
  show m ((c : Thread nD τ).loc main_arg4) _ = _
  congr 1
  have hg := groupOf_val m hG t
  funext a
  apply Fin.ext
  match a with
  | ⟨0, _⟩ =>
    show cc0_transform_2 k0_off1_inb numel1_S1 (tbl0 m) (grid0.coords t) 0 * 8 + 1 * e.val = 8 * (groupOf m t).val + e.val
    rw [idx0_2, hg]; show (entry m t).toNat * 8 + 1 * e.val = _; omega
  | ⟨1, _⟩ =>
    show cc0_transform_2 k0_off1_inb numel1_S1 (tbl0 m) (grid0.coords t) 1 * 1024 + 1 * k.val = k.val
    rw [idx0_2]; show 0 * 1024 + 1 * k.val = k.val; omega
  | ⟨2, _⟩ =>
    show cc0_transform_2 k0_off1_inb numel1_S1 (tbl0 m) (grid0.coords t) 2 * 256 + 1 * f.val = f.val
    rw [idx0_2]; show 0 * 256 + 1 * f.val = f.val; omega

theorem wuB_at (hG : Groups m) (c : Dev nD) (t : Fin (cfgA m hO).N) (e : Fin 8) (k : Fin 1024) (f : Fin 256) :
    wuB m hO c t (ix3 e k f) = wuA m c (ix3 (expertOf (groupOf m t) e) k f) := by
  show V1 m c main_v1 _ = _
  rw [V1_wu]
  show m ((c : Thread nD τ).loc main_arg5) _ = _
  congr 1
  have hg := groupOf_val m hG t
  funext a
  apply Fin.ext
  match a with
  | ⟨0, _⟩ =>
    show cc0_transform_3 k0_off1_inb numel1_S1 (tbl0 m) (grid0.coords t) 0 * 8 + 1 * e.val = 8 * (groupOf m t).val + e.val
    rw [idx0_3, hg]; show (entry m t).toNat * 8 + 1 * e.val = _; omega
  | ⟨1, _⟩ =>
    show cc0_transform_3 k0_off1_inb numel1_S1 (tbl0 m) (grid0.coords t) 1 * 1024 + 1 * k.val = k.val
    rw [idx0_3]; show 0 * 1024 + 1 * k.val = k.val; omega
  | ⟨2, _⟩ =>
    show cc0_transform_3 k0_off1_inb numel1_S1 (tbl0 m) (grid0.coords t) 2 * 256 + 1 * f.val = f.val
    rw [idx0_3]; show 0 * 256 + 1 * f.val = f.val; omega

/-- The last projections, the experts of a group side by side. -/
theorem stacked_at (w : FVec Ideal S32x256x1024 .bf16) (g : Fin 4) (e : Fin 8) (f : Fin 256) (k : Fin 1024) :
    shapeCast S4x2048x1024 w shapeCasts_S32x256x1024_S4x2048x1024 (ix3 g (colOf e f) k) = w (ix3 (expertOf g e) f k) := by
  unfold colOf expertOf
  pointwise []
  refine congrArg (fun q => w (ix3 q f k)) (Fin.ext ?_)
  show g.val * 8 + (256 * e.val + f.val) / 256 = 8 * g.val + e.val
  omega

theorem wdB_at (hG : Groups m) (c : Dev nD) (t : Fin (cfgA m hO).N) (e : Fin 8) (f : Fin 256) (k : Fin 1024) :
    wdB m hO c t (ix3 0 (colOf e f) k) = wdA m c (ix3 (expertOf (groupOf m t) e) f k) := by
  refine Eq.trans ?_ (stacked_at (truncf .bf16 (wdA m c) bitsLt_bf16_f32) (groupOf m t) e f k)
  show V1 m c main_v3 _ = _
  rw [V1_wd]
  congr 1
  have hg := groupOf_val m hG t
  funext a
  apply Fin.ext
  match a with
  | ⟨0, _⟩ =>
    show cc0_transform_4 k0_off1_inb numel1_S1 (tbl0 m) (grid0.coords t) 0 * 1 + 1 * 0 = (groupOf m t).val
    rw [idx0_4, hg]; show (entry m t).toNat * 1 + 1 * 0 = _; omega
  | ⟨1, _⟩ =>
    show cc0_transform_4 k0_off1_inb numel1_S1 (tbl0 m) (grid0.coords t) 1 * 2048 + 1 * (colOf e f).val = (colOf e f).val
    rw [idx0_4]; show 0 * 2048 + 1 * (colOf e f).val = _; omega
  | ⟨2, _⟩ =>
    show cc0_transform_4 k0_off1_inb numel1_S1 (tbl0 m) (grid0.coords t) 2 * 1024 + 1 * k.val = k.val
    rw [idx0_4]; show 0 * 1024 + 1 * k.val = k.val; omega

/-- The experts' row of a slot whose tile is group `g`'s, at one column. -/
def slotRow (xs : Vec Ideal S18432x512 .i32) (rec : Vec Ideal S18432x128 .f32) (wg wu : Vec Ideal S32x1024x256 .f32) (wd : Vec Ideal S32x256x1024 .f32)
    (g : Fin 4) (n : Fin 18432) (k : Fin 1024) : EReal :=
  ∑ e : Fin 8, ∑ f : Fin 256,
    hid (half fun l => xs (ix2 n l)) (fun k f => wg (ix3 (expertOf g e) k f)) (fun k f => wu (ix3 (expertOf g e) k f)) f
      * weightAt (fun q => rec (ix2 n q)) e * wd (ix3 (expertOf g e) f k)

/-- The column a half's position is. -/
def colAt (p : Fin 2) (l : Fin 512) : Fin 1024 := ⟨512 * p.val + l.val, by omega⟩

/-- The packed rows the first call leaves. -/
def packed (c : Dev nD) : Vec Ideal S18432x2x512 .bf16 := fun i =>
  slotRow (xsA m c) (recA m c) (wgA m c) (wuA m c) (wdA m c)
    (groupOf m ⟨(i 0).val / 512, by have h : (i 0).val < 18432 := (i 0).isLt; omega⟩) (i 0) (colAt (i 1) (i 2))

theorem left0_at (hG : Groups m) (c : Dev nD) (t : Fin (cfgA m hO).N) (r : Fin 512) (p : Fin 2) (l : Fin 512) (n : Fin 18432) (hn : n.val = t.val * 512 + r.val) :
    left0 m hO c t (ix3 r p l) = packed m c (ix3 n p l) := by
  refine (expertsBlock_at (xsB m hO c t) (recB m hO c t) (wgB m hO c t) (wuB m hO c t) (wdB m hO c t) r p l (colAt p l) rfl).trans ?_
  have ht : (⟨n.val / 512, by omega⟩ : Fin 36) = (t : Fin grid0.N) := Fin.ext (by show n.val / 512 = t.val; omega)
  show _ = slotRow _ _ _ _ _ (groupOf m ⟨n.val / 512, _⟩) n (colAt p l)
  rw [ht]
  unfold slotRow
  rw [sum_cols]
  refine Finset.sum_congr rfl fun e _ => Finset.sum_congr rfl fun f _ => ?_
  rw [hiddenBlock_at _ _ _ _ r e f (colOf e f) rfl, wdB_at m hO hG,
    show (fun l => xsB m hO c t (ix2 r l)) = fun l => xsA m c (ix2 n l) from funext fun l => xsB_at m hO c t r l n hn,
    show (fun q => recB m hO c t (ix2 r q)) = fun q => recA m c (ix2 n q) from funext fun q => recB_at m hO c t r q n hn,
    show (fun k f => wgB m hO c t (ix3 e k f)) = fun k f => wgA m c (ix3 (expertOf (groupOf m t) e) k f) from funext fun k => funext fun f => wgB_at m hO hG c t e k f,
    show (fun k f => wuB m hO c t (ix3 e k f)) = fun k f => wuA m c (ix3 (expertOf (groupOf m t) e) k f) from funext fun k => funext fun f => wuB_at m hO hG c t e k f]

/-- The packed rows' block is written back at every point. -/
theorem flush5 (t : Fin (cfgA m hO).N) : ((cfgA m hO).win 5).flush t = true := by
  have h : ∀ t : Fin grid0.N, Pipeline.Window.flushOf grid0 true cc0_transform_5 t = true := by decide +kernel
  exact h t

theorem flushed5_eq (hG : Groups m) (c : Dev nD) (t : Fin (cfgA m hO).N) :
    (dat0 m hO c).flushed 5 t = (((cfgA m hO).win 5).blk t).view.read (Elt Ideal) (packed m c) := by
  refine funext fun j : S512x2x512.Idx => ?_
  show left0 m hO c t j = packed m c _
  have hN : t.val < 36 := t.isLt
  have h0 : (j 0).val < 512 := (j 0).isLt
  refine (congrArg (left0 m hO c t) (eq_ix3 j)).trans ((left0_at m hO hG c t (j 0) (j 1) (j 2) ⟨t.val * 512 + (j 0).val, by omega⟩ rfl).trans (congrArg (packed m c) ?_))
  funext a
  apply Fin.ext
  match a with
  | ⟨0, _⟩ => show t.val * 512 + (j 0).val = cc0_transform_5 (grid0.coords t) 0 * 512 + 1 * (j 0).val; rw [idx0_5]; show _ = t.val * 512 + 1 * (j 0).val; omega
  | ⟨1, _⟩ => show (j 1).val = cc0_transform_5 (grid0.coords t) 1 * 2 + 1 * (j 1).val; rw [idx0_5]; show _ = 0 * 2 + 1 * (j 1).val; omega
  | ⟨2, _⟩ => show (j 2).val = cc0_transform_5 (grid0.coords t) 2 * 512 + 1 * (j 2).val; rw [idx0_5]; show _ = 0 * 512 + 1 * (j 2).val; omega

theorem final0 (hG : Groups m) (c : Dev nD) : (dat0 m hO c).arrAt 5 (cfgA m hO).N = packed m c := by
  refine (dat0 m hO c).arrAt_eq_of_cover 5 (packed m c) (fun t _ => flushed5_eq m hO hG c t) fun i : S18432x2x512.Idx => ?_
  have h0 : (i 0 : Nat) < 18432 := (i 0).isLt
  have h1 : (i 1 : Nat) < 2 := (i 1).isLt
  have h2 : (i 2 : Nat) < 512 := (i 2).isLt
  have ht : (i 0).val / 512 < 36 := by omega
  let t : Fin (cfgA m hO).N := (⟨(i 0).val / 512, ht⟩ : Fin grid0.N)
  refine ⟨t, flush5 m hO t, ?_⟩
  have hm : i ∈ (((cfgA m hO).win 5).rect t).set := by
    refine Rect.mem_set_unit.2 fun a => ?_
    match a with
    | ⟨0, _⟩ =>
      show cc0_transform_5 (grid0.coords t) 0 * 512 ≤ (i 0 : Nat) ∧ (i 0 : Nat) < cc0_transform_5 (grid0.coords t) 0 * 512 + 512
      rw [idx0_5]
      show (i 0).val / 512 * 512 ≤ (i 0 : Nat) ∧ (i 0 : Nat) < (i 0).val / 512 * 512 + 512
      omega
    | ⟨1, _⟩ =>
      show cc0_transform_5 (grid0.coords t) 1 * 2 ≤ (i 1 : Nat) ∧ (i 1 : Nat) < cc0_transform_5 (grid0.coords t) 1 * 2 + 2
      rw [idx0_5]
      show 0 * 2 ≤ (i 1 : Nat) ∧ (i 1 : Nat) < 0 * 2 + 2
      omega
    | ⟨2, _⟩ =>
      show cc0_transform_5 (grid0.coords t) 2 * 512 ≤ (i 2 : Nat) ∧ (i 2 : Nat) < cc0_transform_5 (grid0.coords t) 2 * 512 + 512
      rw [idx0_5]
      show 0 * 512 ≤ (i 2 : Nat) ∧ (i 2 : Nat) < 0 * 512 + 512
      omega
  exact (View.set_slice_whole main_v4 (((cfgA m hO).win 5).rect t)).symm ▸ hm

/-! ## The second call's blocks -/

abbrev oB (c : Dev nD) (t : Fin (cfgB m).N) : Vec Ideal S18432x2x512 .bf16 := iblk1 m (outsA m hO) c 0 t
abbrev x1B (c : Dev nD) (t : Fin (cfgB m).N) : Vec Ideal S1024x1024 .f32 := iblk1 m (outsA m hO) c 1 t
abbrev gB (c : Dev nD) (t : Fin (cfgB m).N) : Vec Ideal S1x1024 .f32 := iblk1 m (outsA m hO) c 2 t

theorem V3_packed (hG : Groups m) (c : Dev nD) : V3 m (outsA m hO) c main_v4 = packed m c := by
  rw [V3_of m (outsA m hO) c main_v4 (by decide), ← final0 m hO hG c]
  refine (Function.update_self (f := V1 m c) (Proc.devRef .tc main_v4) _).trans ?_
  exact Pipeline.afterRegion_arr (dat0 m hO c) (V1 m c) winFacts0.arr_inj 5

theorem oB_at (hG : Groups m) (c : Dev nD) (t : Fin (cfgB m).N) (s : Fin 18432) (p : Fin 2) (l : Fin 512) : oB m hO c t (ix3 s p l) = packed m c (ix3 s p l) := by
  show V3 m (outsA m hO) c main_v4 _ = _
  rw [V3_packed m hO hG]
  congr 1
  funext a
  apply Fin.ext
  match a with
  | ⟨0, _⟩ => show 0 * 18432 + 1 * s.val = s.val; omega
  | ⟨1, _⟩ => show 0 * 2 + 1 * p.val = p.val; omega
  | ⟨2, _⟩ => show 0 * 512 + 1 * l.val = l.val; omega

theorem x1B_at (c : Dev nD) (t : Fin (cfgB m).N) (r l : Fin 1024) (n : Fin 16384) (hn : n.val = t.val * 1024 + r.val) :
    x1B m hO c t (ix2 r l) = x1A m c (ix2 n l) := by
  show V3 m (outsA m hO) c main_arg7 _ = _
  rw [V3_of m (outsA m hO) c main_arg7 (by decide), V2_of m (outsA m hO) c main_arg7 (by decide), V1_of m c main_arg7 (by decide)]
  show m ((c : Thread nD τ).loc main_arg7) _ = _
  congr 1
  funext a
  apply Fin.ext
  match a with
  | ⟨0, _⟩ => show cc1_transform_1 (grid1.coords t) 0 * 1024 + 1 * r.val = n.val; rw [idx1_1]; show t.val * 1024 + 1 * r.val = n.val; omega
  | ⟨1, _⟩ => show cc1_transform_1 (grid1.coords t) 1 * 1024 + 1 * l.val = l.val; rw [idx1_1]; show 0 * 1024 + 1 * l.val = l.val; omega

theorem V3_scale (c : Dev nD) : V3 m (outsA m hO) c main_v5 = (broadcastInDim S1x1024 ![1] bcast_S1024_S1x1024_1 (gA m c) : FVec Ideal S1x1024 .f32) := by
  have h : V2 m (outsA m hO) c main_arg8 = m ((c : Thread nD τ).loc main_arg8) :=
    (V2_of m (outsA m hO) c main_arg8 (by decide)).trans (V1_of m c main_arg8 (by decide))
  show _ = broadcastInDim S1x1024 ![1] bcast_S1024_S1x1024_1 (m ((c : Thread nD τ).loc main_arg8))
  rw [← h]
  unfold V3
  generalize V2 m (outsA m hO) c = W
  after_results_simp <;> rfl

theorem gB_at (c : Dev nD) (t : Fin (cfgB m).N) (l : Fin 1024) : gB m hO c t (ix2 0 l) = gA m c (ix1 l) := by
  show V3 m (outsA m hO) c main_v5 _ = _
  rw [V3_scale]
  unfold broadcastInDim
  congr 1
  funext a
  apply Fin.ext
  match a with
  | ⟨0, _⟩ => show 0 * 1024 + 1 * l.val = l.val; omega

theorem tbl1_eq : tbl1 m 0 = posA m 0 := rfl

/-- One element of the result: the token's row with its slot's row added, normalised and scaled. -/
def outAt (c : Dev nD) (n : Fin 16384) (k : Fin 1024) : EReal :=
  normed (fun l => x1A m c (ix2 n l) + slotRow (xsA m c) (recA m c) (wgA m c) (wuA m c) (wdA m c)
    (groupOf m ⟨(posA m c (ix1 n)).toNat % 18432 / 512, by omega⟩) ⟨(posA m c (ix1 n)).toNat % 18432, Nat.mod_lt _ (by decide)⟩ l) (gA m c (ix1 k)) k

def outA (c : Dev nD) : Vec Ideal S16384x1024 .f32 := fun i => outAt m c (i 0) (i 1)

theorem left1_at (hG : Groups m) (c : Dev nD) (t : Fin (cfgB m).N) (r k : Fin 1024) (n : Fin 16384) (hn : n.val = t.val * 1024 + r.val) :
    left1 m (outsA m hO) c t (ix2 r k) = outAt m c n k := by
  obtain rfl : c = 0 := Subsingleton.elim _ _
  have e1 : tokIx (1024 * ((grid1.coords t) 0).val + r.val) = ix1 n := by
    funext a
    apply Fin.ext
    match a with
    | ⟨0, _⟩ => show (1024 * ((grid1.coords t) 0).val + r.val) % 16384 = n.val; rw [co1]; have := n.isLt; omega
  have hw : ∀ (p : Fin 2) (q : Fin 512), gathered (tbl1 m 0) (oB m hO 0 t) (grid1.coords t) (ix3 r p q)
      = packed m 0 (ix3 ⟨(posA m 0 (ix1 n)).toNat % 18432, Nat.mod_lt _ (by decide)⟩ p q) := fun p q => by
    show oB m hO 0 t (slotIx (posA m 0 (tokIx (1024 * ((grid1.coords t) 0).val + r.val))).toNat (ix3 r p q)) = _
    rw [e1]
    have e2 : slotIx (posA m 0 (ix1 n)).toNat (ix3 r p q) = ix3 ⟨(posA m 0 (ix1 n)).toNat % 18432, Nat.mod_lt _ (by decide)⟩ p q := by
      funext a
      apply Fin.ext
      match a with
      | ⟨0, _⟩ => rfl
      | ⟨1, _⟩ => rfl
      | ⟨2, _⟩ => rfl
    exact (congrArg (oB m hO 0 t) e2).trans (oB_at m hO hG 0 t _ p q)
  refine (outBlock_at (tbl1 m 0) (oB m hO 0 t) (x1B m hO 0 t) (gB m hO 0 t) (grid1.coords t) r k).trans ?_
  unfold outAt
  refine congrArg₂ (fun f g => normed f g k) (funext fun l => ?_) (gB_at m hO 0 t k)
  rw [hw, x1B_at m hO 0 t r l n hn]
  have hc : colAt ⟨l.val / 512, by omega⟩ ⟨l.val % 512, by omega⟩ = l := Fin.ext (by show 512 * (l.val / 512) + l.val % 512 = l.val; omega)
  show _ + slotRow _ _ _ _ _ _ _ (colAt ⟨l.val / 512, _⟩ ⟨l.val % 512, _⟩) = _
  rw [hc]
  rfl

theorem flush3 (t : Fin (cfgB (F := Ideal) m).N) : ((cfgB m).win 3).flush t = true := by
  have h : ∀ t : Fin grid1.N, Pipeline.Window.flushOf grid1 true cc1_transform_3 t = true := by decide +kernel
  exact h t

theorem flushed3_eq (hG : Groups m) (c : Dev nD) (t : Fin (cfgB m).N) :
    (datB m hO c).flushed 3 t = (((cfgB m).win 3).blk t).view.read (Elt Ideal) (outA m c) := by
  refine funext fun j : S1024x1024.Idx => ?_
  show left1 m (outsA m hO) c t j = outA m c _
  have hN : t.val < 16 := t.isLt
  have h0 : (j 0).val < 1024 := (j 0).isLt
  refine (congrArg (left1 m (outsA m hO) c t) (eq_ix2 j)).trans ((left1_at m hO hG c t (j 0) (j 1) ⟨t.val * 1024 + (j 0).val, by omega⟩ rfl).trans ?_)
  show outA m c (ix2 ⟨t.val * 1024 + (j 0).val, _⟩ (j 1)) = outA m c _
  refine congrArg (outA m c) ?_
  funext a
  apply Fin.ext
  match a with
  | ⟨0, _⟩ => show t.val * 1024 + (j 0).val = cc1_transform_3 (grid1.coords t) 0 * 1024 + 1 * (j 0).val; rw [idx1_3]; show _ = t.val * 1024 + 1 * (j 0).val; omega
  | ⟨1, _⟩ => show (j 1).val = cc1_transform_3 (grid1.coords t) 1 * 1024 + 1 * (j 1).val; rw [idx1_3]; show _ = 0 * 1024 + 1 * (j 1).val; omega

theorem final (hG : Groups m) (c : Dev nD) : (datB m hO c).arrAt 3 (cfgB m).N = outA m c := by
  refine (datB m hO c).arrAt_eq_of_cover 3 (outA m c) (fun t _ => flushed3_eq m hO hG c t) fun i : S16384x1024.Idx => ?_
  have h0 : (i 0 : Nat) < 16384 := (i 0).isLt
  have h1 : (i 1 : Nat) < 1024 := (i 1).isLt
  have ht : (i 0).val / 1024 < 16 := by omega
  let t : Fin (cfgB (F := Ideal) m).N := (⟨(i 0).val / 1024, ht⟩ : Fin grid1.N)
  refine ⟨t, flush3 m t, ?_⟩
  have hm : i ∈ (((cfgB m).win 3).rect t).set := by
    refine Rect.mem_set_unit.2 fun a => ?_
    match a with
    | ⟨0, _⟩ =>
      show cc1_transform_3 (grid1.coords t) 0 * 1024 ≤ (i 0 : Nat) ∧ (i 0 : Nat) < cc1_transform_3 (grid1.coords t) 0 * 1024 + 1024
      rw [idx1_3]
      show (i 0).val / 1024 * 1024 ≤ (i 0 : Nat) ∧ (i 0 : Nat) < (i 0).val / 1024 * 1024 + 1024
      omega
    | ⟨1, _⟩ =>
      show cc1_transform_3 (grid1.coords t) 1 * 1024 ≤ (i 1 : Nat) ∧ (i 1 : Nat) < cc1_transform_3 (grid1.coords t) 1 * 1024 + 1024
      rw [idx1_3]
      show 0 * 1024 ≤ (i 1 : Nat) ∧ (i 1 : Nat) < 0 * 1024 + 1024
      omega
  exact (View.set_slice_whole main_v6 (((cfgB m).win 3).rect t)).symm ▸ hm

end First

end Cert.Experts

end
-- ==== Proof.Experts.RefRows.lean ====
/- The second reference's result at one element, over the extended reals. -/
module

public import proofs.«01_k».proof.Proof.Gen.Reference2Ideal.Run
public import proofs.«01_k».proof.Proof.Experts.Rows
public import Idealize.ShloMosaic.Lib.Affine

@[expose] public section

noncomputable section

namespace Cert.Experts.Ref

open Cert.Reference2Ideal Cert.Reference2Ideal.Gen
open Idealize.ShloMosaic Idealize.ShloMosaic.TcCoe
open Cert.Gather (half normed)
open Cert.Experts
open scoped BigOperators

/-! ## Rows taken by number -/

/-- The widened rows, as the host builds them from the packed words. -/
def rows (o : Vec Ideal S18432x512 .i32) : FVec Ideal S18432x1024 .f32 :=
  extf .f32 (concatenate S18432x1024 1
    [⟨S18432x512, shapeCast _ (extractStridedSlice S18432x512x1 ![0, 0, 0] (bitcastToFloat (F := Ideal) .bf16
        (Host.bitcastConvertNarrow S18432x512x2 16 o splits_S18432x512_w32_S18432x512x2_w16)) slices_S18432x512x2_S18432x512x1_0_0_0)
        shapeCasts_S18432x512x1_S18432x512⟩,
      ⟨S18432x512, shapeCast _ (extractStridedSlice S18432x512x1 ![0, 0, 1] (bitcastToFloat (F := Ideal) .bf16
        (Host.bitcastConvertNarrow S18432x512x2 16 o splits_S18432x512_w32_S18432x512x2_w16)) slices_S18432x512x2_S18432x512x1_0_0_1)
        shapeCasts_S18432x512x1_S18432x512⟩] concatenates_S18432x512_S18432x512_S18432x1024_d1) bitsLt_bf16_f32

theorem rows_at (o : Vec Ideal S18432x512 .i32) (n : Fin 18432) (k : Fin 1024) : rows o (ix2 n k) = half (fun l => o (ix2 n l)) k :=
  Cert.Gather.refRows_at o n k

/-- The positions as the host's indexing normalises them. -/
def pos (p : Vec Ideal S16384 .i32) : IVec S16384x1 32 :=
  broadcastInDim S16384x1 ![0] bcast_S16384_S16384x1_0 (select (cmpi .slt p (broadcastInDim S16384 ![] bcast_S_S16384 (constantI S_ 32 0#32)))
    (addi p (broadcastInDim S16384 ![] bcast_S_S16384 (constantI S_ 32 18432#32))) p)

theorem pos_at (p : Vec Ideal S16384 .i32) (n : Fin 16384) (h : (p (ix1 n)).toNat < 18432) : pos p (ix2 n 0) = p (ix1 n) :=
  Cert.Gather.refPos_at p n h

/-- The rows at the positions. -/
def taken (p : Vec Ideal S16384 .i32) (o : Vec Ideal S18432x512 .i32) : FVec Ideal S16384x1024 .f32 :=
  Host.gather gather_S18432x1024_S16384x1_S16384x1024_1_0_n_n_0_1_11024 (rows o) (pos p)

theorem clamp {x : BitVec 32} {b : ℕ} (h : x.toNat ≤ b) (hb : b < 2 ^ 31) : min x.toInt.toNat b = x.toNat := by
  rw [BitVec.toInt_eq_toNat_cond]
  split <;> omega

theorem taken_at (p : Vec Ideal S16384 .i32) (o : Vec Ideal S18432x512 .i32) (n : Fin 16384) (k : Fin 1024) (h : (p (ix1 n)).toNat < 18432) :
    taken p o (ix2 n k) = half (fun l => o (ix2 ⟨(p (ix1 n)).toNat, h⟩ l)) k := by
  refine (Cert.Gather.take_at (rows o) (pos p) n k).trans ?_
  have e : min (pos p (ix2 n 0)).toInt.toNat 18431 = (p (ix1 n)).toNat := by
    rw [pos_at p n h]; exact clamp (by omega) (by omega)
  simp only [e]
  exact rows_at o _ k

/-- The printed dimension numbers of the indexing of the records. -/
abbrev DR := gather_S18432x128_S16384x1_S16384x128_1_0_n_n_0_1_1128

theorem takeRec_at {α : Type} (x : S18432x128.Idx → α) (idx : IVec S16384x1 32) (n : Fin 16384) (k : Fin 128) :
    Host.gather gather_S18432x128_S16384x1_S16384x128_1_0_n_n_0_1_1128 x idx (ix2 n k)
      = x (ix2 ⟨min (idx (ix2 n 0)).toInt.toNat 18431, by omega⟩ k) := by
  unfold Host.gather
  congr 1
  funext a
  refine Fin.ext ?_
  show DR.start (ix2 n k) idx a + DR.batchCoord (ix2 n k) a + DR.offCoord (ix2 n k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ DR.startIndexMap from List.mem_singleton.mpr rfl)]
    have hsi : DR.siIdx (ix2 n k) ⟨List.idxOf (0 : Fin 2) DR.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  · rw [GatherDims.batchCoord_eq_zero _ _ _ List.not_mem_nil]
    have hs : DR.start (ix2 n k) idx 1 = 0 := by
      unfold GatherDims.start
      rw [dif_neg (show (1 : Fin 2) ∉ DR.startIndexMap from by unfold DR gather_S18432x128_S16384x1_S16384x128_1_0_n_n_0_1_1128; decide)]
    have hk : (1 : Fin 2) ∈ DR.sKept := (GatherDims.mem_sKept _ _).mpr ⟨by unfold DR gather_S18432x128_S16384x1_S16384x128_1_0_n_n_0_1_1128; decide, List.not_mem_nil⟩
    rw [hs]
    unfold GatherDims.offCoord
    rw [dif_pos hk]
    simp only [Nat.zero_add]
    rfl

/-- The printed dimension numbers of the indexing of the tiles' groups. -/
abbrev DT := gather_S36_S16384x1_S16384_n_0_n_n_0_1_1

theorem takeGroup_at {α : Type} (x : S36.Idx → α) (idx : IVec S16384x1 32) (n : Fin 16384) :
    Host.gather gather_S36_S16384x1_S16384_n_0_n_n_0_1_1 x idx (ix1 n) = x (ix1 ⟨min (idx (ix2 n 0)).toInt.toNat 35, by omega⟩) := by
  unfold Host.gather
  congr 1
  funext a
  refine Fin.ext ?_
  show DT.start (ix1 n) idx a + DT.batchCoord (ix1 n) a + DT.offCoord (ix1 n) a = _
  have h0 : a = 0 := Subsingleton.elim (α := Fin 1) _ _
  subst h0
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ DT.startIndexMap from List.mem_singleton.mpr rfl)]
  have hsi : DT.siIdx (ix1 n) ⟨List.idxOf (0 : Fin 1) DT.startIndexMap,
      List.idxOf_lt_length_iff.2 (List.mem_singleton.mpr rfl)⟩ = ix2 n 0 := by
    funext b; refine Fin.ext ?_
    match b with
    | ⟨0, _⟩ => rfl
    | ⟨1, _⟩ => rfl
  rw [hsi]
  rfl

/-! ## The group of a token's tile -/

/-- 512, one to a token. -/
def tileSize : IVec S16384 32 := broadcastInDim S16384 ![] bcast_S_S16384 (id (constantI S_ 32 512#32))

/-- The tile a position lies in: the quotient by 512, rounded down. -/
def tile (p : Vec Ideal S16384 .i32) : IVec S16384 32 :=
  select (andi (cmpi .ne (signi p) (broadcastInDim S16384 ![] bcast_S_S16384 (signi (id (constantI S_ 32 512#32)))))
      (cmpi .ne (Host.remsi p tileSize) (broadcastInDim S16384 ![] bcast_S_S16384 (constantI S_ 32 0#32))))
    (subi (Host.divsi p tileSize) (broadcastInDim S16384 ![] bcast_S_S16384 (constantI S_ 32 1#32))) (Host.divsi p tileSize)

theorem div_word {x : BitVec 32} (h : x.toNat < 18432) : (IntOp.divsi .host x 512#32).toNat = x.toNat / 512 := by
  have hc : ¬ IntOp.SDivCorner x 512#32 := by unfold IntOp.SDivCorner; simp
  unfold IntOp.divsi
  rw [if_neg hc, BitVec.sdiv_eq, show x.msb = false from BitVec.msb_eq_false_iff_two_mul_lt.2 (by omega)]
  show (x / 512#32).toNat = _
  rw [BitVec.toNat_udiv]
  rfl

theorem tile_at (p : Vec Ideal S16384 .i32) (n : Fin 16384) (h : (p (ix1 n)).toNat < 18432) : (tile p (ix1 n)).toNat = (p (ix1 n)).toNat / 512 := by
  have hsg : signi (id (constantI S_ 32 512#32)) = fun _ => 1#32 := by
    funext i
    show (if (512#32 : BitVec 32) = 0 then (0 : BitVec 32) else if (512#32 : BitVec 32).msb then -1 else 1) = 1#32
    decide
  unfold tile
  rw [hsg]
  show (if IntOp.andi (IntOp.cmpi .ne (signi p (ix1 n)) 1#32) (IntOp.cmpi .ne (IntOp.remsi .host (p (ix1 n)) 512#32) 0#32) = 1#1
      then IntOp.subi (IntOp.divsi .host (p (ix1 n)) 512#32) 1#32 else IntOp.divsi .host (p (ix1 n)) 512#32 : BitVec 32).toNat = _
  rw [if_neg, div_word h]
  intro hc
  obtain ⟨h1, h2⟩ := IntOp.andi_eq_one.1 hc
  have h1 := IntOp.cmpi_ne.1 h1
  have h2 := IntOp.cmpi_ne.1 h2
  by_cases h0 : p (ix1 n) = 0
  · refine h2 ?_
    rw [h0]
    have hc : ¬ IntOp.SDivCorner (0 : BitVec 32) 512#32 := by unfold IntOp.SDivCorner; simp
    unfold IntOp.remsi
    rw [if_neg hc]
    decide
  · refine h1 ?_
    show (if p (ix1 n) = 0 then (0 : BitVec 32) else if (p (ix1 n)).msb then -1 else 1) = 1#32
    rw [if_neg h0, show (p (ix1 n)).msb = false from BitVec.msb_eq_false_iff_two_mul_lt.2 (by omega)]
    rfl

/-- The tiles as the host's indexing normalises them. -/
def tileIdx (p : Vec Ideal S16384 .i32) : IVec S16384x1 32 :=
  broadcastInDim S16384x1 ![0] bcast_S16384_S16384x1_0 (select (cmpi .slt (tile p) (broadcastInDim S16384 ![] bcast_S_S16384 (constantI S_ 32 0#32)))
    (addi (tile p) (broadcastInDim S16384 ![] bcast_S_S16384 (constantI S_ 32 36#32))) (tile p))

theorem tileIdx_at (p : Vec Ideal S16384 .i32) (n : Fin 16384) (h : (p (ix1 n)).toNat < 18432) : (tileIdx p (ix2 n 0)).toNat = (p (ix1 n)).toNat / 512 := by
  have ht := tile_at p n h
  have h0 : ¬ IntOp.cmpi .slt (tile p (ix1 n)) 0#32 = 1#1 := by
    rw [IntOp.cmpi_slt, BitVec.toInt_eq_toNat_cond]
    split <;> simp <;> omega
  rw [← ht]
  pointwise [tileIdx]
  exact congrArg BitVec.toNat (if_neg h0)

/-- Each token's group. -/
def group (p : Vec Ideal S16384 .i32) (t : Vec Ideal S36 .i32) : IVec S16384 32 :=
  Host.gather gather_S36_S16384x1_S16384_n_0_n_n_0_1_1 t (tileIdx p)

theorem group_at (p : Vec Ideal S16384 .i32) (t : Vec Ideal S36 .i32) (n : Fin 16384) (h : (p (ix1 n)).toNat < 18432) :
    group p t (ix1 n) = t (ix1 ⟨(p (ix1 n)).toNat / 512, by omega⟩) := by
  refine (takeGroup_at t (tileIdx p) n).trans ?_
  have ht := tileIdx_at p n h
  have e : min (tileIdx p (ix2 n 0)).toInt.toNat 35 = (p (ix1 n)).toNat / 512 := (clamp (by omega) (by omega)).trans ht
  simp only [e]

/-! ## The weights of the 32 experts -/

/-- Which group a token's is, as numbers. -/
def onehot (g : IVec S16384 32) : FVec Ideal S16384x4 .f32 :=
  uitofp .f32 (cmpi .eq (broadcastInDim S16384x4 ![0, 1] bcast_S16384x1_S16384x4_0_1 (broadcastInDim S16384x1 ![0] bcast_S16384_S16384x1_0 g))
    (broadcastInDim S16384x4 ![0, 1] bcast_S1x4_S16384x4_0_1 (iotaInDim S1x4 32 1)))

theorem onehot_at (g : IVec S16384 32) (n : Fin 16384) (a : Fin 4) : onehot g (ix2 n a) = if (g (ix1 n)).toNat = a.val then 1 else 0 := by
  pointwise [onehot]
  show ((((IntOp.cmpi .eq (g (ix1 n)) (BitVec.ofNat 32 a.val)).toNat : ℝ)) : EReal) = _
  have ha : (BitVec.ofNat 32 a.val).toNat = a.val := by rw [BitVec.toNat_ofNat]; omega
  by_cases h : (g (ix1 n)).toNat = a.val
  · rw [if_pos h, IntOp.cmpi_eq.2 (BitVec.eq_of_toNat_eq (h.trans ha.symm))]
    simp
  · have h0 : IntOp.cmpi .eq (g (ix1 n)) (BitVec.ofNat 32 a.val) = 0#1 := by
      refine (BitVec.eq_zero_or_eq_one _).resolve_right fun h1 => h ?_
      rw [IntOp.cmpi_eq.1 h1, ha]
    rw [if_neg h, h0]
    simp

/-- The records' weights of the experts of a group, at the positions. -/
def recs (p : Vec Ideal S16384 .i32) (r : Vec Ideal S18432x128 .f32) : FVec Ideal S16384x8 .f32 :=
  extractStridedSlice S16384x8 ![0, 0] (Host.gather gather_S18432x128_S16384x1_S16384x128_1_0_n_n_0_1_1128 r (pos p)) slices_S16384x128_S16384x8_0_0

theorem recs_at (p : Vec Ideal S16384 .i32) (r : Vec Ideal S18432x128 .f32) (n : Fin 16384) (e : Fin 8) (h : (p (ix1 n)).toNat < 18432) :
    recs p r (ix2 n e) = weightAt (fun q => r (ix2 ⟨(p (ix1 n)).toNat, h⟩ q)) e := by
  have e1 : recs p r (ix2 n e) = Host.gather gather_S18432x128_S16384x1_S16384x128_1_0_n_n_0_1_1128 r (pos p) (ix2 n ⟨e.val, by omega⟩) := by
    pointwise [recs]
    try rfl
  rw [e1, takeRec_at]
  have e2 : min (pos p (ix2 n 0)).toInt.toNat 18431 = (p (ix1 n)).toNat := by
    rw [pos_at p n h]; exact clamp (by omega) (by omega)
  simp only [e2]
  rfl

/-- Every expert's weight for every token. -/
def combine (oh : FVec Ideal S16384x4 .f32) (ew : FVec Ideal S16384x8 .f32) : FVec Ideal S16384x32 .f32 :=
  shapeCast _ (mulf (broadcastInDim S16384x4x8 ![0, 1, 2] bcast_S16384x4x1_S16384x4x8_0_1_2 (broadcastInDim S16384x4x1 ![0, 1] bcast_S16384x4_S16384x4x1_0_1 oh))
    (broadcastInDim S16384x4x8 ![0, 1, 2] bcast_S16384x1x8_S16384x4x8_0_1_2 (broadcastInDim S16384x1x8 ![0, 2] bcast_S16384x8_S16384x1x8_0_2 ew))) shapeCasts_S16384x4x8_S16384x32

theorem combine_at (oh : FVec Ideal S16384x4 .f32) (ew : FVec Ideal S16384x8 .f32) (n : Fin 16384) (q : Fin 32) :
    combine oh ew (ix2 n q) = oh (ix2 n ⟨q.val / 8, by omega⟩) * ew (ix2 n ⟨q.val % 8, by omega⟩) := by
  pointwise [combine]
  done

/-! ## The experts -/

/-- A projection of every token by every expert. -/
def proj (w : Vec Ideal S32x1024x256 .f32) (x : FVec Ideal S16384x1024 .f32) : FVec Ideal S32x16384x256 .f32 :=
  transpose S32x16384x256 [0, 2, 1] (Host.dotGeneral (φ₁ := .f32) dot_S32x1024x256_S16384x1024_S32x256x16384_1_1_02_0_n_n none w x) transposes_S32x256x16384_S32x16384x256_0_2_1

theorem proj_at (w : Vec Ideal S32x1024x256 .f32) (x : FVec Ideal S16384x1024 .f32) (q : Fin 32) (n : Fin 16384) (f : Fin 256) :
    proj w x (ix3 q n f) = dotRow (fun k => x (ix2 n k)) (fun k => w (ix3 q k f)) := by
  unfold dotRow
  pointwise [proj]
  try exact Finset.sum_congr rfl fun k _ => mul_comm _ _

/-- The gated products. -/
def gate (g u : FVec Ideal S32x16384x256 .f32) : FVec Ideal S32x16384x256 .f32 :=
  mulf (mulf g (Host.divf (broadcastInDim S32x16384x256 ![] bcast_S_S32x16384x256 (constant S_ .f32 0x3F800000#32))
    (addf (broadcastInDim S32x16384x256 ![] bcast_S_S32x16384x256 (constant S_ .f32 0x3F800000#32)) (Host.exp (Host.negf g))))) u

theorem gate_at (g u : FVec Ideal S32x16384x256 .f32) (q : Fin 32) (n : Fin 16384) (f : Fin 256) :
    gate g u (ix3 q n f) = gated (g (ix3 q n f)) (u (ix3 q n f)) := by
  unfold gated
  pointwise [gate]
  rfl

/-- Each expert's output for each token, weighted, summed. -/
def mixed (cw : FVec Ideal S16384x32 .f32) (h : FVec Ideal S32x16384x256 .f32) (wd : Vec Ideal S32x256x1024 .f32) : FVec Ideal S16384x1024 .f32 :=
  Host.reduceAdd (mulf (broadcastInDim S32x16384x1024 ![0, 1, 2] bcast_S32x16384x1_S32x16384x1024_0_1_2
      (broadcastInDim S32x16384x1 ![0, 1] bcast_S32x16384_S32x16384x1_0_1 (transpose S32x16384 [1, 0] cw transposes_S16384x32_S32x16384_1_0)))
    (Host.dotGeneral (φ₂ := .f32) dot_S32x16384x256_S32x256x1024_S32x16384x1024_2_1_1_2_0_0 none h wd)) (constant S_ .f32 0x00000000#32)
    reducesTo_S32x16384x1024_S16384x1024_d0 h_S_

theorem mixed_at (cw : FVec Ideal S16384x32 .f32) (h : FVec Ideal S32x16384x256 .f32) (wd : Vec Ideal S32x256x1024 .f32) (n : Fin 16384) (k : Fin 1024) :
    mixed cw h wd (ix2 n k) = ∑ q : Fin 32, cw (ix2 n q) * ∑ f : Fin 256, h (ix3 q n f) * wd (ix3 q f k) := by
  pointwise [mixed]
  done

/-- The reference's normalisation. -/
def norm (x : FVec Ideal S16384x1024 .f32) (g : Vec Ideal S1024 .f32) : FVec Ideal S16384x1024 .f32 :=
  mulf (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem norm_at (x : FVec Ideal S16384x1024 .f32) (g : Vec Ideal S1024 .f32) (n : Fin 16384) (k : Fin 1024) :
    norm x g (ix2 n k) = normed (fun l => x (ix2 n l)) (g (ix1 k)) k := Cert.Gather.refNorm_at x g n k

variable (m : (ℓ : Idealize.ShloMosaic.Loc nD τ sig) → Buf (Elt Ideal) ℓ) (c : Dev nD)

/-- The reference of its arguments. -/
def result (p : Vec Ideal S16384 .i32) (t : Vec Ideal S36 .i32) (o : Vec Ideal S18432x512 .i32) (r : Vec Ideal S18432x128 .f32)
    (wg wu : Vec Ideal S32x1024x256 .f32) (wd : Vec Ideal S32x256x1024 .f32) (x1 : Vec Ideal S16384x1024 .f32) (g : Vec Ideal S1024 .f32) : FVec Ideal S16384x1024 .f32 :=
  norm (addf x1 (mixed (combine (onehot (group p t)) (recs p r)) (gate (proj wg (taken p o)) (proj wu (taken p o))) wd)) g

set_option maxRecDepth 16384 in
theorem res_eq : Value.res_main_v62 m c
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := rfl

end Cert.Experts.Ref

end
-- ==== Proof.Experts.Equal.lean ====
/- The two calls' result is the reference's: what the kernel weighs, one hidden column at a time, the reference weighs one expert at a time. -/
module

public import proofs.«01_k».proof.Proof.Experts.Value
public import proofs.«01_k».proof.Proof.Experts.RefRows

@[expose] public section

noncomputable section

namespace Cert.Experts

open Cert.Kernel2Ideal Cert.Kernel2Ideal.Gen
open Idealize.ShloMosaic Idealize.ShloMosaic.TcCoe
open Cert.Gather (half normed)
open scoped BigOperators

/-- The reference's sum of a token's weighted experts is its slot's row. -/
theorem mixed_eq (p : Vec Ideal S16384 .i32) (t : Vec Ideal S36 .i32) (o : Vec Ideal S18432x512 .i32) (r : Vec Ideal S18432x128 .f32)
    (wg wu : Vec Ideal S32x1024x256 .f32) (wd : Vec Ideal S32x256x1024 .f32) (n : Fin 16384) (k : Fin 1024)
    (h : (p (ix1 n)).toNat < 18432) (tg : Fin 4) (htg : (t (ix1 ⟨(p (ix1 n)).toNat / 512, by omega⟩)).toNat = tg.val)
    (h0 : ∀ (s : Fin 18432) (e : Fin 8), 0 ≤ weightAt (fun q => r (ix2 s q)) e) (h1 : ∀ (s : Fin 18432) (e : Fin 8), weightAt (fun q => r (ix2 s q)) e ≠ ⊤) :
    Ref.mixed (Ref.combine (Ref.onehot (Ref.group p t)) (Ref.recs p r)) (Ref.gate (Ref.proj wg (Ref.taken p o)) (Ref.proj wu (Ref.taken p o))) wd (ix2 n k)
      = slotRow o r wg wu wd tg ⟨(p (ix1 n)).toNat, h⟩ k := by
  rw [Ref.mixed_at]
  have hg : (Ref.group p t (ix1 n)).toNat = tg.val := by rw [Ref.group_at p t n h, htg]
  have hx : (fun k => Ref.taken p o (ix2 n k)) = half fun l => o (ix2 ⟨(p (ix1 n)).toNat, h⟩ l) := funext fun k => Ref.taken_at p o n k h
  refine (mix_eq tg _ (weightAt fun q => r (ix2 ⟨(p (ix1 n)).toNat, h⟩ q)) (fun g e => ?_) (h0 _) (h1 _) _ (fun q f => wd (ix3 q f k))).trans ?_
  · rw [Ref.combine_at, Ref.onehot_at, hg]
    have e1 : (⟨(expertOf g e).val / 8, by omega⟩ : Fin 4) = g := Fin.ext (by show (8 * g.val + e.val) / 8 = g.val; omega)
    have e2 : (⟨(expertOf g e).val % 8, by omega⟩ : Fin 8) = e := Fin.ext (by show (8 * g.val + e.val) % 8 = e.val; omega)
    rw [e1, e2, Ref.recs_at p r n e h]
  · unfold slotRow
    refine Finset.sum_congr rfl fun e _ => Finset.sum_congr rfl fun f _ => ?_
    rw [Ref.gate_at, Ref.proj_at, Ref.proj_at, hx]
    rfl

variable (m : (ℓ : Loc nD τ sig) → Buf (Elt Ideal) ℓ)

/-- The kernel's result, at positions and groups in range and weights that are finite and not negative, is the reference's of the same arguments. -/
theorem out_eq_ref (hpos : InRange m) (hG : Groups m) (c : Dev nD)
    (h0 : ∀ (s : Fin 18432) (e : Fin 8), 0 ≤ weightAt (fun q => recA m c (ix2 s q)) e) (h1 : ∀ (s : Fin 18432) (e : Fin 8), weightAt (fun q => recA m c (ix2 s q)) e ≠ ⊤) :
    outA m c = Ref.result (posA m c) (m ((c : Thread nD τ).loc main_arg1)) (xsA m c) (recA m c) (wgA m c) (wuA m c) (wdA m c) (x1A m c) (gA m c) := by
  obtain rfl : c = 0 := Subsingleton.elim _ _
  refine funext fun i : S16384x1024.Idx => ?_
  refine Eq.trans ?_ (congrArg (Ref.result _ _ _ _ _ _ _ _ _) (eq_ix2 i)).symm
  show outAt m 0 (i 0) (i 1) = _
  generalize (i 0 : Fin 16384) = n
  generalize (i 1 : Fin 1024) = k
  have hp : (posA m 0 (ix1 n)).toNat < 18432 := hpos (ix1 n)
  unfold Ref.result
  refine Eq.trans ?_ (Ref.norm_at _ _ n k).symm
  unfold outAt
  refine congrArg (fun f => normed f (gA m 0 (ix1 k)) k) (funext fun l => ?_)
  refine congrArg (fun y => x1A m 0 (ix2 n l) + y) ?_
  have hs : (⟨(posA m 0 (ix1 n)).toNat % 18432, Nat.mod_lt _ (by decide)⟩ : Fin 18432) = ⟨(posA m 0 (ix1 n)).toNat, hp⟩ := Fin.ext (Nat.mod_eq_of_lt hp)
  have ht : (⟨(posA m 0 (ix1 n)).toNat % 18432 / 512, by omega⟩ : Fin 36) = ⟨(posA m 0 (ix1 n)).toNat / 512, by omega⟩ :=
    Fin.ext (by show (posA m 0 (ix1 n)).toNat % 18432 / 512 = (posA m 0 (ix1 n)).toNat / 512; rw [Nat.mod_eq_of_lt hp])
  rw [hs, ht]
  exact (mixed_eq _ _ _ _ _ _ _ n l hp (groupOf m _) (groupOf_val m hG _).symm h0 h1).symm

end Cert.Experts

end
-- ==== Proof.ExpertsBits.Loop.lean ====
/- The gathering loop of the combine call, its rows packed words: what the scratch holds after each trip, for any bit patterns. -/
module

public import proofs.«01_k».proof.Proof.Gen.Kernel2.Loops
public import proofs.«01_k».proof.Proof.Gen.Kernel2.Regions
public import Idealize.ShloMosaic.Lib.Pipeline.FrameBody
public import Idealize.ShloMosaic.Lib.Pipeline.Value
public import Idealize.ShloMosaic.Lib.WordCmp
public import Idealize.ShloMosaic.Lib.WritesUnit
public import Idealize.ShloMosaic.Lib.WholeRead
public import Idealize.ShloMosaic.Lib.Pipeline.ValueKit

@[expose] public section

set_option maxRecDepth 16384

noncomputable section

namespace Cert.ExpertsBits

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The table of positions and the scratch, as the memrefs the body is handed. -/
abbrev tbM : Memref sig .tc .smem S16384 .i32 := Memref.whole main_arg0
abbrev htbM : tbM.IsWhole := Memref.isWhole_whole _
abbrev scM : Memref sig .tc .vmem S1024x512 .i32 := Memref.whole cc1_scratch0
abbrev hscM : scM.IsWhole := Memref.isWhole_whole _

/-- A table on core `c`: its contents, and it held at those contents. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- The scratch on core `c`, in the same way. -/
abbrev ScBuf (c : Dev nD) {S : Shape} {e : EltTy} (M : Memref sig .tc .vmem S e) : Type := Buf (Elt F) (M.view.loc (c : Thread nD τ))
abbrev scPt (c : Dev nD) {S : Shape} {e : EltTy} (M : Memref sig .tc .vmem S e) (f : ScBuf (F := F) c M) : sProp 𝕄 :=
  M.view.loc (c : Thread nD τ) ↦{fullShare} f

/-- The place of token `n` in the table. -/
def tokIx (n : ℕ) : S16384.Idx := fun | ⟨0, _⟩ => ⟨n % 16384, Nat.mod_lt _ (by decide)⟩
/-- The place in slot `s` that `j` has in its own row. -/
def slotIx (s : ℕ) (j : S1024x512.Idx) : S18432x512.Idx :=
  fun | ⟨0, _⟩ => ⟨s % 18432, Nat.mod_lt _ (by decide)⟩ | ⟨1, _⟩ => j 1
/-- The same place in a row by itself. -/
def rowIx (j : S1024x512.Idx) : S1x512.Idx := fun | ⟨0, _⟩ => (0 : Fin 1) | ⟨1, _⟩ => j 1

/-- The rows gathered at grid point `i`: row `r` is the slot the table names for token `1024 i + r`. -/
def gathered (tb : Vec F S16384 .i32) (o : Vec F S18432x512 .i32) (i : grid1.Coords) : Vec F S1024x512 .i32 :=
  fun j => o (slotIx (tb (tokIx (1024 * (i 0).val + (j 0).val)) : BitVec 32).toNat j)

/-- A row of the slots below the last is in bounds. -/
theorem row_inb (v : BitVec 32) (h : v.toNat < 18432) : ∀ a, (![v.toNat, 0] : Fin 2 → ℕ) a + S1x512.size a ≤ S18432x512.size a := by
  intro a
  match a with
  | ⟨0, _⟩ => show v.toNat + 1 ≤ 18432; omega
  | ⟨1, _⟩ => show 0 + 512 ≤ 512; omega

/-- A word of the table, loaded at token `n`. -/
theorem word_eq (c : Dev nD) (tb : TbBuf (F := F) c tbM) {off : Fin 1 → ℕ} {n : ℕ} (hoff : off = ![n]) (hn : n < 16384)
    (inb : ∀ a, off a + S1.size a ≤ S16384.size a) (y : S1.Idx) :
    View.readAt (Elt F) tbM.view (Rect.unit (s := S16384) off S1.size inb).toLoadRect tb y = tb (tokIx n) := by
  subst hoff
  refine congrArg tb (funext fun a => Fin.ext ?_)
  match a with
  | ⟨0, _⟩ =>
    have hy : (y 0).val < 1 := (y 0).isLt
    show n + 1 * (y 0).val = n % 16384
    rw [Nat.mod_eq_of_lt hn]; omega

/-- A row of the slots, loaded at slot `v`. -/
theorem row_eq {arg2 : Memref sig .tc .vmem S18432x512 .i32} (harg2 : arg2.IsWhole) (o : Vec F S18432x512 .i32) {v w : BitVec 32}
    (hv : v.toNat < 18432) (hw : v = w) {off : Fin 2 → ℕ} (hoff : off = ![v.toNat, 0]) (inb : ∀ a, off a + S1x512.size a ≤ S18432x512.size a)
    (j : S1024x512.Idx) :
    View.readAt (Elt F) arg2.view (Rect.unit (s := S18432x512) off S1x512.size inb).toLoadRect (harg2.unread o) (rowIx j) = o (slotIx w.toNat j) := by
  subst hoff hw
  refine (harg2.readAt_unread o (Rect.unit (s := S18432x512) ![v.toNat, 0] S1x512.size inb).toLoadRect (rowIx j)).trans (congrArg o (funext fun a => Fin.ext ?_))
  match a with
  | ⟨0, _⟩ =>
    show v.toNat + 1 * 0 = v.toNat % 18432
    rw [Nat.mod_eq_of_lt hv]; omega
  | ⟨1, _⟩ => show 0 + 1 * (j 1).val = (j 1).val; omega

/-- The scratch is read as it lies. -/
theorem read_sc (c : Dev nD) (f : ScBuf (F := F) c scM) (j : S1024x512.Idx) : f j = scM.view.read (Elt F) f j := rfl

/-- The scratch after the store of a row: at that row the row stored, elsewhere what the stores before left. -/
theorem written (c : Dev nD) (f : ScBuf (F := F) c scM) (L : List (View.Piece (Elt F) S1024x512 .i32)) (w : Vec F S1x512 .i32)
    {off : Fin 2 → ℕ} {n : ℕ} (hoff : off = ![n, 0])
    (inb : ∀ a, off a + S1x512.size a ≤ S1024x512.size a) (j : S1024x512.Idx) {v : Elt F .i32}
    (h : (j 0).val = n → w (rowIx j) = v) (h' : (j 0).val ≠ n → scM.view.writes (Elt F) f L j = v) :
    scM.view.writes (Elt F) f (⟨Rect.unit (s := S1024x512) off S1x512.size inb, w⟩ :: L) j = v := by
  by_cases hn : (j 0).val = n
  · refine ((read_sc c _ j).trans <| View.read_writes_cons_unit_of_mem scM.view f (s := S1024x512) inb w L j (rowIx j) hoff fun a => ?_).trans (h hn)
    match a with
    | ⟨0, _⟩ => exact hn
    | ⟨1, _⟩ => show (j 1).val = 0 + (j 1).val; omega
  · refine ((read_sc c _ j).trans <| View.read_writes_cons_unit_of_not_mem scM.view f (s := S1024x512) inb w L j hoff 0 ?_).trans (h' hn)
    show (j 0).val < n ∨ n + 1 ≤ (j 0).val
    omega

/-- A row stored is the row loaded. -/
theorem row_self (v : Vec F S1x512 .i32) : shapeCast S1x512 (shapeCast S1x512 v shapeCasts_S1x512_S1x512) shapeCasts_S1x512_S1x512 = v := by
  rw [shapeCast_self, shapeCast_self]

/-- So it is with each of a trip's eight rows. -/
theorem row_0 (v : Vec F S1x512 .i32) : k1_pay2 v = v := row_self v
theorem row_1 (v : Vec F S1x512 .i32) : k1_pay3 v = v := row_self v
theorem row_2 (v : Vec F S1x512 .i32) : k1_pay4 v = v := row_self v
theorem row_3 (v : Vec F S1x512 .i32) : k1_pay5 v = v := row_self v
theorem row_4 (v : Vec F S1x512 .i32) : k1_pay6 v = v := row_self v
theorem row_5 (v : Vec F S1x512 .i32) : k1_pay7 v = v := row_self v
theorem row_6 (v : Vec F S1x512 .i32) : k1_pay8 v = v := row_self v
theorem row_7 (v : Vec F S1x512 .i32) : k1_pay9 v = v := row_self v

/-- The gathered row, its token counted from the trip's first. -/
theorem gathered_row (tb : Vec F S16384 .i32) (o : Vec F S18432x512 .i32) (i : grid1.Coords) (j : S1024x512.Idx) {b n : ℕ}
    (h : (j 0).val = n) (e : 1024 * (i 0).val + n = b) :
    gathered tb o i j = o (slotIx (tb (tokIx b) : BitVec 32).toNat j) := by
  subst e h; rfl

/-- The loop: before trip `k` the first `8 k` rows of the scratch are gathered. -/
@[sl_loop, instance_reducible] def gatherLoop (c : Dev nD) (i : grid1.Coords)
    (arg2 : Memref sig .tc .vmem S18432x512 .i32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (arg0 : BitVec 32) (tb : TbBuf (F := F) c tbM) (hpos : ∀ j : S16384.Idx, (tb j : BitVec 32).toNat < 18432) (o : Vec F S18432x512 .i32) :
    LoopInvTy_k1_t1 (F := F) Unit ℕ (UR sig nD τ) ℕ Variants.none c none Set.univ i tbM htbM arg2 harg2 arg3 harg3 arg4 harg4 arg5 harg5 scM hscM arg0 where
  inv := fun k _ => iprop(tbPt c tbM tb ∗ (arg2.view.loc (c : Thread nD τ) ↦[arg2.view.set]{fullShare} (harg2.unread o)) ∗
    ∃ f : ScBuf (F := F) c scM, scPt c scM f ∗ ⌜∀ j : S1024x512.Idx, (j 0).val < 8 * k → f j = gathered tb o i j⌝)
  step := fun k acc => by
    unfold k1_t1_body
    simp only [k1_part1_eq_skeleton, k1_part2_eq_skeleton, k1_part3_eq_skeleton]
    unfold k1_part1_skel k1_part2_skel k1_part3_skel
    iintro ⟨HT, HO, %f, HS, %hf⟩
    sl_exec (disch := (first | exact row_inb _ (hpos _)))
    sl_step
    isplitl [HT]; · iexact HT
    isplitl [HO]; · iexact HO
    iexists _
    isplitl [HS]; · iexact HS
    ipureintro
    intro j hj
    have hi : (i 0).val < 16 := (i 0).isLt
    have hk : k.val < 128 := k.isLt
    refine written c f _ _ (k1_off24_eq k) _ j (fun e => ?_) fun h7 => ?_
    · refine (congrFun (row_7 (F := F) _) (rowIx j)).trans ?_
      rw [gathered_row (F := F) tb o i j e (b := 1024 * (i 0).val + 8 * k.val + 7) (by omega)]
      exact row_eq harg2 o (hpos _) (word_eq c tb (k1_off22_eq i k) (by omega) _ _) rfl _ j
    refine written c f _ _ (k1_off21_eq k) _ j (fun e => ?_) fun h6 => ?_
    · refine (congrFun (row_6 (F := F) _) (rowIx j)).trans ?_
      rw [gathered_row (F := F) tb o i j e (b := 1024 * (i 0).val + 8 * k.val + 6) (by omega)]
      exact row_eq harg2 o (hpos _) (word_eq c tb (k1_off19_eq i k) (by omega) _ _) rfl _ j
    refine written c f _ _ (k1_off18_eq k) _ j (fun e => ?_) fun h5 => ?_
    · refine (congrFun (row_5 (F := F) _) (rowIx j)).trans ?_
      rw [gathered_row (F := F) tb o i j e (b := 1024 * (i 0).val + 8 * k.val + 5) (by omega)]
      exact row_eq harg2 o (hpos _) (word_eq c tb (k1_off16_eq i k) (by omega) _ _) rfl _ j
    refine written c f _ _ (k1_off15_eq k) _ j (fun e => ?_) fun h4 => ?_
    · refine (congrFun (row_4 (F := F) _) (rowIx j)).trans ?_
      rw [gathered_row (F := F) tb o i j e (b := 1024 * (i 0).val + 8 * k.val + 4) (by omega)]
      exact row_eq harg2 o (hpos _) (word_eq c tb (k1_off13_eq i k) (by omega) _ _) rfl _ j
    refine written c f _ _ (k1_off12_eq k) _ j (fun e => ?_) fun h3 => ?_
    · refine (congrFun (row_3 (F := F) _) (rowIx j)).trans ?_
      rw [gathered_row (F := F) tb o i j e (b := 1024 * (i 0).val + 8 * k.val + 3) (by omega)]
      exact row_eq harg2 o (hpos _) (word_eq c tb (k1_off10_eq i k) (by omega) _ _) rfl _ j
    refine written c f _ _ (k1_off9_eq k) _ j (fun e => ?_) fun h2 => ?_
    · refine (congrFun (row_2 (F := F) _) (rowIx j)).trans ?_
      rw [gathered_row (F := F) tb o i j e (b := 1024 * (i 0).val + 8 * k.val + 2) (by omega)]
      exact row_eq harg2 o (hpos _) (word_eq c tb (k1_off7_eq i k) (by omega) _ _) rfl _ j
    refine written c f _ _ (k1_off6_eq k) _ j (fun e => ?_) fun h1 => ?_
    · refine (congrFun (row_1 (F := F) _) (rowIx j)).trans ?_
      rw [gathered_row (F := F) tb o i j e (b := 1024 * (i 0).val + 8 * k.val + 1) (by omega)]
      exact row_eq harg2 o (hpos _) (word_eq c tb (k1_off4_eq i k) (by omega) _ _) rfl _ j
    refine written c f _ _ (k1_off3_eq k) _ j (fun e => ?_) fun h0 => ?_
    · refine (congrFun (row_0 (F := F) _) (rowIx j)).trans ?_
      rw [gathered_row (F := F) tb o i j e (b := 1024 * (i 0).val + 8 * k.val) (by omega)]
      exact row_eq harg2 o (hpos _) (word_eq c tb (k1_off1_eq i k) (by omega) _ _) rfl _ j
    exact hf j (by omega)

end Cert.ExpertsBits

end
-- ==== Proof.ExpertsBits.Body.lean ====
/- The bodies of the two calls at one grid point, for any bit patterns: from the blocks each is handed to the block it leaves. -/
module

public import proofs.«01_k».proof.Proof.ExpertsBits.Loop
public import Idealize.ShloMosaic.Lib.VecWindow

@[expose] public section

set_option maxRecDepth 16384

noncomputable section

namespace Cert.ExpertsBits

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

theorem zero2 : (![0, 0] : Fin 2 → ℕ) = fun _ => 0 := by funext a; fin_cases a <;> rfl
theorem zero3 : (![0, 0, 0] : Fin 3 → ℕ) = fun _ => 0 := by funext a; fin_cases a <;> rfl

/-! ## The experts of a group -/

/-- One expert's weights out of its group's. -/
abbrev expert (e : ℕ) (h : ∀ a, (![e, 0, 0] : Fin 3 → ℕ) a + S1x1024x256.size a ≤ S8x1024x256.size a) (w : Vec F S8x1024x256 .bf16) : Vec F S1x1024x256 .bf16 :=
  View.ld w (Rect.unit (s := S8x1024x256) ![e, 0, 0] S1x1024x256.size h)

/-- What eight experts' gated products give, side by side, each scaled by its weight. -/
def hiddenOf (xs : Vec F S512x512 .i32) (rec : Vec F S512x128 .f32) (g0 u0 g1 u1 g2 u2 g3 u3 g4 u4 g5 u5 g6 u6 g7 u7 : Vec F S1x1024x256 .bf16) : FVec F S512x2048 .bf16 :=
  k0_pay14 (k0_pay2 xs) (k0_pay6 rec) (k0_pay7 rec) (k0_pay8 rec) (k0_pay9 xs rec g0 u0) (k0_pay10 xs rec g1 u1)
    (k0_pay11 (k0_pay2 xs) (k0_pay3 rec) g2 u2) (k0_pay12 (k0_pay2 xs) (k0_pay4 rec) g3 u3) (k0_pay13 (k0_pay2 xs) (k0_pay5 rec) g4 u4)
    g5 u5 g6 u6 g7 u7

/-- The same, of a group's experts. -/
def hiddenBlock (xs : Vec F S512x512 .i32) (rec : Vec F S512x128 .f32) (wg wu : Vec F S8x1024x256 .bf16) : FVec F S512x2048 .bf16 :=
  hiddenOf xs rec
    (expert 0 inb_S8x1024x256_S1x1024x256_0_0_0 wg) (expert 0 inb_S8x1024x256_S1x1024x256_0_0_0 wu)
    (expert 1 inb_S8x1024x256_S1x1024x256_1_0_0 wg) (expert 1 inb_S8x1024x256_S1x1024x256_1_0_0 wu)
    (expert 2 inb_S8x1024x256_S1x1024x256_2_0_0 wg) (expert 2 inb_S8x1024x256_S1x1024x256_2_0_0 wu)
    (expert 3 inb_S8x1024x256_S1x1024x256_3_0_0 wg) (expert 3 inb_S8x1024x256_S1x1024x256_3_0_0 wu)
    (expert 4 inb_S8x1024x256_S1x1024x256_4_0_0 wg) (expert 4 inb_S8x1024x256_S1x1024x256_4_0_0 wu)
    (expert 5 inb_S8x1024x256_S1x1024x256_5_0_0 wg) (expert 5 inb_S8x1024x256_S1x1024x256_5_0_0 wu)
    (expert 6 inb_S8x1024x256_S1x1024x256_6_0_0 wg) (expert 6 inb_S8x1024x256_S1x1024x256_6_0_0 wu)
    (expert 7 inb_S8x1024x256_S1x1024x256_7_0_0 wg) (expert 7 inb_S8x1024x256_S1x1024x256_7_0_0 wu)

/-- What the first call's body leaves in its output block. -/
def expertsBlock (xs : Vec F S512x512 .i32) (rec : Vec F S512x128 .f32) (wg wu : Vec F S8x1024x256 .bf16) (wd : Vec F S1x2048x1024 .bf16) :
    Vec F S512x512 .i32 :=
  k0_pay1 (hiddenBlock xs rec wg wu) wd

/-- The table of groups, as the memref the body is handed. -/
abbrev tgM : Memref sig .tc .smem S36 .i32 := Memref.whole main_arg1
abbrev htgM : tgM.IsWhole := Memref.isWhole_whole _

/-- What is loaded of a block held is that block's part. -/
theorem part_of {S : Shape} {e : EltTy} {M : Memref sig .tc .vmem S e} (hM : M.IsWhole) (x : Vec F S e) (r : Rect S) :
    View.readAt (Elt F) M.view r.toLoadRect (hM.unread x) = View.ld x r := by
  rw [View.readAt_eq_ld, hM.read_unread]

set_option maxHeartbeats 2000000 in
/-- The first body's triple. -/
theorem experts_run (c : Dev nD) (i : grid0.Coords)
    (arg2 : Memref sig .tc .vmem S512x512 .i32) (harg2 : arg2.IsWhole) (arg3 : Memref sig .tc .vmem S512x128 .f32) (harg3 : arg3.IsWhole)
    (arg4 : Memref sig .tc .vmem S8x1024x256 .bf16) (harg4 : arg4.IsWhole) (arg5 : Memref sig .tc .vmem S8x1024x256 .bf16) (harg5 : arg5.IsWhole)
    (arg6 : Memref sig .tc .vmem S1x2048x1024 .bf16) (harg6 : arg6.IsWhole) (arg7 : Memref sig .tc .vmem S512x512 .i32) (harg7 : arg7.IsWhole)
    (x0 : Vec F S512x512 .i32) (x1 : Vec F S512x128 .f32) (x2 x3 : Vec F S8x1024x256 .bf16) (x4 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (expertsBlock x0 x1 x2 x3 x4)) -∗ K ⟨⟩))
      ⊢ wp frame (wpE (defs₀ (F := F)) Variants.none c none) Set.univ
          (cc0_moe_sorted i tgM htgM arg2 harg2 arg3 harg3 arg4 harg4 arg5 harg5 arg6 harg6 arg7 harg7) K := by
  simp only [cc0_moe_sorted_eq_skeleton]; unfold cc0_moe_sorted_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2
  obtain rfl := harg5.eq_unread hf3; obtain rfl := harg6.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  rw [View.read_writes_full]
  have w0 : View.readAt (Elt F) arg2.view (Rect.unit (s := S512x512) ![0, 0] S512x512.size inb_S512x512_S512x512_0_0).toLoadRect (harg2.unread x0) = x0 :=
    (part_of harg2 x0 _).trans (View.ld_unit_zero zero2 _ _)
  have w1 : View.readAt (Elt F) arg3.view (Rect.unit (s := S512x128) ![0, 0] S512x128.size inb_S512x128_S512x128_0_0).toLoadRect (harg3.unread x1) = x1 :=
    (part_of harg3 x1 _).trans (View.ld_unit_zero zero2 _ _)
  have w4 : View.readAt (Elt F) arg6.view (Rect.unit (s := S1x2048x1024) ![0, 0, 0] S1x2048x1024.size inb_S1x2048x1024_S1x2048x1024_0_0_0).toLoadRect (harg6.unread x4) = x4 :=
    (part_of harg6 x4 _).trans (View.ld_unit_zero zero3 _ _)
  have wh : ∀ v0 v5, v0 = x0 → v5 = x1 → hiddenOf v0 v5
      (View.readAt (Elt F) arg4.view (Rect.unit (s := S8x1024x256) ![0, 0, 0] S1x1024x256.size inb_S8x1024x256_S1x1024x256_0_0_0).toLoadRect (harg4.unread x2))
      (View.readAt (Elt F) arg5.view (Rect.unit (s := S8x1024x256) ![0, 0, 0] S1x1024x256.size inb_S8x1024x256_S1x1024x256_0_0_0).toLoadRect (harg5.unread x3))
      (View.readAt (Elt F) arg4.view (Rect.unit (s := S8x1024x256) ![1, 0, 0] S1x1024x256.size inb_S8x1024x256_S1x1024x256_1_0_0).toLoadRect (harg4.unread x2))
      (View.readAt (Elt F) arg5.view (Rect.unit (s := S8x1024x256) ![1, 0, 0] S1x1024x256.size inb_S8x1024x256_S1x1024x256_1_0_0).toLoadRect (harg5.unread x3))
      (View.readAt (Elt F) arg4.view (Rect.unit (s := S8x1024x256) ![2, 0, 0] S1x1024x256.size inb_S8x1024x256_S1x1024x256_2_0_0).toLoadRect (harg4.unread x2))
      (View.readAt (Elt F) arg5.view (Rect.unit (s := S8x1024x256) ![2, 0, 0] S1x1024x256.size inb_S8x1024x256_S1x1024x256_2_0_0).toLoadRect (harg5.unread x3))
      (View.readAt (Elt F) arg4.view (Rect.unit (s := S8x1024x256) ![3, 0, 0] S1x1024x256.size inb_S8x1024x256_S1x1024x256_3_0_0).toLoadRect (harg4.unread x2))
      (View.readAt (Elt F) arg5.view (Rect.unit (s := S8x1024x256) ![3, 0, 0] S1x1024x256.size inb_S8x1024x256_S1x1024x256_3_0_0).toLoadRect (harg5.unread x3))
      (View.readAt (Elt F) arg4.view (Rect.unit (s := S8x1024x256) ![4, 0, 0] S1x1024x256.size inb_S8x1024x256_S1x1024x256_4_0_0).toLoadRect (harg4.unread x2))
      (View.readAt (Elt F) arg5.view (Rect.unit (s := S8x1024x256) ![4, 0, 0] S1x1024x256.size inb_S8x1024x256_S1x1024x256_4_0_0).toLoadRect (harg5.unread x3))
      (View.readAt (Elt F) arg4.view (Rect.unit (s := S8x1024x256) ![5, 0, 0] S1x1024x256.size inb_S8x1024x256_S1x1024x256_5_0_0).toLoadRect (harg4.unread x2))
      (View.readAt (Elt F) arg5.view (Rect.unit (s := S8x1024x256) ![5, 0, 0] S1x1024x256.size inb_S8x1024x256_S1x1024x256_5_0_0).toLoadRect (harg5.unread x3))
      (View.readAt (Elt F) arg4.view (Rect.unit (s := S8x1024x256) ![6, 0, 0] S1x1024x256.size inb_S8x1024x256_S1x1024x256_6_0_0).toLoadRect (harg4.unread x2))
      (View.readAt (Elt F) arg5.view (Rect.unit (s := S8x1024x256) ![6, 0, 0] S1x1024x256.size inb_S8x1024x256_S1x1024x256_6_0_0).toLoadRect (harg5.unread x3))
      (View.readAt (Elt F) arg4.view (Rect.unit (s := S8x1024x256) ![7, 0, 0] S1x1024x256.size inb_S8x1024x256_S1x1024x256_7_0_0).toLoadRect (harg4.unread x2))
      (View.readAt (Elt F) arg5.view (Rect.unit (s := S8x1024x256) ![7, 0, 0] S1x1024x256.size inb_S8x1024x256_S1x1024x256_7_0_0).toLoadRect (harg5.unread x3)) = hiddenBlock x0 x1 x2 x3 := by
    rintro _ _ rfl rfl
    unfold hiddenBlock
    simp only [part_of harg4, part_of harg5]
  exact congrArg₂ k0_pay1 (wh _ _ w0 w1) w4

/-! ## The combine call -/

/-- What the second call's body leaves in its output block: the tokens' rows, the gathered experts' rows added, normalised and scaled. -/
def outBlock (tb : Vec F S16384 .i32) (o : Vec F S18432x512 .i32) (x1 : Vec F S1024x1024 .f32) (g : Vec F S1x1024 .f32)
    (i : grid1.Coords) : Vec F S1024x1024 .f32 :=
  k1_pay1 x1 (gathered tb o i) g

/-- What is read back of the one store that covers the output block. -/
theorem out_eq (c : Dev nD) (arg3 : Memref sig .tc .vmem S1024x1024 .f32) (harg3 : arg3.IsWhole)
    (arg4 : Memref sig .tc .vmem S1x1024 .f32) (harg4 : arg4.IsWhole) (arg5 : Memref sig .tc .vmem S1024x1024 .f32)
    (x1 : Vec F S1024x1024 .f32) (x2 : Vec F S1x1024 .f32) (s : ScBuf (F := F) c scM) (f : arg5.view.ty.Contents (Elt F)) :
    View.read (Elt F) arg5.view (arg5.view.writes (Elt F) f
      [⟨Rect.unit ![0, 0] S1024x1024.size inb_S1024x1024_S1024x1024_0_0,
        k1_pay1 (View.readAt (Elt F) arg3.view (Rect.unit ![0, 0] S1024x1024.size inb_S1024x1024_S1024x1024_0_0).toLoadRect (harg3.unread x1))
          (View.readAt (Elt F) scM.view (Rect.unit ![0, 0] S1024x512.size inb_S1024x512_S1024x512_0_0).toLoadRect s)
          (View.readAt (Elt F) arg4.view (Rect.unit ![0, 0] S1x1024.size inb_S1x1024_S1x1024_0_0).toLoadRect (harg4.unread x2))⟩])
      = k1_pay1 x1 s x2 := by
  rw [View.read_writes_full, part_of harg3, part_of harg4, View.ld_unit_zero zero2, View.ld_unit_zero zero2]
  have e3 : View.readAt (Elt F) scM.view (Rect.unit ![0, 0] S1024x512.size inb_S1024x512_S1024x512_0_0).toLoadRect s = s := by
    rw [View.readAt_eq_ld, View.ld_unit_zero zero2]; rfl
  rw [e3]

set_option maxHeartbeats 1000000 in
/-- The second body's triple. -/
theorem combine_run (c : Dev nD) (i : grid1.Coords)
    (arg2 : Memref sig .tc .vmem S18432x512 .i32) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S1024x1024 .f32) (harg5 : arg5.IsWhole)
    (x0 : Vec F S18432x512 .i32) (x1 : Vec F S1024x1024 .f32) (x2 : Vec F S1x1024 .f32)
    (tb : TbBuf (F := F) c tbM) (hpos : ∀ j : S16384.Idx, (tb j : BitVec 32).toNat < 18432) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ tbPt c tbM tb ∗ (∃ f : ScBuf (F := F) c scM, scPt c scM f)
        ∗ (iprop(owns (c : Thread nD τ) arg2 fullShare x0 ∗ owns (c : Thread nD τ) arg3 fullShare x1 ∗ owns (c : Thread nD τ) arg4 fullShare x2
            ∗ owns (c : Thread nD τ) arg5 fullShare (outBlock tb x0 x1 x2 i) ∗ tbPt c tbM tb ∗ (∃ f : ScBuf (F := F) c scM, scPt c scM f)) -∗ K ⟨⟩))
      ⊢ wp frame (wpE (defs₀ (F := F)) Variants.none c none) Set.univ
          (cc1_moe_gather_norm i tbM htbM arg2 harg2 arg3 harg3 arg4 harg4 arg5 harg5 scM hscM) K := by
  rw [cc1_moe_gather_norm_eq_skeleton]; unfold cc1_moe_gather_norm_skel
  unfold owns
  iintro ⟨⟨%f0, %hf0, H0⟩, ⟨%f1, %hf1, H1⟩, ⟨%f2, %hf2, H2⟩, ⟨%d3, %f3, -, H3⟩, HT, ⟨%fs, HS⟩, Hk⟩
  obtain rfl := harg2.eq_unread hf0; obtain rfl := harg3.eq_unread hf1; obtain rfl := harg4.eq_unread hf2
  letI := gatherLoop c i arg2 harg2 arg3 harg3 arg4 harg4 arg5 harg5 (BitVec.ofNat 32 (i 0).val) tb hpos x0
  sl_exec
  sl_step
  have hS : fL0 = gathered tb x0 i := funext fun j => hL3 j (by
    have hj : (j 0).val < 1024 := (j 0).isLt
    have ht : Scf.trips k1_t1_loop.lb k1_t1_loop.ub k1_t1_loop.st = 128 := by decide
    omega)
  subst hS
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    exact out_eq c arg3 harg3 arg4 harg4 arg5 x1 x2 (gathered tb x0 i) f3
  isplitl [HT]; · iexact HT
  iexists _; iexact HS

end Cert.ExpertsBits

end
-- ==== Proof.ExpertsBits.Tables.lean ====
/- The first call's table: while its entries are groups, the blocks it names lie inside their arrays. -/
module

public import proofs.«01_k».proof.Proof.ExpertsBits.Run

@[expose] public section

noncomputable section

namespace Cert.ExpertsBits

open Cert.Kernel2 Cert.Kernel2.Gen
open Idealize.ShloMosaic Idealize.ShloMosaic.TcCoe

variable {F : FTy → Type} [BitOps F]

/-- Eight experts' projections, of the group `v` names. -/
theorem experts_block (v : ℕ) (hv : v < 4) (f : Fin 3 → ℕ) (hf : f = ![v, 0, 0]) :
    ∃ h : (∀ a, (f a + 1) * S8x1024x256.size a ≤ S32x1024x256.size a),
      EltTy.bits .bf16 = 32 ∨ (Rect.block (s := S32x1024x256) S8x1024x256.size f h).WholeWords (EltTy.packing .bf16) := by
  subst hf
  refine ⟨fun a => ?_, .inr (.inr ⟨by decide, rfl, rfl, rfl⟩)⟩
  match a with
  | ⟨0, _⟩ => show (v + 1) * 8 ≤ 32; omega
  | ⟨1, _⟩ => show (0 + 1) * 1024 ≤ 1024; omega
  | ⟨2, _⟩ => show (0 + 1) * 256 ≤ 256; omega

/-- A group's stacked last projections. -/
theorem stacked_block (v : ℕ) (hv : v < 4) (f : Fin 3 → ℕ) (hf : f = ![v, 0, 0]) :
    ∃ h : (∀ a, (f a + 1) * S1x2048x1024.size a ≤ S4x2048x1024.size a),
      EltTy.bits .bf16 = 32 ∨ (Rect.block (s := S4x2048x1024) S1x2048x1024.size f h).WholeWords (EltTy.packing .bf16) := by
  subst hf
  refine ⟨fun a => ?_, .inr (.inr ⟨by decide, rfl, rfl, rfl⟩)⟩
  match a with
  | ⟨0, _⟩ => show (v + 1) * 1 ≤ 4; omega
  | ⟨1, _⟩ => show (0 + 1) * 2048 ≤ 2048; omega
  | ⟨2, _⟩ => show (0 + 1) * 1024 ≤ 1024; omega

variable (m : (ℓ : Loc nD τ sig) → Buf (Elt F) ℓ)

theorem groups_eq : tbl0 m 0 = m (((0 : Dev nD) : Thread nD τ).loc main_arg1) := (V1_of m 0 main_arg1 (by decide)).symm.trans (V1_of m 0 main_arg1 (by decide))
theorem positions_eq : tbl1 m 0 = m (((0 : Dev nD) : Thread nD τ).loc main_arg0) := V1_of m 0 main_arg0 (by decide)

/-- A table of groups is one the first call runs at. -/
theorem ok_of (h : ∀ j : S36.Idx, (tbl0 m 0 j : BitVec 32).toNat < 4) : Ok m :=
  ⟨fun i => experts_block _ (h _) _ rfl, fun i => experts_block _ (h _) _ rfl, fun i => stacked_block _ (h _) _ rfl⟩

end Cert.ExpertsBits

end
-- ==== Proof.lean ====
/- The proof of the certificate's claim. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_pos_in_range
public import proofs.«01_k».proof.Proof.Gather.Pre
public import proofs.«01_k».proof.Proof.Gather.Same
public import proofs.«01_k».proof.Proof.Gather.Value
public import proofs.«01_k».proof.Proof.Gen.Kernel2
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Kernel3Ideal.Frame
public import proofs.«01_k».proof.Proof.Gen.Kernel3.Frame
public import proofs.«01_k».proof.Proof.Gen.Reference3Ideal.Run
public import proofs.«01_k».proof.Proof.Gen.Pre_weights_in_range
public import proofs.«01_k».proof.Proof.Gen.Reference2Ideal
public import proofs.«01_k».proof.Proof.Gen.Reference2Ideal.Run
public import proofs.«01_k».proof.Proof.Gen.Kernel4
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Launch
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_slots_in_range
public import proofs.«01_k».proof.Proof.Groups.Pre
public import proofs.«01_k».proof.Proof.Groups.Value
public import proofs.«01_k».proof.Proof.Mixer.Value
public import proofs.«01_k».proof.Proof.Mixer.RefRows
public import proofs.«01_k».proof.Proof.Experts.Pre
public import proofs.«01_k».proof.Proof.Experts.Tables
public import proofs.«01_k».proof.Proof.Experts.Equal
public import proofs.«01_k».proof.Proof.ExpertsBits.Tables
public import Idealize.ShloMosaic.Lib.Bf16Pair
public import Idealize.ShloMosaic.Lib.Bf16PairInverse

@[expose] public section

noncomputable section

namespace Cert.Proof

open Idealize.ShloMosaic Idealize.ShloMosaic.TcCoe Idealize.SL.Sem
open Cert.Gather

/-- The claims' precondition puts every position in range, at any floats. -/
theorem inRange {F : FTy → Type} [FloatOps F] (m : (ℓ : Loc Cert.KernelIdeal.nD Cert.KernelIdeal.τ Cert.KernelIdeal.sig) → Buf (Elt F) ℓ)
    (o x1 g) (h : Cert.Pre_pos_in_range.fn (F := F) (m (((0 : Dev Cert.KernelIdeal.nD) : Thread Cert.KernelIdeal.nD Cert.KernelIdeal.τ).loc Cert.KernelIdeal.main_arg0)) o x1 g
      = fun _ => 1#1) : InRange m := fun j => by
  have e : tbl m 0 = m (((0 : Dev Cert.KernelIdeal.nD) : Thread Cert.KernelIdeal.nD Cert.KernelIdeal.τ).loc Cert.KernelIdeal.main_arg0) := V_of_ne m 0 _ (by decide)
  rw [e]
  exact pos_of_fn _ o x1 g h j

/-- The combine call's frame, at bit patterns: its text is the idealized call's. -/
theorem frame_kernel : Cert.quiescent_Kernel := fun m ρ hp => by
  have hpos : InRange (F := Bits) m := fun j => pos_of_fn (F := Bits) _ _ _ _ (hp 0) j
  rw [defs_same]
  exact (θ_run Cert.KernelIdeal.defs _ _).mono (fun _ h => h.1) (run_result (F := Bits) m ρ hpos)

/-- The combine call's frame, over the extended reals. -/
theorem frame_ideal : Cert.quiescent_KernelIdeal := fun m ρ hp =>
  (θ_run Cert.KernelIdeal.defs _ _).mono (fun _ h => h.1) (run_result (F := Ideal) m ρ (inRange m _ _ _ (hp 0)))

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

/-- The combine call and the reference compute the same rows. -/
theorem same_rows : Cert.algebraic_KernelIdeal_ReferenceIdeal := fun m ρ m' ρ' hp hm => by
  have hpos := inRange m _ _ _ (hp 0)
  refine ⟨fun c => result m c, (θ_run Cert.KernelIdeal.defs _ _).mono (fun _ h c => ⟨(h.2 c).trans (final m hpos c), h.1.1 c⟩) (run_result (F := Ideal) m ρ hpos),
    (θ_run Cert.ReferenceIdeal.defs _ _).mono (fun _ h c => ⟨(h c).1.trans ?_, (h c).2⟩) (Cert.ReferenceIdeal.Value.run m' ρ')⟩
  rw [res_eq]
  unfold result
  rw [(hm c).1, (hm c).2.1, (hm c).2.2.1, (hm c).2.2.2]

/-! ## The experts and their combination -/

/-- The two calls' frame, at bit patterns. -/
theorem frame_kernel2 : Cert.quiescent_Kernel2 := fun m ρ hp => by
  have h := Cert.Experts.Pre.parts (F := Bits) _ _ _ _ _ _ _ _ _ (hp 0)
  have hO : Cert.ExpertsBits.Ok (F := Bits) m := Cert.ExpertsBits.ok_of m fun j => by rw [Cert.ExpertsBits.groups_eq]; exact h.2.1 j
  have hpos : Cert.ExpertsBits.InRange (F := Bits) m := fun j => by rw [Cert.ExpertsBits.positions_eq]; exact h.1 j
  exact (θ_run Cert.Kernel2.defs _ _).mono (fun _ h => h.1) (Cert.ExpertsBits.run_result (F := Bits) m ρ hO hpos)

section Ideal2
variable (m : (ℓ : Loc Cert.Kernel2Ideal.nD Cert.Kernel2Ideal.τ Cert.Kernel2Ideal.sig) → Buf (Elt Ideal) ℓ)

/-- What the claims' precondition says of the arguments. -/
theorem in_range2 (hp : Cert.Pre_Kernel2Ideal m) : Cert.Experts.Ok m ∧ Cert.Experts.InRange m ∧ Cert.Experts.Groups m := by
  have h := Cert.Experts.Pre.parts (F := Ideal) _ _ _ _ _ _ _ _ _ (hp 0)
  have ht : ∀ j : Cert.Kernel2Ideal.S36.Idx, (Cert.Experts.tbl0 m 0 j : BitVec 32).toNat < 4 := fun j => by rw [Cert.Experts.groups_eq]; exact h.2.1 j
  exact ⟨Cert.Experts.ok_of m ht, fun j => by rw [Cert.Experts.positions_eq]; exact h.1 j, fun t => ht _⟩

/-- The two calls' frame, over the extended reals. -/
theorem frame_ideal2 : Cert.quiescent_Kernel2Ideal := fun m ρ hp =>
  (θ_run Cert.Kernel2Ideal.defs _ _).mono (fun _ h => h.1) (Cert.Experts.run_result (F := Ideal) m ρ (in_range2 m hp).1 (in_range2 m hp).2.1)

end Ideal2

/-- The second reference's frame. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩) (Cert.Reference2Ideal.Value.run m ρ)

/-- The packed words, read as pairs of halves, at each place they are made or taken apart. -/
theorem pairs : Cert.preserves_Kernel2_Kernel2Ideal :=
  ⟨IdealRules.bf16_pair.bufferStatement _ _, IdealRules.bf16_pair.bufferStatement _ _, IdealRules.bf16_pair.packStatement _, IdealRules.bf16_pair.statement _ _,
    IdealRules.bf16_pair.bufferStatement _ _, IdealRules.bf16_pair.statement _ _, IdealRules.bf16_pair.statement _ _, IdealRules.bf16_pair.statement _ _⟩

/-- The two calls and the second reference compute the same rows. -/
theorem same_rows2 : Cert.algebraic_Kernel2Ideal_Reference2Ideal := fun m ρ m' ρ' hp hm => by
  obtain ⟨hO, hpos, hG⟩ := in_range2 m hp
  have hw := fun c => Cert.Experts.Pre.weights_of _ (Cert.Experts.Pre.parts (F := Ideal) _ _ _ _ _ _ _ _ _ (hp c)).2.2
  refine ⟨fun c => Cert.Experts.outA m c, (θ_run Cert.Kernel2Ideal.defs _ _).mono (fun _ h c => ⟨(h.2 c).trans (Cert.Experts.final m hO hG c), h.1.1 c⟩)
      (Cert.Experts.run_result (F := Ideal) m ρ hO hpos),
    (θ_run Cert.Reference2Ideal.defs _ _).mono (fun _ h c => ⟨(h c).1.trans ?_, (h c).2⟩) (Cert.Reference2Ideal.Value.run m' ρ')⟩
  refine Eq.trans ?_ (Cert.Experts.out_eq_ref m hpos hG c (fun s e => (hw c s e).1) (fun s e => (hw c s e).2)).symm
  rw [Cert.Experts.Ref.res_eq, (hm c).1, (hm c).2.1, (hm c).2.2.1, (hm c).2.2.2.1, (hm c).2.2.2.2.1, (hm c).2.2.2.2.2.1, (hm c).2.2.2.2.2.2.1, (hm c).2.2.2.2.2.2.2.1,
    (hm c).2.2.2.2.2.2.2.2]

/-! ## The second batch's experts -/

/-- The third reference's frame. -/
theorem frame_reference3 : Cert.quiescent_Reference3Ideal := fun m ρ _ =>
  (θ_run Cert.Reference3Ideal.defs _ _).mono (fun r h => ⟨fun c => (h c).2, Idealize.ShloMosaic.sem_eq_zero_of_no_sems (by decide) r.2⟩) (Cert.Reference3Ideal.Value.run m ρ)

/-- The second batch's call and the third reference compute the same rows. -/
theorem same_rows3 : Cert.algebraic_Kernel3Ideal_Reference3Ideal_pre_weights_in_range := fun m ρ m' ρ' hp hm => by
  have hw := fun c => Cert.Groups.Pre.weights_of _ _ _ _ _ _ _ (hp c)
  refine ⟨fun c => Cert.Groups.outA m c, Cert.Groups.run_result m ρ,
    (θ_run Cert.Reference3Ideal.defs _ _).mono (fun _ h c => ⟨(h c).1.trans ?_, (h c).2⟩) (Cert.Reference3Ideal.Value.run m' ρ')⟩
  refine Eq.trans ?_ (Cert.Groups.out_eq_ref m c (fun n q => (hw c n q).1) (fun n q => (hw c n q).2)).symm
  rw [Cert.Groups.Ref.res_eq, (hm c).1, (hm c).2.1, (hm c).2.2.1, (hm c).2.2.2.1, (hm c).2.2.2.2.1, (hm c).2.2.2.2.2.1, (hm c).2.2.2.2.2.2]

/-! ## The second batch's mixer -/

/-- The fourth reference's frame. -/
theorem frame_reference4 : Cert.quiescent_Reference4Ideal := fun m ρ _ =>
  (θ_run Cert.Reference4Ideal.defs _ _).mono (fun r h => ⟨fun c => (h c).2.2.2, Idealize.ShloMosaic.sem_eq_zero_of_no_sems (by decide) r.2⟩) (Cert.Mixer.Ref.run m ρ)

/-- The second batch's mixer and the fourth reference hand back the same last projections and the same newest keys and values. -/
theorem same_rows4 : Cert.algebraic_Kernel4Ideal_Reference4Ideal := fun m ρ m' ρ' _ hm => by
  refine ⟨fun c => Cert.Mixer.convR m c, fun c => Cert.Mixer.Ref.newest (Cert.Mixer.kA m c) (Cert.Mixer.keysR m c),
    fun c => Cert.Mixer.Ref.newest (Cert.Mixer.vA m c) (Cert.Mixer.valuesR m c), Cert.Mixer.run_result m ρ,
    (θ_run Cert.Reference4Ideal.defs _ _).mono (fun _ h c => ⟨(h c).1.trans ?_, (h c).2.1.trans ?_, (h c).2.2.1.trans ?_, (h c).2.2.2⟩) (Cert.Mixer.Ref.run m' ρ')⟩
  · rw [(hm c).1, (hm c).2.1, (hm c).2.2.2.2.2.2.1, (hm c).2.2.2.2.2.2.2.1]
  · rw [(hm c).1, (hm c).2.2.2.1, (hm c).2.2.2.2.2.2.1, (hm c).2.2.2.2.2.2.2.1]
  · rw [(hm c).1, (hm c).2.2.2.2.1, (hm c).2.2.2.2.2.2.1, (hm c).2.2.2.2.2.2.2.1]

end Cert.Proof

theorem Cert.Proof.claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_pos_in_range.Gen.facts, Cert.Pre_slots_in_range.Gen.facts, Cert.Pre_weights_in_range.Gen.facts,
    Cert.Proof.frame_kernel, Cert.Proof.frame_ideal, Cert.Proof.frame_reference, Cert.Proof.frame_kernel2, Cert.Proof.frame_ideal2, Cert.Proof.frame_reference2,
    fun m ρ _ => Cert.Kernel3.Gen.frame m ρ, fun m ρ _ => Cert.Kernel3Ideal.Gen.frame m ρ, fun m ρ _ => Cert.Kernel3Ideal.Gen.frame m ρ,
    Cert.Proof.frame_reference3, fun m ρ _ => Cert.Proof.frame_reference3 m ρ trivial,
    fun m ρ _ => Cert.Kernel4.Gen.frame m ρ, fun m ρ _ => Cert.Kernel4Ideal.Gen.frame m ρ, Cert.Proof.frame_reference4,
    trivial, Cert.Proof.same_rows, Cert.Proof.pairs, Cert.Proof.same_rows2, trivial, Cert.Proof.same_rows3, trivial, Cert.Proof.same_rows4⟩

end
